-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scores_finite_KernelIdeal [hPre_scores_finite_KernelIdeal : Cert.Pre_scores_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_scores_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scores_finite_ReferenceIdeal [hPre_scores_finite_ReferenceIdeal : Cert.Pre_scores_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scores_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_scores_finite_KernelIdeal [hKernelIdeal : Cert.KernelIdeal.Facts] [hPre_scores_finite_KernelIdeal : Cert.Pre_scores_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scores_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_scores_finite_ReferenceIdeal [hReferenceIdeal : Cert.ReferenceIdeal.Facts] [hPre_scores_finite_ReferenceIdeal : Cert.Pre_scores_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scores_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_scores_finite_KernelIdeal [hKernelIdeal : Cert.KernelIdeal.Facts] [hReferenceIdeal : Cert.ReferenceIdeal.Facts] [hPre_scores_finite_KernelIdeal : Cert.Pre_scores_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scores_finite_KernelIdeal m →
    (∀ c : Dev Cert.KernelIdeal.nD,
      m ((c.tc : Thread Cert.KernelIdeal.nD Cert.KernelIdeal.τ).loc Cert.KernelIdeal.main_arg0) = Layout.blockN ⟨4, ![2, 512, 8, 64]⟩ ⟨4, ![2, 2048, 8, 64]⟩ (Layout.meshBlock [2, 4, 4] ![[], [1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨4, ![2, 512, 8, 64]⟩ ⟨4, ![2, 2048, 8, 64]⟩ (Layout.meshBlock [2, 4, 4] ![[], [1], [], []] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨4, ![2, 512, 8, 64]⟩ ⟨4, ![2, 2048, 8, 64]⟩ (Layout.meshBlock [2, 4, 4] ![[], [1], [], []] c) (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨4, ![2, 512, 8, 64]⟩ ⟨4, ![2, 2048, 8, 64]⟩ (Layout.meshBlock [2, 4, 4] ![[], [1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_scores_finite_KernelIdeal : Cert.Pre_scores_finite_KernelIdeal.Facts) (hPre_scores_finite_ReferenceIdeal : Cert.Pre_scores_finite_ReferenceIdeal.Facts),
    quiescent_Kernel (hKernel := hKernel)
    ∧ quiescent_KernelIdeal (hKernelIdeal := hKernelIdeal)
    ∧ quiescent_KernelIdeal_pre_scores_finite_KernelIdeal (hKernelIdeal := hKernelIdeal) (hPre_scores_finite_KernelIdeal := hPre_scores_finite_KernelIdeal)
    ∧ quiescent_ReferenceIdeal (hReferenceIdeal := hReferenceIdeal)
    ∧ quiescent_ReferenceIdeal_pre_scores_finite_ReferenceIdeal (hReferenceIdeal := hReferenceIdeal) (hPre_scores_finite_ReferenceIdeal := hPre_scores_finite_ReferenceIdeal)
    ∧ preserves_Kernel_KernelIdeal
    ∧ algebraic_KernelIdeal_ReferenceIdeal_pre_scores_finite_KernelIdeal (hKernelIdeal := hKernelIdeal) (hReferenceIdeal := hReferenceIdeal) (hPre_scores_finite_KernelIdeal := hPre_scores_finite_KernelIdeal)
-- ==== Pre_scores_finite_KernelIdeal.lean ====
abbrev S2x512x8x64 : Shape := ⟨4, ![2, 512, 8, 64]⟩
abbrev S_ : Shape := ⟨0, ![]⟩

class Facts : Prop where
  bcast_S_S2x512x8x64 : S_.BroadcastsInDim S2x512x8x64 (![] : Fin 0 → Fin S2x512x8x64.rank)
  reducesTo_S2x512x8x64_S_d0_1_2_3 : S2x512x8x64.ReducesTo [0, 1, 2, 3] S_
  h_S_ : 0 < S_.numel

variable [Facts]

def fn {F : FTy → Type} [FloatOps F] (main_arg0 : FVec F S2x512x8x64 .f32) (main_arg1 : FVec F S2x512x8x64 .f32) (main_arg2 : FVec F S2x512x8x64 .f32) : IVec S_ 1 :=
  let main_v0 : FVec F S2x512x8x64 .f32 := Host.absf main_arg0
  let main_cst : FVec F S_ .f32 := constant S_ .f32 0x7F800000#32
  let main_v1 : FVec F S2x512x8x64 .f32 := broadcastInDim S2x512x8x64 ![] bcast_S_S2x512x8x64 main_cst
  let main_v2 : IVec S2x512x8x64 1 := cmpf .olt main_v0 main_v1
  let main_c : IVec S_ 1 := constantI S_ 1 1#1
  let main_v3 : IVec S_ 1 := (fun x v => Host.reduce IntOp.andi x v reducesTo_S2x512x8x64_S_d0_1_2_3 h_S_) main_v2 main_c
  let main_v4 : FVec F S2x512x8x64 .f32 := Host.absf main_arg1
  let main_cst_0 : FVec F S_ .f32 := constant S_ .f32 0x7F800000#32
  let main_v5 : FVec F S2x512x8x64 .f32 := broadcastInDim S2x512x8x64 ![] bcast_S_S2x512x8x64 main_cst_0
  let main_v6 : IVec S2x512x8x64 1 := cmpf .olt main_v4 main_v5
  let main_c_1 : IVec S_ 1 := constantI S_ 1 1#1
  let main_v7 : IVec S_ 1 := (fun x v => Host.reduce IntOp.andi x v reducesTo_S2x512x8x64_S_d0_1_2_3 h_S_) main_v6 main_c_1
  let main_v8 : IVec S_ 1 := andi main_v3 main_v7
  main_v8
-- ==== Pre_scores_finite_ReferenceIdeal.lean ====
abbrev S2x2048x8x64 : Shape := ⟨4, ![2, 2048, 8, 64]⟩
abbrev S_ : Shape := ⟨0, ![]⟩

class Facts : Prop where
  bcast_S_S2x2048x8x64 : S_.BroadcastsInDim S2x2048x8x64 (![] : Fin 0 → Fin S2x2048x8x64.rank)
  reducesTo_S2x2048x8x64_S_d0_1_2_3 : S2x2048x8x64.ReducesTo [0, 1, 2, 3] S_
  h_S_ : 0 < S_.numel

variable [Facts]

def fn {F : FTy → Type} [FloatOps F] (main_arg0 : FVec F S2x2048x8x64 .f32) (main_arg1 : FVec F S2x2048x8x64 .f32) (main_arg2 : FVec F S2x2048x8x64 .f32) : IVec S_ 1 :=
  let main_v0 : FVec F S2x2048x8x64 .f32 := Host.absf main_arg0
  let main_cst : FVec F S_ .f32 := constant S_ .f32 0x7F800000#32
  let main_v1 : FVec F S2x2048x8x64 .f32 := broadcastInDim S2x2048x8x64 ![] bcast_S_S2x2048x8x64 main_cst
  let main_v2 : IVec S2x2048x8x64 1 := cmpf .olt main_v0 main_v1
  let main_c : IVec S_ 1 := constantI S_ 1 1#1
  let main_v3 : IVec S_ 1 := (fun x v => Host.reduce IntOp.andi x v reducesTo_S2x2048x8x64_S_d0_1_2_3 h_S_) main_v2 main_c
  let main_v4 : FVec F S2x2048x8x64 .f32 := Host.absf main_arg1
  let main_cst_0 : FVec F S_ .f32 := constant S_ .f32 0x7F800000#32
  let main_v5 : FVec F S2x2048x8x64 .f32 := broadcastInDim S2x2048x8x64 ![] bcast_S_S2x2048x8x64 main_cst_0
  let main_v6 : IVec S2x2048x8x64 1 := cmpf .olt main_v4 main_v5
  let main_c_1 : IVec S_ 1 := constantI S_ 1 1#1
  let main_v7 : IVec S_ 1 := (fun x v => Host.reduce IntOp.andi x v reducesTo_S2x2048x8x64_S_d0_1_2_3 h_S_) main_v6 main_c_1
  let main_v8 : IVec S_ 1 := andi main_v3 main_v7
  main_v8
-- ==== Kernel.lean ====
abbrev S2x512x8x64 : Shape := ⟨4, ![2, 512, 8, 64]⟩
abbrev S4x2x512x512 : Shape := ⟨4, ![4, 2, 512, 512]⟩
abbrev S512x512 : Shape := ⟨2, ![512, 512]⟩
abbrev S512x8 : Shape := ⟨2, ![512, 8]⟩
abbrev S3 : Shape := ⟨1, ![3]⟩
abbrev S2 : Shape := ⟨1, ![2]⟩
abbrev S1x512x1x64 : Shape := ⟨4, ![1, 512, 1, 64]⟩
abbrev S512x64 : Shape := ⟨2, ![512, 64]⟩
abbrev S1x1x512x64 : Shape := ⟨4, ![1, 1, 512, 64]⟩
abbrev S_ : Shape := ⟨0, ![]⟩
abbrev S1 : Shape := ⟨1, ![1]⟩
abbrev S1x2x512x512 : Shape := ⟨4, ![1, 2, 512, 512]⟩
abbrev S2x512x512 : Shape := ⟨3, ![2, 512, 512]⟩
abbrev S512 : Shape := ⟨1, ![512]⟩
abbrev S512x1 : Shape := ⟨2, ![512, 1]⟩
abbrev S512x256 : Shape := ⟨2, ![512, 256]⟩

abbrev nBuf : Space → Nat
  | .hbm => 4
  | .vmem => 9
  | .smem => 0
  | _ => 0

abbrev bufTy : (tb : Table) → Fin (tcTables nBuf tb) → BufTy
  | .hbm, ⟨0, _⟩ => ⟨S2x512x8x64, .f32⟩
  | .hbm, ⟨1, _⟩ => ⟨S2x512x8x64, .f32⟩
  | .hbm, ⟨2, _⟩ => ⟨S2x512x8x64, .f32⟩
  | .hbm, ⟨3, _⟩ => ⟨S2x512x8x64, .f32⟩
  | .local _ .vmem, ⟨0, _⟩ => ⟨S2x512x8x64, .f32⟩
  | .local _ .vmem, ⟨1, _⟩ => ⟨S2x512x8x64, .f32⟩
  | .local _ .vmem, ⟨2, _⟩ => ⟨S2x512x8x64, .f32⟩
  | .local _ .vmem, ⟨3, _⟩ => ⟨S2x512x8x64, .f32⟩
  | .local _ .vmem, ⟨4, _⟩ => ⟨S4x2x512x512, .bf16⟩
  | .local _ .vmem, ⟨5, _⟩ => ⟨S512x512, .f32⟩
  | .local _ .vmem, ⟨6, _⟩ => ⟨S512x8, .f32⟩
  | .local _ .vmem, ⟨7, _⟩ => ⟨S512x512, .bf16⟩
  | .local _ .vmem, ⟨8, _⟩ => ⟨S512x512, .bf16⟩
  | _, _ => ⟨S2x512x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  (ofTc nBuf bufTy 1 14 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 32
abbrev τ : Topo := Topo.v7x

variable {F : FTy → Type} [FloatOps F]

abbrev grid0 : Pipeline.Grid := .none

def k0_off1 (d0 : Dev nD) : Fin 4 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v10 : Index := Scalar.indexCast v2
  let c0 : Index := 0#32
  let c0_3 : Index := 0#32
  let c0_4 : Index := 0#32
  ![v10.toNat, 0, 0, 0]
def k0_off2 (d0 : Dev nD) : Fin 4 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v14 : Index := Scalar.indexCast v5
  let c0_5 : Index := 0#32
  let c0_6 : Index := 0#32
  let c0_7 : Index := 0#32
  ![v14.toNat, 0, 0, 0]
def k0_off3 (d0 : Dev nD) : Fin 4 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v22 : Index := Scalar.indexCast v5
  let c1 : Index := 1#32
  let c0_11 : Index := 0#32
  let c0_12 : Index := 0#32
  ![v22.toNat, 1, 0, 0]
def k0_off4 (d0 : Dev nD) : Fin 4 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v26 : Index := Scalar.indexCast v2
  let c0_13 : Index := 0#32
  let c1_14 : Index := 1#32
  let c0_15 : Index := 0#32
  ![v26.toNat, 0, 1, 0]
def k0_off5 (d0 : Dev nD) : Fin 4 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v30 : Index := Scalar.indexCast v5
  let c0_16 : Index := 0#32
  let c0_17 : Index := 0#32
  let c64 : Index := 64#32
  ![v30.toNat, 0, 0, 64]
def k0_off6 (d0 : Dev nD) : Fin 4 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v38 : Index := Scalar.indexCast v5
  let c1_21 : Index := 1#32
  let c0_22 : Index := 0#32
  let c64_23 : Index := 64#32
  ![v38.toNat, 1, 0, 64]
def k0_off7 (d0 : Dev nD) : Fin 4 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v42 : Index := Scalar.indexCast v2
  let c0_24 : Index := 0#32
  let c2 : Index := 2#32
  let c0_25 : Index := 0#32
  ![v42.toNat, 0, 2, 0]
def k0_off8 (d0 : Dev nD) : Fin 4 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v46 : Index := Scalar.indexCast v5
  let c0_26 : Index := 0#32
  let c0_27 : Index := 0#32
  let c128 : Index := 128#32
  ![v46.toNat, 0, 0, 128]
def k0_off9 (d0 : Dev nD) : Fin 4 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v54 : Index := Scalar.indexCast v5
  let c1_31 : Index := 1#32
  let c0_32 : Index := 0#32
  let c128_33 : Index := 128#32
  ![v54.toNat, 1, 0, 128]
def k0_off10 (d0 : Dev nD) : Fin 4 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v58 : Index := Scalar.indexCast v2
  let c0_34 : Index := 0#32
  let c3 : Index := 3#32
  let c0_35 : Index := 0#32
  ![v58.toNat, 0, 3, 0]
def k0_off11 (d0 : Dev nD) : Fin 4 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v62 : Index := Scalar.indexCast v5
  let c0_36 : Index := 0#32
  let c0_37 : Index := 0#32
  let c192 : Index := 192#32
  ![v62.toNat, 0, 0, 192]
def k0_off12 (d0 : Dev nD) : Fin 4 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v70 : Index := Scalar.indexCast v5
  let c1_41 : Index := 1#32
  let c0_42 : Index := 0#32
  let c192_43 : Index := 192#32
  ![v70.toNat, 1, 0, 192]
def k0_off13 (d0 : Dev nD) : Fin 4 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v74 : Index := Scalar.indexCast v2
  let c0_44 : Index := 0#32
  let c4 : Index := 4#32
  let c0_45 : Index := 0#32
  ![v74.toNat, 0, 4, 0]
def k0_off14 (d0 : Dev nD) : Fin 4 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v78 : Index := Scalar.indexCast v5
  let c0_46 : Index := 0#32
  let c0_47 : Index := 0#32
  let c256 : Index := 256#32
  ![v78.toNat, 0, 0, 256]
def k0_off15 (d0 : Dev nD) : Fin 4 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v86 : Index := Scalar.indexCast v5
  let c1_51 : Index := 1#32
  let c0_52 : Index := 0#32
  let c256_53 : Index := 256#32
  ![v86.toNat, 1, 0, 256]
def k0_off16 (d0 : Dev nD) : Fin 4 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v90 : Index := Scalar.indexCast v2
  let c0_54 : Index := 0#32
  let c5 : Index := 5#32
  let c0_55 : Index := 0#32
  ![v90.toNat, 0, 5, 0]
def k0_off17 (d0 : Dev nD) : Fin 4 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v94 : Index := Scalar.indexCast v5
  let c0_56 : Index := 0#32
  let c0_57 : Index := 0#32
  let c320 : Index := 320#32
  ![v94.toNat, 0, 0, 320]
def k0_off18 (d0 : Dev nD) : Fin 4 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v102 : Index := Scalar.indexCast v5
  let c1_61 : Index := 1#32
  let c0_62 : Index := 0#32
  let c320_63 : Index := 320#32
  ![v102.toNat, 1, 0, 320]
def k0_off19 (d0 : Dev nD) : Fin 4 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v106 : Index := Scalar.indexCast v2
  let c0_64 : Index := 0#32
  let c6 : Index := 6#32
  let c0_65 : Index := 0#32
  ![v106.toNat, 0, 6, 0]
def k0_off20 (d0 : Dev nD) : Fin 4 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v110 : Index := Scalar.indexCast v5
  let c0_66 : Index := 0#32
  let c0_67 : Index := 0#32
  let c384 : Index := 384#32
  ![v110.toNat, 0, 0, 384]
def k0_off21 (d0 : Dev nD) : Fin 4 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v118 : Index := Scalar.indexCast v5
  let c1_71 : Index := 1#32
  let c0_72 : Index := 0#32
  let c384_73 : Index := 384#32
  ![v118.toNat, 1, 0, 384]
def k0_off22 (d0 : Dev nD) : Fin 4 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v122 : Index := Scalar.indexCast v2
  let c0_74 : Index := 0#32
  let c7 : Index := 7#32
  let c0_75 : Index := 0#32
  ![v122.toNat, 0, 7, 0]
def k0_off23 (d0 : Dev nD) : Fin 4 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v126 : Index := Scalar.indexCast v5
  let c0_76 : Index := 0#32
  let c0_77 : Index := 0#32
  let c448 : Index := 448#32
  ![v126.toNat, 0, 0, 448]
def k0_off24 (d0 : Dev nD) : Fin 4 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v134 : Index := Scalar.indexCast v5
  let c1_81 : Index := 1#32
  let c0_82 : Index := 0#32
  let c448_83 : Index := 448#32
  ![v134.toNat, 1, 0, 448]
def k0_dev1 (d0 : Dev nD) : Nat :=
  let c0_i32_92 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_91 : BitVec 32 := 16#32
  let v150 : BitVec 32 := Scalar.muli v2 c16_i32_91
  let v151 : BitVec 32 := Scalar.addi c0_i32_92 v150
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32 : BitVec 32 := 0#32
  let v138 : BitVec 1 := Scalar.cmpi .eq v5 c0_i32
  let c1_i32_85 : BitVec 32 := 1#32
  let c1_i32_84 : BitVec 32 := 1#32
  let v139 : BitVec 32 := Scalar.subi v5 c1_i32_84
  let v140 : BitVec 32 := Scalar.select v138 c1_i32_85 v139
  let c4_i32_93 : BitVec 32 := 4#32
  let v152 : BitVec 32 := Scalar.muli v140 c4_i32_93
  let v153 : BitVec 32 := Scalar.addi v151 v152
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_94 : BitVec 32 := 1#32
  let v154 : BitVec 32 := Scalar.muli v8 c1_i32_94
  let v155 : BitVec 32 := Scalar.addi v153 v154
  v155.toNat
def k0_dev2 (d0 : Dev nD) : Nat :=
  let c0_i32_97 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_96 : BitVec 32 := 16#32
  let v156 : BitVec 32 := Scalar.muli v2 c16_i32_96
  let v157 : BitVec 32 := Scalar.addi c0_i32_97 v156
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_86 : BitVec 32 := 0#32
  let v141 : BitVec 1 := Scalar.cmpi .eq v5 c0_i32_86
  let c2_i32_89 : BitVec 32 := 2#32
  let c3_i32 : BitVec 32 := 3#32
  let v142 : BitVec 1 := Scalar.cmpi .eq v5 c3_i32
  let c1_i32_88 : BitVec 32 := 1#32
  let c1_i32_87 : BitVec 32 := 1#32
  let v143 : BitVec 32 := Scalar.addi v5 c1_i32_87
  let v144 : BitVec 32 := Scalar.select v142 c1_i32_88 v143
  let v145 : BitVec 32 := Scalar.select v141 c2_i32_89 v144
  let c4_i32_98 : BitVec 32 := 4#32
  let v158 : BitVec 32 := Scalar.muli v145 c4_i32_98
  let v159 : BitVec 32 := Scalar.addi v157 v158
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_99 : BitVec 32 := 1#32
  let v160 : BitVec 32 := Scalar.muli v8 c1_i32_99
  let v161 : BitVec 32 := Scalar.addi v159 v160
  v161.toNat
def k0_dev3 (d0 : Dev nD) : Nat :=
  let c0_i32_102 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_101 : BitVec 32 := 16#32
  let v162 : BitVec 32 := Scalar.muli v2 c16_i32_101
  let v163 : BitVec 32 := Scalar.addi c0_i32_102 v162
  let c6_i32 : BitVec 32 := 6#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v146 : BitVec 32 := Scalar.subi c6_i32 v5
  let c0_i32 : BitVec 32 := 0#32
  let v138 : BitVec 1 := Scalar.cmpi .eq v5 c0_i32
  let c1_i32_85 : BitVec 32 := 1#32
  let c1_i32_84 : BitVec 32 := 1#32
  let v139 : BitVec 32 := Scalar.subi v5 c1_i32_84
  let v140 : BitVec 32 := Scalar.select v138 c1_i32_85 v139
  let v147 : BitVec 32 := Scalar.subi v146 v140
  let c0_i32_86 : BitVec 32 := 0#32
  let v141 : BitVec 1 := Scalar.cmpi .eq v5 c0_i32_86
  let c2_i32_89 : BitVec 32 := 2#32
  let c3_i32 : BitVec 32 := 3#32
  let v142 : BitVec 1 := Scalar.cmpi .eq v5 c3_i32
  let c1_i32_88 : BitVec 32 := 1#32
  let c1_i32_87 : BitVec 32 := 1#32
  let v143 : BitVec 32 := Scalar.addi v5 c1_i32_87
  let v144 : BitVec 32 := Scalar.select v142 c1_i32_88 v143
  let v145 : BitVec 32 := Scalar.select v141 c2_i32_89 v144
  let v148 : BitVec 32 := Scalar.subi v147 v145
  let c4_i32_103 : BitVec 32 := 4#32
  let v164 : BitVec 32 := Scalar.muli v148 c4_i32_103
  let v165 : BitVec 32 := Scalar.addi v163 v164
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_104 : BitVec 32 := 1#32
  let v166 : BitVec 32 := Scalar.muli v8 c1_i32_104
  let v167 : BitVec 32 := Scalar.addi v165 v166
  v167.toNat
def k0_dev4 (d0 : Dev nD) : Nat :=
  let c0_i32_107 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_106 : BitVec 32 := 16#32
  let v168 : BitVec 32 := Scalar.muli v9 c16_i32_106
  let v169 : BitVec 32 := Scalar.addi c0_i32_107 v168
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_108 : BitVec 32 := 4#32
  let v170 : BitVec 32 := Scalar.muli v5 c4_i32_108
  let v171 : BitVec 32 := Scalar.addi v169 v170
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_109 : BitVec 32 := 1#32
  let v172 : BitVec 32 := Scalar.muli v8 c1_i32_109
  let v173 : BitVec 32 := Scalar.addi v171 v172
  v173.toNat
def k0_off25 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32 : BitVec 32 := 0#32
  let v138 : BitVec 1 := Scalar.cmpi .eq v5 c0_i32
  let c1_i32_85 : BitVec 32 := 1#32
  let c1_i32_84 : BitVec 32 := 1#32
  let v139 : BitVec 32 := Scalar.subi v5 c1_i32_84
  let v140 : BitVec 32 := Scalar.select v138 c1_i32_85 v139
  let v174 : BitVec 1 := Scalar.cmpi .sgt v5 v140
  let v175 : BitVec 32 := Scalar.extui v174
  let v176 : BitVec 32 := Scalar.subi v5 v175
  ![v176.toNat]
def k0_off26 (d0 : Dev nD) : Fin 4 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_116 : BitVec 32 := 0#32
  let c0_i32_117 : BitVec 32 := 0#32
  let c0_i32_118 : BitVec 32 := 0#32
  ![v5.toNat, 0, 0, 0]
def k0_dev5 (d0 : Dev nD) : Nat :=
  let c0_i32_113 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_112 : BitVec 32 := 16#32
  let v177 : BitVec 32 := Scalar.muli v2 c16_i32_112
  let v178 : BitVec 32 := Scalar.addi c0_i32_113 v177
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32 : BitVec 32 := 0#32
  let v138 : BitVec 1 := Scalar.cmpi .eq v5 c0_i32
  let c1_i32_85 : BitVec 32 := 1#32
  let c1_i32_84 : BitVec 32 := 1#32
  let v139 : BitVec 32 := Scalar.subi v5 c1_i32_84
  let v140 : BitVec 32 := Scalar.select v138 c1_i32_85 v139
  let c4_i32_114 : BitVec 32 := 4#32
  let v179 : BitVec 32 := Scalar.muli v140 c4_i32_114
  let v180 : BitVec 32 := Scalar.addi v178 v179
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_115 : BitVec 32 := 1#32
  let v181 : BitVec 32 := Scalar.muli v8 c1_i32_115
  let v182 : BitVec 32 := Scalar.addi v180 v181
  v182.toNat
def k0_off27 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_86 : BitVec 32 := 0#32
  let v141 : BitVec 1 := Scalar.cmpi .eq v5 c0_i32_86
  let c2_i32_89 : BitVec 32 := 2#32
  let c3_i32 : BitVec 32 := 3#32
  let v142 : BitVec 1 := Scalar.cmpi .eq v5 c3_i32
  let c1_i32_88 : BitVec 32 := 1#32
  let c1_i32_87 : BitVec 32 := 1#32
  let v143 : BitVec 32 := Scalar.addi v5 c1_i32_87
  let v144 : BitVec 32 := Scalar.select v142 c1_i32_88 v143
  let v145 : BitVec 32 := Scalar.select v141 c2_i32_89 v144
  let v191 : BitVec 1 := Scalar.cmpi .sgt v5 v145
  let v192 : BitVec 32 := Scalar.extui v191
  let v193 : BitVec 32 := Scalar.subi v5 v192
  ![v193.toNat]
def k0_dev6 (d0 : Dev nD) : Nat :=
  let c0_i32_124 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_123 : BitVec 32 := 16#32
  let v194 : BitVec 32 := Scalar.muli v2 c16_i32_123
  let v195 : BitVec 32 := Scalar.addi c0_i32_124 v194
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_86 : BitVec 32 := 0#32
  let v141 : BitVec 1 := Scalar.cmpi .eq v5 c0_i32_86
  let c2_i32_89 : BitVec 32 := 2#32
  let c3_i32 : BitVec 32 := 3#32
  let v142 : BitVec 1 := Scalar.cmpi .eq v5 c3_i32
  let c1_i32_88 : BitVec 32 := 1#32
  let c1_i32_87 : BitVec 32 := 1#32
  let v143 : BitVec 32 := Scalar.addi v5 c1_i32_87
  let v144 : BitVec 32 := Scalar.select v142 c1_i32_88 v143
  let v145 : BitVec 32 := Scalar.select v141 c2_i32_89 v144
  let c4_i32_125 : BitVec 32 := 4#32
  let v196 : BitVec 32 := Scalar.muli v145 c4_i32_125
  let v197 : BitVec 32 := Scalar.addi v195 v196
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_126 : BitVec 32 := 1#32
  let v198 : BitVec 32 := Scalar.muli v8 c1_i32_126
  let v199 : BitVec 32 := Scalar.addi v197 v198
  v199.toNat
def k0_off28 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c6_i32 : BitVec 32 := 6#32
  let v146 : BitVec 32 := Scalar.subi c6_i32 v5
  let c0_i32 : BitVec 32 := 0#32
  let v138 : BitVec 1 := Scalar.cmpi .eq v5 c0_i32
  let c1_i32_85 : BitVec 32 := 1#32
  let c1_i32_84 : BitVec 32 := 1#32
  let v139 : BitVec 32 := Scalar.subi v5 c1_i32_84
  let v140 : BitVec 32 := Scalar.select v138 c1_i32_85 v139
  let v147 : BitVec 32 := Scalar.subi v146 v140
  let c0_i32_86 : BitVec 32 := 0#32
  let v141 : BitVec 1 := Scalar.cmpi .eq v5 c0_i32_86
  let c2_i32_89 : BitVec 32 := 2#32
  let c3_i32 : BitVec 32 := 3#32
  let v142 : BitVec 1 := Scalar.cmpi .eq v5 c3_i32
  let c1_i32_88 : BitVec 32 := 1#32
  let c1_i32_87 : BitVec 32 := 1#32
  let v143 : BitVec 32 := Scalar.addi v5 c1_i32_87
  let v144 : BitVec 32 := Scalar.select v142 c1_i32_88 v143
  let v145 : BitVec 32 := Scalar.select v141 c2_i32_89 v144
  let v148 : BitVec 32 := Scalar.subi v147 v145
  let v208 : BitVec 1 := Scalar.cmpi .sgt v5 v148
  let v209 : BitVec 32 := Scalar.extui v208
  let v210 : BitVec 32 := Scalar.subi v5 v209
  ![v210.toNat]
def k0_dev7 (d0 : Dev nD) : Nat :=
  let c0_i32_135 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_134 : BitVec 32 := 16#32
  let v211 : BitVec 32 := Scalar.muli v2 c16_i32_134
  let v212 : BitVec 32 := Scalar.addi c0_i32_135 v211
  let c6_i32 : BitVec 32 := 6#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v146 : BitVec 32 := Scalar.subi c6_i32 v5
  let c0_i32 : BitVec 32 := 0#32
  let v138 : BitVec 1 := Scalar.cmpi .eq v5 c0_i32
  let c1_i32_85 : BitVec 32 := 1#32
  let c1_i32_84 : BitVec 32 := 1#32
  let v139 : BitVec 32 := Scalar.subi v5 c1_i32_84
  let v140 : BitVec 32 := Scalar.select v138 c1_i32_85 v139
  let v147 : BitVec 32 := Scalar.subi v146 v140
  let c0_i32_86 : BitVec 32 := 0#32
  let v141 : BitVec 1 := Scalar.cmpi .eq v5 c0_i32_86
  let c2_i32_89 : BitVec 32 := 2#32
  let c3_i32 : BitVec 32 := 3#32
  let v142 : BitVec 1 := Scalar.cmpi .eq v5 c3_i32
  let c1_i32_88 : BitVec 32 := 1#32
  let c1_i32_87 : BitVec 32 := 1#32
  let v143 : BitVec 32 := Scalar.addi v5 c1_i32_87
  let v144 : BitVec 32 := Scalar.select v142 c1_i32_88 v143
  let v145 : BitVec 32 := Scalar.select v141 c2_i32_89 v144
  let v148 : BitVec 32 := Scalar.subi v147 v145
  let c4_i32_136 : BitVec 32 := 4#32
  let v213 : BitVec 32 := Scalar.muli v148 c4_i32_136
  let v214 : BitVec 32 := Scalar.addi v212 v213
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_137 : BitVec 32 := 1#32
  let v215 : BitVec 32 := Scalar.muli v8 c1_i32_137
  let v216 : BitVec 32 := Scalar.addi v214 v215
  v216.toNat
def k0_off29 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32 : BitVec 32 := 0#32
  let v138 : BitVec 1 := Scalar.cmpi .eq v5 c0_i32
  let c1_i32_85 : BitVec 32 := 1#32
  let c1_i32_84 : BitVec 32 := 1#32
  let v139 : BitVec 32 := Scalar.subi v5 c1_i32_84
  let v140 : BitVec 32 := Scalar.select v138 c1_i32_85 v139
  let v401 : BitVec 1 := Scalar.cmpi .sgt v140 v5
  let v402 : BitVec 32 := Scalar.extui v401
  let v403 : BitVec 32 := Scalar.subi v140 v402
  ![v403.toNat]
def k0_off30 (d0 : Dev nD) : Fin 4 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32 : BitVec 32 := 0#32
  let v138 : BitVec 1 := Scalar.cmpi .eq v5 c0_i32
  let c1_i32_85 : BitVec 32 := 1#32
  let c1_i32_84 : BitVec 32 := 1#32
  let v139 : BitVec 32 := Scalar.subi v5 c1_i32_84
  let v140 : BitVec 32 := Scalar.select v138 c1_i32_85 v139
  let c0_i32_284 : BitVec 32 := 0#32
  let c0_i32_285 : BitVec 32 := 0#32
  let c0_i32_286 : BitVec 32 := 0#32
  ![v140.toNat, 0, 0, 0]
def k0_off31 (d0 : Dev nD) : Fin 4 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32 : BitVec 32 := 0#32
  let v138 : BitVec 1 := Scalar.cmpi .eq v5 c0_i32
  let c1_i32_85 : BitVec 32 := 1#32
  let c1_i32_84 : BitVec 32 := 1#32
  let v139 : BitVec 32 := Scalar.subi v5 c1_i32_84
  let v140 : BitVec 32 := Scalar.select v138 c1_i32_85 v139
  let v420 : Index := Scalar.indexCast v140
  let c0_293 : Index := 0#32
  let c0_294 : Index := 0#32
  let c0_295 : Index := 0#32
  ![v420.toNat, 0, 0, 0]
def k0_off32 (d0 : Dev nD) : Fin 4 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32 : BitVec 32 := 0#32
  let v138 : BitVec 1 := Scalar.cmpi .eq v5 c0_i32
  let c1_i32_85 : BitVec 32 := 1#32
  let c1_i32_84 : BitVec 32 := 1#32
  let v139 : BitVec 32 := Scalar.subi v5 c1_i32_84
  let v140 : BitVec 32 := Scalar.select v138 c1_i32_85 v139
  let v423 : Index := Scalar.indexCast v140
  let c1_296 : Index := 1#32
  let c0_297 : Index := 0#32
  let c0_298 : Index := 0#32
  ![v423.toNat, 1, 0, 0]
def k0_off33 (d0 : Dev nD) : Fin 4 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32 : BitVec 32 := 0#32
  let v138 : BitVec 1 := Scalar.cmpi .eq v5 c0_i32
  let c1_i32_85 : BitVec 32 := 1#32
  let c1_i32_84 : BitVec 32 := 1#32
  let v139 : BitVec 32 := Scalar.subi v5 c1_i32_84
  let v140 : BitVec 32 := Scalar.select v138 c1_i32_85 v139
  let v448 : Index := Scalar.indexCast v140
  let c0_314 : Index := 0#32
  let c0_315 : Index := 0#32
  let c64_316 : Index := 64#32
  ![v448.toNat, 0, 0, 64]
def k0_off34 (d0 : Dev nD) : Fin 4 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32 : BitVec 32 := 0#32
  let v138 : BitVec 1 := Scalar.cmpi .eq v5 c0_i32
  let c1_i32_85 : BitVec 32 := 1#32
  let c1_i32_84 : BitVec 32 := 1#32
  let v139 : BitVec 32 := Scalar.subi v5 c1_i32_84
  let v140 : BitVec 32 := Scalar.select v138 c1_i32_85 v139
  let v451 : Index := Scalar.indexCast v140
  let c1_317 : Index := 1#32
  let c0_318 : Index := 0#32
  let c64_319 : Index := 64#32
  ![v451.toNat, 1, 0, 64]
def k0_off35 (d0 : Dev nD) : Fin 4 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32 : BitVec 32 := 0#32
  let v138 : BitVec 1 := Scalar.cmpi .eq v5 c0_i32
  let c1_i32_85 : BitVec 32 := 1#32
  let c1_i32_84 : BitVec 32 := 1#32
  let v139 : BitVec 32 := Scalar.subi v5 c1_i32_84
  let v140 : BitVec 32 := Scalar.select v138 c1_i32_85 v139
  let v476 : Index := Scalar.indexCast v140
  let c0_335 : Index := 0#32
  let c0_336 : Index := 0#32
  let c128_337 : Index := 128#32
  ![v476.toNat, 0, 0, 128]
def k0_off36 (d0 : Dev nD) : Fin 4 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32 : BitVec 32 := 0#32
  let v138 : BitVec 1 := Scalar.cmpi .eq v5 c0_i32
  let c1_i32_85 : BitVec 32 := 1#32
  let c1_i32_84 : BitVec 32 := 1#32
  let v139 : BitVec 32 := Scalar.subi v5 c1_i32_84
  let v140 : BitVec 32 := Scalar.select v138 c1_i32_85 v139
  let v479 : Index := Scalar.indexCast v140
  let c1_338 : Index := 1#32
  let c0_339 : Index := 0#32
  let c128_340 : Index := 128#32
  ![v479.toNat, 1, 0, 128]
def k0_off37 (d0 : Dev nD) : Fin 4 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32 : BitVec 32 := 0#32
  let v138 : BitVec 1 := Scalar.cmpi .eq v5 c0_i32
  let c1_i32_85 : BitVec 32 := 1#32
  let c1_i32_84 : BitVec 32 := 1#32
  let v139 : BitVec 32 := Scalar.subi v5 c1_i32_84
  let v140 : BitVec 32 := Scalar.select v138 c1_i32_85 v139
  let v504 : Index := Scalar.indexCast v140
  let c0_356 : Index := 0#32
  let c0_357 : Index := 0#32
  let c192_358 : Index := 192#32
  ![v504.toNat, 0, 0, 192]
def k0_off38 (d0 : Dev nD) : Fin 4 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32 : BitVec 32 := 0#32
  let v138 : BitVec 1 := Scalar.cmpi .eq v5 c0_i32
  let c1_i32_85 : BitVec 32 := 1#32
  let c1_i32_84 : BitVec 32 := 1#32
  let v139 : BitVec 32 := Scalar.subi v5 c1_i32_84
  let v140 : BitVec 32 := Scalar.select v138 c1_i32_85 v139
  let v507 : Index := Scalar.indexCast v140
  let c1_359 : Index := 1#32
  let c0_360 : Index := 0#32
  let c192_361 : Index := 192#32
  ![v507.toNat, 1, 0, 192]
def k0_off39 (d0 : Dev nD) : Fin 4 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32 : BitVec 32 := 0#32
  let v138 : BitVec 1 := Scalar.cmpi .eq v5 c0_i32
  let c1_i32_85 : BitVec 32 := 1#32
  let c1_i32_84 : BitVec 32 := 1#32
  let v139 : BitVec 32 := Scalar.subi v5 c1_i32_84
  let v140 : BitVec 32 := Scalar.select v138 c1_i32_85 v139
  let v532 : Index := Scalar.indexCast v140
  let c0_377 : Index := 0#32
  let c0_378 : Index := 0#32
  let c256_379 : Index := 256#32
  ![v532.toNat, 0, 0, 256]
def k0_off40 (d0 : Dev nD) : Fin 4 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32 : BitVec 32 := 0#32
  let v138 : BitVec 1 := Scalar.cmpi .eq v5 c0_i32
  let c1_i32_85 : BitVec 32 := 1#32
  let c1_i32_84 : BitVec 32 := 1#32
  let v139 : BitVec 32 := Scalar.subi v5 c1_i32_84
  let v140 : BitVec 32 := Scalar.select v138 c1_i32_85 v139
  let v535 : Index := Scalar.indexCast v140
  let c1_380 : Index := 1#32
  let c0_381 : Index := 0#32
  let c256_382 : Index := 256#32
  ![v535.toNat, 1, 0, 256]
def k0_off41 (d0 : Dev nD) : Fin 4 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32 : BitVec 32 := 0#32
  let v138 : BitVec 1 := Scalar.cmpi .eq v5 c0_i32
  let c1_i32_85 : BitVec 32 := 1#32
  let c1_i32_84 : BitVec 32 := 1#32
  let v139 : BitVec 32 := Scalar.subi v5 c1_i32_84
  let v140 : BitVec 32 := Scalar.select v138 c1_i32_85 v139
  let v560 : Index := Scalar.indexCast v140
  let c0_398 : Index := 0#32
  let c0_399 : Index := 0#32
  let c320_400 : Index := 320#32
  ![v560.toNat, 0, 0, 320]
def k0_off42 (d0 : Dev nD) : Fin 4 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32 : BitVec 32 := 0#32
  let v138 : BitVec 1 := Scalar.cmpi .eq v5 c0_i32
  let c1_i32_85 : BitVec 32 := 1#32
  let c1_i32_84 : BitVec 32 := 1#32
  let v139 : BitVec 32 := Scalar.subi v5 c1_i32_84
  let v140 : BitVec 32 := Scalar.select v138 c1_i32_85 v139
  let v563 : Index := Scalar.indexCast v140
  let c1_401 : Index := 1#32
  let c0_402 : Index := 0#32
  let c320_403 : Index := 320#32
  ![v563.toNat, 1, 0, 320]
def k0_off43 (d0 : Dev nD) : Fin 4 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32 : BitVec 32 := 0#32
  let v138 : BitVec 1 := Scalar.cmpi .eq v5 c0_i32
  let c1_i32_85 : BitVec 32 := 1#32
  let c1_i32_84 : BitVec 32 := 1#32
  let v139 : BitVec 32 := Scalar.subi v5 c1_i32_84
  let v140 : BitVec 32 := Scalar.select v138 c1_i32_85 v139
  let v588 : Index := Scalar.indexCast v140
  let c0_419 : Index := 0#32
  let c0_420 : Index := 0#32
  let c384_421 : Index := 384#32
  ![v588.toNat, 0, 0, 384]
def k0_off44 (d0 : Dev nD) : Fin 4 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32 : BitVec 32 := 0#32
  let v138 : BitVec 1 := Scalar.cmpi .eq v5 c0_i32
  let c1_i32_85 : BitVec 32 := 1#32
  let c1_i32_84 : BitVec 32 := 1#32
  let v139 : BitVec 32 := Scalar.subi v5 c1_i32_84
  let v140 : BitVec 32 := Scalar.select v138 c1_i32_85 v139
  let v591 : Index := Scalar.indexCast v140
  let c1_422 : Index := 1#32
  let c0_423 : Index := 0#32
  let c384_424 : Index := 384#32
  ![v591.toNat, 1, 0, 384]
def k0_off45 (d0 : Dev nD) : Fin 4 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32 : BitVec 32 := 0#32
  let v138 : BitVec 1 := Scalar.cmpi .eq v5 c0_i32
  let c1_i32_85 : BitVec 32 := 1#32
  let c1_i32_84 : BitVec 32 := 1#32
  let v139 : BitVec 32 := Scalar.subi v5 c1_i32_84
  let v140 : BitVec 32 := Scalar.select v138 c1_i32_85 v139
  let v616 : Index := Scalar.indexCast v140
  let c0_440 : Index := 0#32
  let c0_441 : Index := 0#32
  let c448_442 : Index := 448#32
  ![v616.toNat, 0, 0, 448]
def k0_off46 (d0 : Dev nD) : Fin 4 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32 : BitVec 32 := 0#32
  let v138 : BitVec 1 := Scalar.cmpi .eq v5 c0_i32
  let c1_i32_85 : BitVec 32 := 1#32
  let c1_i32_84 : BitVec 32 := 1#32
  let v139 : BitVec 32 := Scalar.subi v5 c1_i32_84
  let v140 : BitVec 32 := Scalar.select v138 c1_i32_85 v139
  let v619 : Index := Scalar.indexCast v140
  let c1_443 : Index := 1#32
  let c0_444 : Index := 0#32
  let c448_445 : Index := 448#32
  ![v619.toNat, 1, 0, 448]
def k0_off47 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_86 : BitVec 32 := 0#32
  let v141 : BitVec 1 := Scalar.cmpi .eq v5 c0_i32_86
  let c2_i32_89 : BitVec 32 := 2#32
  let c3_i32 : BitVec 32 := 3#32
  let v142 : BitVec 1 := Scalar.cmpi .eq v5 c3_i32
  let c1_i32_88 : BitVec 32 := 1#32
  let c1_i32_87 : BitVec 32 := 1#32
  let v143 : BitVec 32 := Scalar.addi v5 c1_i32_87
  let v144 : BitVec 32 := Scalar.select v142 c1_i32_88 v143
  let v145 : BitVec 32 := Scalar.select v141 c2_i32_89 v144
  let v640 : BitVec 1 := Scalar.cmpi .sgt v145 v5
  let v641 : BitVec 32 := Scalar.extui v640
  let v642 : BitVec 32 := Scalar.subi v145 v641
  ![v642.toNat]
def k0_off48 (d0 : Dev nD) : Fin 4 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_86 : BitVec 32 := 0#32
  let v141 : BitVec 1 := Scalar.cmpi .eq v5 c0_i32_86
  let c2_i32_89 : BitVec 32 := 2#32
  let c3_i32 : BitVec 32 := 3#32
  let v142 : BitVec 1 := Scalar.cmpi .eq v5 c3_i32
  let c1_i32_88 : BitVec 32 := 1#32
  let c1_i32_87 : BitVec 32 := 1#32
  let v143 : BitVec 32 := Scalar.addi v5 c1_i32_87
  let v144 : BitVec 32 := Scalar.select v142 c1_i32_88 v143
  let v145 : BitVec 32 := Scalar.select v141 c2_i32_89 v144
  let c0_i32_463 : BitVec 32 := 0#32
  let c0_i32_464 : BitVec 32 := 0#32
  let c0_i32_465 : BitVec 32 := 0#32
  ![v145.toNat, 0, 0, 0]
def k0_off49 (d0 : Dev nD) : Fin 4 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_86 : BitVec 32 := 0#32
  let v141 : BitVec 1 := Scalar.cmpi .eq v5 c0_i32_86
  let c2_i32_89 : BitVec 32 := 2#32
  let c3_i32 : BitVec 32 := 3#32
  let v142 : BitVec 1 := Scalar.cmpi .eq v5 c3_i32
  let c1_i32_88 : BitVec 32 := 1#32
  let c1_i32_87 : BitVec 32 := 1#32
  let v143 : BitVec 32 := Scalar.addi v5 c1_i32_87
  let v144 : BitVec 32 := Scalar.select v142 c1_i32_88 v143
  let v145 : BitVec 32 := Scalar.select v141 c2_i32_89 v144
  let v659 : Index := Scalar.indexCast v145
  let c0_472 : Index := 0#32
  let c0_473 : Index := 0#32
  let c0_474 : Index := 0#32
  ![v659.toNat, 0, 0, 0]
def k0_off50 (d0 : Dev nD) : Fin 4 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_86 : BitVec 32 := 0#32
  let v141 : BitVec 1 := Scalar.cmpi .eq v5 c0_i32_86
  let c2_i32_89 : BitVec 32 := 2#32
  let c3_i32 : BitVec 32 := 3#32
  let v142 : BitVec 1 := Scalar.cmpi .eq v5 c3_i32
  let c1_i32_88 : BitVec 32 := 1#32
  let c1_i32_87 : BitVec 32 := 1#32
  let v143 : BitVec 32 := Scalar.addi v5 c1_i32_87
  let v144 : BitVec 32 := Scalar.select v142 c1_i32_88 v143
  let v145 : BitVec 32 := Scalar.select v141 c2_i32_89 v144
  let v662 : Index := Scalar.indexCast v145
  let c1_475 : Index := 1#32
  let c0_476 : Index := 0#32
  let c0_477 : Index := 0#32
  ![v662.toNat, 1, 0, 0]
def k0_off51 (d0 : Dev nD) : Fin 4 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_86 : BitVec 32 := 0#32
  let v141 : BitVec 1 := Scalar.cmpi .eq v5 c0_i32_86
  let c2_i32_89 : BitVec 32 := 2#32
  let c3_i32 : BitVec 32 := 3#32
  let v142 : BitVec 1 := Scalar.cmpi .eq v5 c3_i32
  let c1_i32_88 : BitVec 32 := 1#32
  let c1_i32_87 : BitVec 32 := 1#32
  let v143 : BitVec 32 := Scalar.addi v5 c1_i32_87
  let v144 : BitVec 32 := Scalar.select v142 c1_i32_88 v143
  let v145 : BitVec 32 := Scalar.select v141 c2_i32_89 v144
  let v687 : Index := Scalar.indexCast v145
  let c0_493 : Index := 0#32
  let c0_494 : Index := 0#32
  let c64_495 : Index := 64#32
  ![v687.toNat, 0, 0, 64]
def k0_off52 (d0 : Dev nD) : Fin 4 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_86 : BitVec 32 := 0#32
  let v141 : BitVec 1 := Scalar.cmpi .eq v5 c0_i32_86
  let c2_i32_89 : BitVec 32 := 2#32
  let c3_i32 : BitVec 32 := 3#32
  let v142 : BitVec 1 := Scalar.cmpi .eq v5 c3_i32
  let c1_i32_88 : BitVec 32 := 1#32
  let c1_i32_87 : BitVec 32 := 1#32
  let v143 : BitVec 32 := Scalar.addi v5 c1_i32_87
  let v144 : BitVec 32 := Scalar.select v142 c1_i32_88 v143
  let v145 : BitVec 32 := Scalar.select v141 c2_i32_89 v144
  let v690 : Index := Scalar.indexCast v145
  let c1_496 : Index := 1#32
  let c0_497 : Index := 0#32
  let c64_498 : Index := 64#32
  ![v690.toNat, 1, 0, 64]
def k0_off53 (d0 : Dev nD) : Fin 4 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_86 : BitVec 32 := 0#32
  let v141 : BitVec 1 := Scalar.cmpi .eq v5 c0_i32_86
  let c2_i32_89 : BitVec 32 := 2#32
  let c3_i32 : BitVec 32 := 3#32
  let v142 : BitVec 1 := Scalar.cmpi .eq v5 c3_i32
  let c1_i32_88 : BitVec 32 := 1#32
  let c1_i32_87 : BitVec 32 := 1#32
  let v143 : BitVec 32 := Scalar.addi v5 c1_i32_87
  let v144 : BitVec 32 := Scalar.select v142 c1_i32_88 v143
  let v145 : BitVec 32 := Scalar.select v141 c2_i32_89 v144
  let v715 : Index := Scalar.indexCast v145
  let c0_514 : Index := 0#32
  let c0_515 : Index := 0#32
  let c128_516 : Index := 128#32
  ![v715.toNat, 0, 0, 128]
def k0_off54 (d0 : Dev nD) : Fin 4 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_86 : BitVec 32 := 0#32
  let v141 : BitVec 1 := Scalar.cmpi .eq v5 c0_i32_86
  let c2_i32_89 : BitVec 32 := 2#32
  let c3_i32 : BitVec 32 := 3#32
  let v142 : BitVec 1 := Scalar.cmpi .eq v5 c3_i32
  let c1_i32_88 : BitVec 32 := 1#32
  let c1_i32_87 : BitVec 32 := 1#32
  let v143 : BitVec 32 := Scalar.addi v5 c1_i32_87
  let v144 : BitVec 32 := Scalar.select v142 c1_i32_88 v143
  let v145 : BitVec 32 := Scalar.select v141 c2_i32_89 v144
  let v718 : Index := Scalar.indexCast v145
  let c1_517 : Index := 1#32
  let c0_518 : Index := 0#32
  let c128_519 : Index := 128#32
  ![v718.toNat, 1, 0, 128]
def k0_off55 (d0 : Dev nD) : Fin 4 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_86 : BitVec 32 := 0#32
  let v141 : BitVec 1 := Scalar.cmpi .eq v5 c0_i32_86
  let c2_i32_89 : BitVec 32 := 2#32
  let c3_i32 : BitVec 32 := 3#32
  let v142 : BitVec 1 := Scalar.cmpi .eq v5 c3_i32
  let c1_i32_88 : BitVec 32 := 1#32
  let c1_i32_87 : BitVec 32 := 1#32
  let v143 : BitVec 32 := Scalar.addi v5 c1_i32_87
  let v144 : BitVec 32 := Scalar.select v142 c1_i32_88 v143
  let v145 : BitVec 32 := Scalar.select v141 c2_i32_89 v144
  let v743 : Index := Scalar.indexCast v145
  let c0_535 : Index := 0#32
  let c0_536 : Index := 0#32
  let c192_537 : Index := 192#32
  ![v743.toNat, 0, 0, 192]
def k0_off56 (d0 : Dev nD) : Fin 4 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_86 : BitVec 32 := 0#32
  let v141 : BitVec 1 := Scalar.cmpi .eq v5 c0_i32_86
  let c2_i32_89 : BitVec 32 := 2#32
  let c3_i32 : BitVec 32 := 3#32
  let v142 : BitVec 1 := Scalar.cmpi .eq v5 c3_i32
  let c1_i32_88 : BitVec 32 := 1#32
  let c1_i32_87 : BitVec 32 := 1#32
  let v143 : BitVec 32 := Scalar.addi v5 c1_i32_87
  let v144 : BitVec 32 := Scalar.select v142 c1_i32_88 v143
  let v145 : BitVec 32 := Scalar.select v141 c2_i32_89 v144
  let v746 : Index := Scalar.indexCast v145
  let c1_538 : Index := 1#32
  let c0_539 : Index := 0#32
  let c192_540 : Index := 192#32
  ![v746.toNat, 1, 0, 192]
def k0_off57 (d0 : Dev nD) : Fin 4 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_86 : BitVec 32 := 0#32
  let v141 : BitVec 1 := Scalar.cmpi .eq v5 c0_i32_86
  let c2_i32_89 : BitVec 32 := 2#32
  let c3_i32 : BitVec 32 := 3#32
  let v142 : BitVec 1 := Scalar.cmpi .eq v5 c3_i32
  let c1_i32_88 : BitVec 32 := 1#32
  let c1_i32_87 : BitVec 32 := 1#32
  let v143 : BitVec 32 := Scalar.addi v5 c1_i32_87
  let v144 : BitVec 32 := Scalar.select v142 c1_i32_88 v143
  let v145 : BitVec 32 := Scalar.select v141 c2_i32_89 v144
  let v771 : Index := Scalar.indexCast v145
  let c0_556 : Index := 0#32
  let c0_557 : Index := 0#32
  let c256_558 : Index := 256#32
  ![v771.toNat, 0, 0, 256]
def k0_off58 (d0 : Dev nD) : Fin 4 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_86 : BitVec 32 := 0#32
  let v141 : BitVec 1 := Scalar.cmpi .eq v5 c0_i32_86
  let c2_i32_89 : BitVec 32 := 2#32
  let c3_i32 : BitVec 32 := 3#32
  let v142 : BitVec 1 := Scalar.cmpi .eq v5 c3_i32
  let c1_i32_88 : BitVec 32 := 1#32
  let c1_i32_87 : BitVec 32 := 1#32
  let v143 : BitVec 32 := Scalar.addi v5 c1_i32_87
  let v144 : BitVec 32 := Scalar.select v142 c1_i32_88 v143
  let v145 : BitVec 32 := Scalar.select v141 c2_i32_89 v144
  let v774 : Index := Scalar.indexCast v145
  let c1_559 : Index := 1#32
  let c0_560 : Index := 0#32
  let c256_561 : Index := 256#32
  ![v774.toNat, 1, 0, 256]
def k0_off59 (d0 : Dev nD) : Fin 4 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_86 : BitVec 32 := 0#32
  let v141 : BitVec 1 := Scalar.cmpi .eq v5 c0_i32_86
  let c2_i32_89 : BitVec 32 := 2#32
  let c3_i32 : BitVec 32 := 3#32
  let v142 : BitVec 1 := Scalar.cmpi .eq v5 c3_i32
  let c1_i32_88 : BitVec 32 := 1#32
  let c1_i32_87 : BitVec 32 := 1#32
  let v143 : BitVec 32 := Scalar.addi v5 c1_i32_87
  let v144 : BitVec 32 := Scalar.select v142 c1_i32_88 v143
  let v145 : BitVec 32 := Scalar.select v141 c2_i32_89 v144
  let v799 : Index := Scalar.indexCast v145
  let c0_577 : Index := 0#32
  let c0_578 : Index := 0#32
  let c320_579 : Index := 320#32
  ![v799.toNat, 0, 0, 320]
def k0_off60 (d0 : Dev nD) : Fin 4 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_86 : BitVec 32 := 0#32
  let v141 : BitVec 1 := Scalar.cmpi .eq v5 c0_i32_86
  let c2_i32_89 : BitVec 32 := 2#32
  let c3_i32 : BitVec 32 := 3#32
  let v142 : BitVec 1 := Scalar.cmpi .eq v5 c3_i32
  let c1_i32_88 : BitVec 32 := 1#32
  let c1_i32_87 : BitVec 32 := 1#32
  let v143 : BitVec 32 := Scalar.addi v5 c1_i32_87
  let v144 : BitVec 32 := Scalar.select v142 c1_i32_88 v143
  let v145 : BitVec 32 := Scalar.select v141 c2_i32_89 v144
  let v802 : Index := Scalar.indexCast v145
  let c1_580 : Index := 1#32
  let c0_581 : Index := 0#32
  let c320_582 : Index := 320#32
  ![v802.toNat, 1, 0, 320]
def k0_off61 (d0 : Dev nD) : Fin 4 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_86 : BitVec 32 := 0#32
  let v141 : BitVec 1 := Scalar.cmpi .eq v5 c0_i32_86
  let c2_i32_89 : BitVec 32 := 2#32
  let c3_i32 : BitVec 32 := 3#32
  let v142 : BitVec 1 := Scalar.cmpi .eq v5 c3_i32
  let c1_i32_88 : BitVec 32 := 1#32
  let c1_i32_87 : BitVec 32 := 1#32
  let v143 : BitVec 32 := Scalar.addi v5 c1_i32_87
  let v144 : BitVec 32 := Scalar.select v142 c1_i32_88 v143
  let v145 : BitVec 32 := Scalar.select v141 c2_i32_89 v144
  let v827 : Index := Scalar.indexCast v145
  let c0_598 : Index := 0#32
  let c0_599 : Index := 0#32
  let c384_600 : Index := 384#32
  ![v827.toNat, 0, 0, 384]
def k0_off62 (d0 : Dev nD) : Fin 4 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_86 : BitVec 32 := 0#32
  let v141 : BitVec 1 := Scalar.cmpi .eq v5 c0_i32_86
  let c2_i32_89 : BitVec 32 := 2#32
  let c3_i32 : BitVec 32 := 3#32
  let v142 : BitVec 1 := Scalar.cmpi .eq v5 c3_i32
  let c1_i32_88 : BitVec 32 := 1#32
  let c1_i32_87 : BitVec 32 := 1#32
  let v143 : BitVec 32 := Scalar.addi v5 c1_i32_87
  let v144 : BitVec 32 := Scalar.select v142 c1_i32_88 v143
  let v145 : BitVec 32 := Scalar.select v141 c2_i32_89 v144
  let v830 : Index := Scalar.indexCast v145
  let c1_601 : Index := 1#32
  let c0_602 : Index := 0#32
  let c384_603 : Index := 384#32
  ![v830.toNat, 1, 0, 384]
def k0_off63 (d0 : Dev nD) : Fin 4 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_86 : BitVec 32 := 0#32
  let v141 : BitVec 1 := Scalar.cmpi .eq v5 c0_i32_86
  let c2_i32_89 : BitVec 32 := 2#32
  let c3_i32 : BitVec 32 := 3#32
  let v142 : BitVec 1 := Scalar.cmpi .eq v5 c3_i32
  let c1_i32_88 : BitVec 32 := 1#32
  let c1_i32_87 : BitVec 32 := 1#32
  let v143 : BitVec 32 := Scalar.addi v5 c1_i32_87
  let v144 : BitVec 32 := Scalar.select v142 c1_i32_88 v143
  let v145 : BitVec 32 := Scalar.select v141 c2_i32_89 v144
  let v855 : Index := Scalar.indexCast v145
  let c0_619 : Index := 0#32
  let c0_620 : Index := 0#32
  let c448_621 : Index := 448#32
  ![v855.toNat, 0, 0, 448]
def k0_off64 (d0 : Dev nD) : Fin 4 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_86 : BitVec 32 := 0#32
  let v141 : BitVec 1 := Scalar.cmpi .eq v5 c0_i32_86
  let c2_i32_89 : BitVec 32 := 2#32
  let c3_i32 : BitVec 32 := 3#32
  let v142 : BitVec 1 := Scalar.cmpi .eq v5 c3_i32
  let c1_i32_88 : BitVec 32 := 1#32
  let c1_i32_87 : BitVec 32 := 1#32
  let v143 : BitVec 32 := Scalar.addi v5 c1_i32_87
  let v144 : BitVec 32 := Scalar.select v142 c1_i32_88 v143
  let v145 : BitVec 32 := Scalar.select v141 c2_i32_89 v144
  let v858 : Index := Scalar.indexCast v145
  let c1_622 : Index := 1#32
  let c0_623 : Index := 0#32
  let c448_624 : Index := 448#32
  ![v858.toNat, 1, 0, 448]
def k0_off65 (d0 : Dev nD) : Fin 1 → Nat :=
  let c6_i32 : BitVec 32 := 6#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v146 : BitVec 32 := Scalar.subi c6_i32 v5
  let c0_i32 : BitVec 32 := 0#32
  let v138 : BitVec 1 := Scalar.cmpi .eq v5 c0_i32
  let c1_i32_85 : BitVec 32 := 1#32
  let c1_i32_84 : BitVec 32 := 1#32
  let v139 : BitVec 32 := Scalar.subi v5 c1_i32_84
  let v140 : BitVec 32 := Scalar.select v138 c1_i32_85 v139
  let v147 : BitVec 32 := Scalar.subi v146 v140
  let c0_i32_86 : BitVec 32 := 0#32
  let v141 : BitVec 1 := Scalar.cmpi .eq v5 c0_i32_86
  let c2_i32_89 : BitVec 32 := 2#32
  let c3_i32 : BitVec 32 := 3#32
  let v142 : BitVec 1 := Scalar.cmpi .eq v5 c3_i32
  let c1_i32_88 : BitVec 32 := 1#32
  let c1_i32_87 : BitVec 32 := 1#32
  let v143 : BitVec 32 := Scalar.addi v5 c1_i32_87
  let v144 : BitVec 32 := Scalar.select v142 c1_i32_88 v143
  let v145 : BitVec 32 := Scalar.select v141 c2_i32_89 v144
  let v148 : BitVec 32 := Scalar.subi v147 v145
  let v879 : BitVec 1 := Scalar.cmpi .sgt v148 v5
  let v880 : BitVec 32 := Scalar.extui v879
  let v881 : BitVec 32 := Scalar.subi v148 v880
  ![v881.toNat]
def k0_off66 (d0 : Dev nD) : Fin 4 → Nat :=
  let c6_i32 : BitVec 32 := 6#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v146 : BitVec 32 := Scalar.subi c6_i32 v5
  let c0_i32 : BitVec 32 := 0#32
  let v138 : BitVec 1 := Scalar.cmpi .eq v5 c0_i32
  let c1_i32_85 : BitVec 32 := 1#32
  let c1_i32_84 : BitVec 32 := 1#32
  let v139 : BitVec 32 := Scalar.subi v5 c1_i32_84
  let v140 : BitVec 32 := Scalar.select v138 c1_i32_85 v139
  let v147 : BitVec 32 := Scalar.subi v146 v140
  let c0_i32_86 : BitVec 32 := 0#32
  let v141 : BitVec 1 := Scalar.cmpi .eq v5 c0_i32_86
  let c2_i32_89 : BitVec 32 := 2#32
  let c3_i32 : BitVec 32 := 3#32
  let v142 : BitVec 1 := Scalar.cmpi .eq v5 c3_i32
  let c1_i32_88 : BitVec 32 := 1#32
  let c1_i32_87 : BitVec 32 := 1#32
  let v143 : BitVec 32 := Scalar.addi v5 c1_i32_87
  let v144 : BitVec 32 := Scalar.select v142 c1_i32_88 v143
  let v145 : BitVec 32 := Scalar.select v141 c2_i32_89 v144
  let v148 : BitVec 32 := Scalar.subi v147 v145
  let c0_i32_642 : BitVec 32 := 0#32
  let c0_i32_643 : BitVec 32 := 0#32
  let c0_i32_644 : BitVec 32 := 0#32
  ![v148.toNat, 0, 0, 0]
def k0_off67 (d0 : Dev nD) : Fin 4 → Nat :=
  let c6_i32 : BitVec 32 := 6#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v146 : BitVec 32 := Scalar.subi c6_i32 v5
  let c0_i32 : BitVec 32 := 0#32
  let v138 : BitVec 1 := Scalar.cmpi .eq v5 c0_i32
  let c1_i32_85 : BitVec 32 := 1#32
  let c1_i32_84 : BitVec 32 := 1#32
  let v139 : BitVec 32 := Scalar.subi v5 c1_i32_84
  let v140 : BitVec 32 := Scalar.select v138 c1_i32_85 v139
  let v147 : BitVec 32 := Scalar.subi v146 v140
  let c0_i32_86 : BitVec 32 := 0#32
  let v141 : BitVec 1 := Scalar.cmpi .eq v5 c0_i32_86
  let c2_i32_89 : BitVec 32 := 2#32
  let c3_i32 : BitVec 32 := 3#32
  let v142 : BitVec 1 := Scalar.cmpi .eq v5 c3_i32
  let c1_i32_88 : BitVec 32 := 1#32
  let c1_i32_87 : BitVec 32 := 1#32
  let v143 : BitVec 32 := Scalar.addi v5 c1_i32_87
  let v144 : BitVec 32 := Scalar.select v142 c1_i32_88 v143
  let v145 : BitVec 32 := Scalar.select v141 c2_i32_89 v144
  let v148 : BitVec 32 := Scalar.subi v147 v145
  let v898 : Index := Scalar.indexCast v148
  let c0_651 : Index := 0#32
  let c0_652 : Index := 0#32
  let c0_653 : Index := 0#32
  ![v898.toNat, 0, 0, 0]
def k0_off68 (d0 : Dev nD) : Fin 4 → Nat :=
  let c6_i32 : BitVec 32 := 6#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v146 : BitVec 32 := Scalar.subi c6_i32 v5
  let c0_i32 : BitVec 32 := 0#32
  let v138 : BitVec 1 := Scalar.cmpi .eq v5 c0_i32
  let c1_i32_85 : BitVec 32 := 1#32
  let c1_i32_84 : BitVec 32 := 1#32
  let v139 : BitVec 32 := Scalar.subi v5 c1_i32_84
  let v140 : BitVec 32 := Scalar.select v138 c1_i32_85 v139
  let v147 : BitVec 32 := Scalar.subi v146 v140
  let c0_i32_86 : BitVec 32 := 0#32
  let v141 : BitVec 1 := Scalar.cmpi .eq v5 c0_i32_86
  let c2_i32_89 : BitVec 32 := 2#32
  let c3_i32 : BitVec 32 := 3#32
  let v142 : BitVec 1 := Scalar.cmpi .eq v5 c3_i32
  let c1_i32_88 : BitVec 32 := 1#32
  let c1_i32_87 : BitVec 32 := 1#32
  let v143 : BitVec 32 := Scalar.addi v5 c1_i32_87
  let v144 : BitVec 32 := Scalar.select v142 c1_i32_88 v143
  let v145 : BitVec 32 := Scalar.select v141 c2_i32_89 v144
  let v148 : BitVec 32 := Scalar.subi v147 v145
  let v901 : Index := Scalar.indexCast v148
  let c1_654 : Index := 1#32
  let c0_655 : Index := 0#32
  let c0_656 : Index := 0#32
  ![v901.toNat, 1, 0, 0]
def k0_off69 (d0 : Dev nD) : Fin 4 → Nat :=
  let c6_i32 : BitVec 32 := 6#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v146 : BitVec 32 := Scalar.subi c6_i32 v5
  let c0_i32 : BitVec 32 := 0#32
  let v138 : BitVec 1 := Scalar.cmpi .eq v5 c0_i32
  let c1_i32_85 : BitVec 32 := 1#32
  let c1_i32_84 : BitVec 32 := 1#32
  let v139 : BitVec 32 := Scalar.subi v5 c1_i32_84
  let v140 : BitVec 32 := Scalar.select v138 c1_i32_85 v139
  let v147 : BitVec 32 := Scalar.subi v146 v140
  let c0_i32_86 : BitVec 32 := 0#32
  let v141 : BitVec 1 := Scalar.cmpi .eq v5 c0_i32_86
  let c2_i32_89 : BitVec 32 := 2#32
  let c3_i32 : BitVec 32 := 3#32
  let v142 : BitVec 1 := Scalar.cmpi .eq v5 c3_i32
  let c1_i32_88 : BitVec 32 := 1#32
  let c1_i32_87 : BitVec 32 := 1#32
  let v143 : BitVec 32 := Scalar.addi v5 c1_i32_87
  let v144 : BitVec 32 := Scalar.select v142 c1_i32_88 v143
  let v145 : BitVec 32 := Scalar.select v141 c2_i32_89 v144
  let v148 : BitVec 32 := Scalar.subi v147 v145
  let v926 : Index := Scalar.indexCast v148
  let c0_672 : Index := 0#32
  let c0_673 : Index := 0#32
  let c64_674 : Index := 64#32
  ![v926.toNat, 0, 0, 64]
def k0_off70 (d0 : Dev nD) : Fin 4 → Nat :=
  let c6_i32 : BitVec 32 := 6#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v146 : BitVec 32 := Scalar.subi c6_i32 v5
  let c0_i32 : BitVec 32 := 0#32
  let v138 : BitVec 1 := Scalar.cmpi .eq v5 c0_i32
  let c1_i32_85 : BitVec 32 := 1#32
  let c1_i32_84 : BitVec 32 := 1#32
  let v139 : BitVec 32 := Scalar.subi v5 c1_i32_84
  let v140 : BitVec 32 := Scalar.select v138 c1_i32_85 v139
  let v147 : BitVec 32 := Scalar.subi v146 v140
  let c0_i32_86 : BitVec 32 := 0#32
  let v141 : BitVec 1 := Scalar.cmpi .eq v5 c0_i32_86
  let c2_i32_89 : BitVec 32 := 2#32
  let c3_i32 : BitVec 32 := 3#32
  let v142 : BitVec 1 := Scalar.cmpi .eq v5 c3_i32
  let c1_i32_88 : BitVec 32 := 1#32
  let c1_i32_87 : BitVec 32 := 1#32
  let v143 : BitVec 32 := Scalar.addi v5 c1_i32_87
  let v144 : BitVec 32 := Scalar.select v142 c1_i32_88 v143
  let v145 : BitVec 32 := Scalar.select v141 c2_i32_89 v144
  let v148 : BitVec 32 := Scalar.subi v147 v145
  let v929 : Index := Scalar.indexCast v148
  let c1_675 : Index := 1#32
  let c0_676 : Index := 0#32
  let c64_677 : Index := 64#32
  ![v929.toNat, 1, 0, 64]
def k0_off71 (d0 : Dev nD) : Fin 4 → Nat :=
  let c6_i32 : BitVec 32 := 6#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v146 : BitVec 32 := Scalar.subi c6_i32 v5
  let c0_i32 : BitVec 32 := 0#32
  let v138 : BitVec 1 := Scalar.cmpi .eq v5 c0_i32
  let c1_i32_85 : BitVec 32 := 1#32
  let c1_i32_84 : BitVec 32 := 1#32
  let v139 : BitVec 32 := Scalar.subi v5 c1_i32_84
  let v140 : BitVec 32 := Scalar.select v138 c1_i32_85 v139
  let v147 : BitVec 32 := Scalar.subi v146 v140
  let c0_i32_86 : BitVec 32 := 0#32
  let v141 : BitVec 1 := Scalar.cmpi .eq v5 c0_i32_86
  let c2_i32_89 : BitVec 32 := 2#32
  let c3_i32 : BitVec 32 := 3#32
  let v142 : BitVec 1 := Scalar.cmpi .eq v5 c3_i32
  let c1_i32_88 : BitVec 32 := 1#32
  let c1_i32_87 : BitVec 32 := 1#32
  let v143 : BitVec 32 := Scalar.addi v5 c1_i32_87
  let v144 : BitVec 32 := Scalar.select v142 c1_i32_88 v143
  let v145 : BitVec 32 := Scalar.select v141 c2_i32_89 v144
  let v148 : BitVec 32 := Scalar.subi v147 v145
  let v954 : Index := Scalar.indexCast v148
  let c0_693 : Index := 0#32
  let c0_694 : Index := 0#32
  let c128_695 : Index := 128#32
  ![v954.toNat, 0, 0, 128]
def k0_off72 (d0 : Dev nD) : Fin 4 → Nat :=
  let c6_i32 : BitVec 32 := 6#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v146 : BitVec 32 := Scalar.subi c6_i32 v5
  let c0_i32 : BitVec 32 := 0#32
  let v138 : BitVec 1 := Scalar.cmpi .eq v5 c0_i32
  let c1_i32_85 : BitVec 32 := 1#32
  let c1_i32_84 : BitVec 32 := 1#32
  let v139 : BitVec 32 := Scalar.subi v5 c1_i32_84
  let v140 : BitVec 32 := Scalar.select v138 c1_i32_85 v139
  let v147 : BitVec 32 := Scalar.subi v146 v140
  let c0_i32_86 : BitVec 32 := 0#32
  let v141 : BitVec 1 := Scalar.cmpi .eq v5 c0_i32_86
  let c2_i32_89 : BitVec 32 := 2#32
  let c3_i32 : BitVec 32 := 3#32
  let v142 : BitVec 1 := Scalar.cmpi .eq v5 c3_i32
  let c1_i32_88 : BitVec 32 := 1#32
  let c1_i32_87 : BitVec 32 := 1#32
  let v143 : BitVec 32 := Scalar.addi v5 c1_i32_87
  let v144 : BitVec 32 := Scalar.select v142 c1_i32_88 v143
  let v145 : BitVec 32 := Scalar.select v141 c2_i32_89 v144
  let v148 : BitVec 32 := Scalar.subi v147 v145
  let v957 : Index := Scalar.indexCast v148
  let c1_696 : Index := 1#32
  let c0_697 : Index := 0#32
  let c128_698 : Index := 128#32
  ![v957.toNat, 1, 0, 128]
def k0_off73 (d0 : Dev nD) : Fin 4 → Nat :=
  let c6_i32 : BitVec 32 := 6#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v146 : BitVec 32 := Scalar.subi c6_i32 v5
  let c0_i32 : BitVec 32 := 0#32
  let v138 : BitVec 1 := Scalar.cmpi .eq v5 c0_i32
  let c1_i32_85 : BitVec 32 := 1#32
  let c1_i32_84 : BitVec 32 := 1#32
  let v139 : BitVec 32 := Scalar.subi v5 c1_i32_84
  let v140 : BitVec 32 := Scalar.select v138 c1_i32_85 v139
  let v147 : BitVec 32 := Scalar.subi v146 v140
  let c0_i32_86 : BitVec 32 := 0#32
  let v141 : BitVec 1 := Scalar.cmpi .eq v5 c0_i32_86
  let c2_i32_89 : BitVec 32 := 2#32
  let c3_i32 : BitVec 32 := 3#32
  let v142 : BitVec 1 := Scalar.cmpi .eq v5 c3_i32
  let c1_i32_88 : BitVec 32 := 1#32
  let c1_i32_87 : BitVec 32 := 1#32
  let v143 : BitVec 32 := Scalar.addi v5 c1_i32_87
  let v144 : BitVec 32 := Scalar.select v142 c1_i32_88 v143
  let v145 : BitVec 32 := Scalar.select v141 c2_i32_89 v144
  let v148 : BitVec 32 := Scalar.subi v147 v145
  let v982 : Index := Scalar.indexCast v148
  let c0_714 : Index := 0#32
  let c0_715 : Index := 0#32
  let c192_716 : Index := 192#32
  ![v982.toNat, 0, 0, 192]
def k0_off74 (d0 : Dev nD) : Fin 4 → Nat :=
  let c6_i32 : BitVec 32 := 6#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v146 : BitVec 32 := Scalar.subi c6_i32 v5
  let c0_i32 : BitVec 32 := 0#32
  let v138 : BitVec 1 := Scalar.cmpi .eq v5 c0_i32
  let c1_i32_85 : BitVec 32 := 1#32
  let c1_i32_84 : BitVec 32 := 1#32
  let v139 : BitVec 32 := Scalar.subi v5 c1_i32_84
  let v140 : BitVec 32 := Scalar.select v138 c1_i32_85 v139
  let v147 : BitVec 32 := Scalar.subi v146 v140
  let c0_i32_86 : BitVec 32 := 0#32
  let v141 : BitVec 1 := Scalar.cmpi .eq v5 c0_i32_86
  let c2_i32_89 : BitVec 32 := 2#32
  let c3_i32 : BitVec 32 := 3#32
  let v142 : BitVec 1 := Scalar.cmpi .eq v5 c3_i32
  let c1_i32_88 : BitVec 32 := 1#32
  let c1_i32_87 : BitVec 32 := 1#32
  let v143 : BitVec 32 := Scalar.addi v5 c1_i32_87
  let v144 : BitVec 32 := Scalar.select v142 c1_i32_88 v143
  let v145 : BitVec 32 := Scalar.select v141 c2_i32_89 v144
  let v148 : BitVec 32 := Scalar.subi v147 v145
  let v985 : Index := Scalar.indexCast v148
  let c1_717 : Index := 1#32
  let c0_718 : Index := 0#32
  let c192_719 : Index := 192#32
  ![v985.toNat, 1, 0, 192]
def k0_off75 (d0 : Dev nD) : Fin 4 → Nat :=
  let c6_i32 : BitVec 32 := 6#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v146 : BitVec 32 := Scalar.subi c6_i32 v5
  let c0_i32 : BitVec 32 := 0#32
  let v138 : BitVec 1 := Scalar.cmpi .eq v5 c0_i32
  let c1_i32_85 : BitVec 32 := 1#32
  let c1_i32_84 : BitVec 32 := 1#32
  let v139 : BitVec 32 := Scalar.subi v5 c1_i32_84
  let v140 : BitVec 32 := Scalar.select v138 c1_i32_85 v139
  let v147 : BitVec 32 := Scalar.subi v146 v140
  let c0_i32_86 : BitVec 32 := 0#32
  let v141 : BitVec 1 := Scalar.cmpi .eq v5 c0_i32_86
  let c2_i32_89 : BitVec 32 := 2#32
  let c3_i32 : BitVec 32 := 3#32
  let v142 : BitVec 1 := Scalar.cmpi .eq v5 c3_i32
  let c1_i32_88 : BitVec 32 := 1#32
  let c1_i32_87 : BitVec 32 := 1#32
  let v143 : BitVec 32 := Scalar.addi v5 c1_i32_87
  let v144 : BitVec 32 := Scalar.select v142 c1_i32_88 v143
  let v145 : BitVec 32 := Scalar.select v141 c2_i32_89 v144
  let v148 : BitVec 32 := Scalar.subi v147 v145
  let v1010 : Index := Scalar.indexCast v148
  let c0_735 : Index := 0#32
  let c0_736 : Index := 0#32
  let c256_737 : Index := 256#32
  ![v1010.toNat, 0, 0, 256]
def k0_off76 (d0 : Dev nD) : Fin 4 → Nat :=
  let c6_i32 : BitVec 32 := 6#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v146 : BitVec 32 := Scalar.subi c6_i32 v5
  let c0_i32 : BitVec 32 := 0#32
  let v138 : BitVec 1 := Scalar.cmpi .eq v5 c0_i32
  let c1_i32_85 : BitVec 32 := 1#32
  let c1_i32_84 : BitVec 32 := 1#32
  let v139 : BitVec 32 := Scalar.subi v5 c1_i32_84
  let v140 : BitVec 32 := Scalar.select v138 c1_i32_85 v139
  let v147 : BitVec 32 := Scalar.subi v146 v140
  let c0_i32_86 : BitVec 32 := 0#32
  let v141 : BitVec 1 := Scalar.cmpi .eq v5 c0_i32_86
  let c2_i32_89 : BitVec 32 := 2#32
  let c3_i32 : BitVec 32 := 3#32
  let v142 : BitVec 1 := Scalar.cmpi .eq v5 c3_i32
  let c1_i32_88 : BitVec 32 := 1#32
  let c1_i32_87 : BitVec 32 := 1#32
  let v143 : BitVec 32 := Scalar.addi v5 c1_i32_87
  let v144 : BitVec 32 := Scalar.select v142 c1_i32_88 v143
  let v145 : BitVec 32 := Scalar.select v141 c2_i32_89 v144
  let v148 : BitVec 32 := Scalar.subi v147 v145
  let v1013 : Index := Scalar.indexCast v148
  let c1_738 : Index := 1#32
  let c0_739 : Index := 0#32
  let c256_740 : Index := 256#32
  ![v1013.toNat, 1, 0, 256]
def k0_off77 (d0 : Dev nD) : Fin 4 → Nat :=
  let c6_i32 : BitVec 32 := 6#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v146 : BitVec 32 := Scalar.subi c6_i32 v5
  let c0_i32 : BitVec 32 := 0#32
  let v138 : BitVec 1 := Scalar.cmpi .eq v5 c0_i32
  let c1_i32_85 : BitVec 32 := 1#32
  let c1_i32_84 : BitVec 32 := 1#32
  let v139 : BitVec 32 := Scalar.subi v5 c1_i32_84
  let v140 : BitVec 32 := Scalar.select v138 c1_i32_85 v139
  let v147 : BitVec 32 := Scalar.subi v146 v140
  let c0_i32_86 : BitVec 32 := 0#32
  let v141 : BitVec 1 := Scalar.cmpi .eq v5 c0_i32_86
  let c2_i32_89 : BitVec 32 := 2#32
  let c3_i32 : BitVec 32 := 3#32
  let v142 : BitVec 1 := Scalar.cmpi .eq v5 c3_i32
  let c1_i32_88 : BitVec 32 := 1#32
  let c1_i32_87 : BitVec 32 := 1#32
  let v143 : BitVec 32 := Scalar.addi v5 c1_i32_87
  let v144 : BitVec 32 := Scalar.select v142 c1_i32_88 v143
  let v145 : BitVec 32 := Scalar.select v141 c2_i32_89 v144
  let v148 : BitVec 32 := Scalar.subi v147 v145
  let v1038 : Index := Scalar.indexCast v148
  let c0_756 : Index := 0#32
  let c0_757 : Index := 0#32
  let c320_758 : Index := 320#32
  ![v1038.toNat, 0, 0, 320]
def k0_off78 (d0 : Dev nD) : Fin 4 → Nat :=
  let c6_i32 : BitVec 32 := 6#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v146 : BitVec 32 := Scalar.subi c6_i32 v5
  let c0_i32 : BitVec 32 := 0#32
  let v138 : BitVec 1 := Scalar.cmpi .eq v5 c0_i32
  let c1_i32_85 : BitVec 32 := 1#32
  let c1_i32_84 : BitVec 32 := 1#32
  let v139 : BitVec 32 := Scalar.subi v5 c1_i32_84
  let v140 : BitVec 32 := Scalar.select v138 c1_i32_85 v139
  let v147 : BitVec 32 := Scalar.subi v146 v140
  let c0_i32_86 : BitVec 32 := 0#32
  let v141 : BitVec 1 := Scalar.cmpi .eq v5 c0_i32_86
  let c2_i32_89 : BitVec 32 := 2#32
  let c3_i32 : BitVec 32 := 3#32
  let v142 : BitVec 1 := Scalar.cmpi .eq v5 c3_i32
  let c1_i32_88 : BitVec 32 := 1#32
  let c1_i32_87 : BitVec 32 := 1#32
  let v143 : BitVec 32 := Scalar.addi v5 c1_i32_87
  let v144 : BitVec 32 := Scalar.select v142 c1_i32_88 v143
  let v145 : BitVec 32 := Scalar.select v141 c2_i32_89 v144
  let v148 : BitVec 32 := Scalar.subi v147 v145
  let v1041 : Index := Scalar.indexCast v148
  let c1_759 : Index := 1#32
  let c0_760 : Index := 0#32
  let c320_761 : Index := 320#32
  ![v1041.toNat, 1, 0, 320]
def k0_off79 (d0 : Dev nD) : Fin 4 → Nat :=
  let c6_i32 : BitVec 32 := 6#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v146 : BitVec 32 := Scalar.subi c6_i32 v5
  let c0_i32 : BitVec 32 := 0#32
  let v138 : BitVec 1 := Scalar.cmpi .eq v5 c0_i32
  let c1_i32_85 : BitVec 32 := 1#32
  let c1_i32_84 : BitVec 32 := 1#32
  let v139 : BitVec 32 := Scalar.subi v5 c1_i32_84
  let v140 : BitVec 32 := Scalar.select v138 c1_i32_85 v139
  let v147 : BitVec 32 := Scalar.subi v146 v140
  let c0_i32_86 : BitVec 32 := 0#32
  let v141 : BitVec 1 := Scalar.cmpi .eq v5 c0_i32_86
  let c2_i32_89 : BitVec 32 := 2#32
  let c3_i32 : BitVec 32 := 3#32
  let v142 : BitVec 1 := Scalar.cmpi .eq v5 c3_i32
  let c1_i32_88 : BitVec 32 := 1#32
  let c1_i32_87 : BitVec 32 := 1#32
  let v143 : BitVec 32 := Scalar.addi v5 c1_i32_87
  let v144 : BitVec 32 := Scalar.select v142 c1_i32_88 v143
  let v145 : BitVec 32 := Scalar.select v141 c2_i32_89 v144
  let v148 : BitVec 32 := Scalar.subi v147 v145
  let v1066 : Index := Scalar.indexCast v148
  let c0_777 : Index := 0#32
  let c0_778 : Index := 0#32
  let c384_779 : Index := 384#32
  ![v1066.toNat, 0, 0, 384]
def k0_off80 (d0 : Dev nD) : Fin 4 → Nat :=
  let c6_i32 : BitVec 32 := 6#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v146 : BitVec 32 := Scalar.subi c6_i32 v5
  let c0_i32 : BitVec 32 := 0#32
  let v138 : BitVec 1 := Scalar.cmpi .eq v5 c0_i32
  let c1_i32_85 : BitVec 32 := 1#32
  let c1_i32_84 : BitVec 32 := 1#32
  let v139 : BitVec 32 := Scalar.subi v5 c1_i32_84
  let v140 : BitVec 32 := Scalar.select v138 c1_i32_85 v139
  let v147 : BitVec 32 := Scalar.subi v146 v140
  let c0_i32_86 : BitVec 32 := 0#32
  let v141 : BitVec 1 := Scalar.cmpi .eq v5 c0_i32_86
  let c2_i32_89 : BitVec 32 := 2#32
  let c3_i32 : BitVec 32 := 3#32
  let v142 : BitVec 1 := Scalar.cmpi .eq v5 c3_i32
  let c1_i32_88 : BitVec 32 := 1#32
  let c1_i32_87 : BitVec 32 := 1#32
  let v143 : BitVec 32 := Scalar.addi v5 c1_i32_87
  let v144 : BitVec 32 := Scalar.select v142 c1_i32_88 v143
  let v145 : BitVec 32 := Scalar.select v141 c2_i32_89 v144
  let v148 : BitVec 32 := Scalar.subi v147 v145
  let v1069 : Index := Scalar.indexCast v148
  let c1_780 : Index := 1#32
  let c0_781 : Index := 0#32
  let c384_782 : Index := 384#32
  ![v1069.toNat, 1, 0, 384]
def k0_off81 (d0 : Dev nD) : Fin 4 → Nat :=
  let c6_i32 : BitVec 32 := 6#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v146 : BitVec 32 := Scalar.subi c6_i32 v5
  let c0_i32 : BitVec 32 := 0#32
  let v138 : BitVec 1 := Scalar.cmpi .eq v5 c0_i32
  let c1_i32_85 : BitVec 32 := 1#32
  let c1_i32_84 : BitVec 32 := 1#32
  let v139 : BitVec 32 := Scalar.subi v5 c1_i32_84
  let v140 : BitVec 32 := Scalar.select v138 c1_i32_85 v139
  let v147 : BitVec 32 := Scalar.subi v146 v140
  let c0_i32_86 : BitVec 32 := 0#32
  let v141 : BitVec 1 := Scalar.cmpi .eq v5 c0_i32_86
  let c2_i32_89 : BitVec 32 := 2#32
  let c3_i32 : BitVec 32 := 3#32
  let v142 : BitVec 1 := Scalar.cmpi .eq v5 c3_i32
  let c1_i32_88 : BitVec 32 := 1#32
  let c1_i32_87 : BitVec 32 := 1#32
  let v143 : BitVec 32 := Scalar.addi v5 c1_i32_87
  let v144 : BitVec 32 := Scalar.select v142 c1_i32_88 v143
  let v145 : BitVec 32 := Scalar.select v141 c2_i32_89 v144
  let v148 : BitVec 32 := Scalar.subi v147 v145
  let v1094 : Index := Scalar.indexCast v148
  let c0_798 : Index := 0#32
  let c0_799 : Index := 0#32
  let c448_800 : Index := 448#32
  ![v1094.toNat, 0, 0, 448]
def k0_off82 (d0 : Dev nD) : Fin 4 → Nat :=
  let c6_i32 : BitVec 32 := 6#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v146 : BitVec 32 := Scalar.subi c6_i32 v5
  let c0_i32 : BitVec 32 := 0#32
  let v138 : BitVec 1 := Scalar.cmpi .eq v5 c0_i32
  let c1_i32_85 : BitVec 32 := 1#32
  let c1_i32_84 : BitVec 32 := 1#32
  let v139 : BitVec 32 := Scalar.subi v5 c1_i32_84
  let v140 : BitVec 32 := Scalar.select v138 c1_i32_85 v139
  let v147 : BitVec 32 := Scalar.subi v146 v140
  let c0_i32_86 : BitVec 32 := 0#32
  let v141 : BitVec 1 := Scalar.cmpi .eq v5 c0_i32_86
  let c2_i32_89 : BitVec 32 := 2#32
  let c3_i32 : BitVec 32 := 3#32
  let v142 : BitVec 1 := Scalar.cmpi .eq v5 c3_i32
  let c1_i32_88 : BitVec 32 := 1#32
  let c1_i32_87 : BitVec 32 := 1#32
  let v143 : BitVec 32 := Scalar.addi v5 c1_i32_87
  let v144 : BitVec 32 := Scalar.select v142 c1_i32_88 v143
  let v145 : BitVec 32 := Scalar.select v141 c2_i32_89 v144
  let v148 : BitVec 32 := Scalar.subi v147 v145
  let v1097 : Index := Scalar.indexCast v148
  let c1_801 : Index := 1#32
  let c0_802 : Index := 0#32
  let c448_803 : Index := 448#32
  ![v1097.toNat, 1, 0, 448]
def k0_dev8 (d0 : Dev nD) : Nat :=
  let c0_i32_855 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_854 : BitVec 32 := 16#32
  let v1166 : BitVec 32 := Scalar.muli v9 c16_i32_854
  let v1167 : BitVec 32 := Scalar.addi c0_i32_855 v1166
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_856 : BitVec 32 := 4#32
  let v1168 : BitVec 32 := Scalar.muli v5 c4_i32_856
  let v1169 : BitVec 32 := Scalar.addi v1167 v1168
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_857 : BitVec 32 := 1#32
  let v1170 : BitVec 32 := Scalar.muli v8 c1_i32_857
  let v1171 : BitVec 32 := Scalar.addi v1169 v1170
  v1171.toNat
def k0_dev9 (d0 : Dev nD) : Nat :=
  let c0_i32_901 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_900 : BitVec 32 := 16#32
  let v1226 : BitVec 32 := Scalar.muli v9 c16_i32_900
  let v1227 : BitVec 32 := Scalar.addi c0_i32_901 v1226
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_902 : BitVec 32 := 4#32
  let v1228 : BitVec 32 := Scalar.muli v5 c4_i32_902
  let v1229 : BitVec 32 := Scalar.addi v1227 v1228
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_903 : BitVec 32 := 1#32
  let v1230 : BitVec 32 := Scalar.muli v8 c1_i32_903
  let v1231 : BitVec 32 := Scalar.addi v1229 v1230
  v1231.toNat
def k0_off83 (d0 : Dev nD) : Fin 4 → Nat :=
  let c1_i32_919 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1250 : BitVec 32 := Scalar.subi c1_i32_919 v2
  let v1251 : Index := Scalar.indexCast v1250
  let c0_920 : Index := 0#32
  let c0_921 : Index := 0#32
  let c0_922 : Index := 0#32
  ![v1251.toNat, 0, 0, 0]
def k0_off84 (d0 : Dev nD) : Fin 4 → Nat :=
  let c1_i32_925 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1257 : BitVec 32 := Scalar.subi c1_i32_925 v2
  let v1258 : Index := Scalar.indexCast v1257
  let c0_926 : Index := 0#32
  let c1_927 : Index := 1#32
  let c0_928 : Index := 0#32
  ![v1258.toNat, 0, 1, 0]
def k0_off85 (d0 : Dev nD) : Fin 4 → Nat :=
  let c1_i32_931 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1264 : BitVec 32 := Scalar.subi c1_i32_931 v2
  let v1265 : Index := Scalar.indexCast v1264
  let c0_932 : Index := 0#32
  let c2_933 : Index := 2#32
  let c0_934 : Index := 0#32
  ![v1265.toNat, 0, 2, 0]
def k0_off86 (d0 : Dev nD) : Fin 4 → Nat :=
  let c1_i32_937 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1271 : BitVec 32 := Scalar.subi c1_i32_937 v2
  let v1272 : Index := Scalar.indexCast v1271
  let c0_938 : Index := 0#32
  let c3_939 : Index := 3#32
  let c0_940 : Index := 0#32
  ![v1272.toNat, 0, 3, 0]
def k0_off87 (d0 : Dev nD) : Fin 4 → Nat :=
  let c1_i32_953 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1288 : BitVec 32 := Scalar.subi c1_i32_953 v2
  let v1289 : Index := Scalar.indexCast v1288
  let c0_954 : Index := 0#32
  let c4_955 : Index := 4#32
  let c0_956 : Index := 0#32
  ![v1289.toNat, 0, 4, 0]
def k0_off88 (d0 : Dev nD) : Fin 4 → Nat :=
  let c1_i32_959 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1295 : BitVec 32 := Scalar.subi c1_i32_959 v2
  let v1296 : Index := Scalar.indexCast v1295
  let c0_960 : Index := 0#32
  let c5_961 : Index := 5#32
  let c0_962 : Index := 0#32
  ![v1296.toNat, 0, 5, 0]
def k0_off89 (d0 : Dev nD) : Fin 4 → Nat :=
  let c1_i32_965 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1302 : BitVec 32 := Scalar.subi c1_i32_965 v2
  let v1303 : Index := Scalar.indexCast v1302
  let c0_966 : Index := 0#32
  let c6_967 : Index := 6#32
  let c0_968 : Index := 0#32
  ![v1303.toNat, 0, 6, 0]
def k0_off90 (d0 : Dev nD) : Fin 4 → Nat :=
  let c1_i32_971 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1309 : BitVec 32 := Scalar.subi c1_i32_971 v2
  let v1310 : Index := Scalar.indexCast v1309
  let c0_972 : Index := 0#32
  let c7_973 : Index := 7#32
  let c0_974 : Index := 0#32
  ![v1310.toNat, 0, 7, 0]
abbrev stage0_0 : Fin 1 → Memref sig .tc .vmem S2x512x8x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x512x8x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x512x8x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x512x8x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S2x2048x8x64 : Shape := ⟨4, ![2, 2048, 8, 64]⟩
abbrev S2x8x2048x2048 : Shape := ⟨4, ![2, 8, 2048, 2048]⟩
abbrev S_ : Shape := ⟨0, ![]⟩
abbrev S2x8x2048 : Shape := ⟨3, ![2, 8, 2048]⟩
abbrev S2x8x2048x1 : Shape := ⟨4, ![2, 8, 2048, 1]⟩
abbrev S2x8x64x2048 : Shape := ⟨4, ![2, 8, 64, 2048]⟩

abbrev nBuf : Space → Nat
  | .hbm => 20
  | .vmem => 0
  | .smem => 0
  | _ => 0

abbrev bufTy : (tb : Table) → Fin (tcTables nBuf tb) → BufTy
  | .hbm, ⟨0, _⟩ => ⟨S2x2048x8x64, .f32⟩
  | .hbm, ⟨1, _⟩ => ⟨S2x2048x8x64, .f32⟩
  | .hbm, ⟨2, _⟩ => ⟨S2x2048x8x64, .f32⟩
  | .hbm, ⟨3, _⟩ => ⟨S2x8x2048x2048, .f32⟩
  | .hbm, ⟨4, _⟩ => ⟨S_, .f32⟩
  | .hbm, ⟨5, _⟩ => ⟨S2x8x2048x2048, .f32⟩
  | .hbm, ⟨6, _⟩ => ⟨S2x8x2048x2048, .f32⟩
  | .hbm, ⟨7, _⟩ => ⟨S_, .f32⟩
  | .hbm, ⟨8, _⟩ => ⟨S2x8x2048, .f32⟩
  | .hbm, ⟨9, _⟩ => ⟨S2x8x2048x1, .f32⟩
  | .hbm, ⟨10, _⟩ => ⟨S2x8x2048x2048, .f32⟩
  | .hbm, ⟨11, _⟩ => ⟨S2x8x2048x2048, .f32⟩
  | .hbm, ⟨12, _⟩ => ⟨S2x8x2048x2048, .f32⟩
  | .hbm, ⟨13, _⟩ => ⟨S_, .f32⟩
  | .hbm, ⟨14, _⟩ => ⟨S2x8x2048, .f32⟩
  | .hbm, ⟨15, _⟩ => ⟨S2x8x2048x1, .f32⟩
  | .hbm, ⟨16, _⟩ => ⟨S2x8x2048x2048, .f32⟩
  | .hbm, ⟨17, _⟩ => ⟨S2x8x2048x2048, .f32⟩
  | .hbm, ⟨18, _⟩ => ⟨S2x8x64x2048, .f32⟩
  | .hbm, ⟨19, _⟩ => ⟨S2x2048x8x64, .f32⟩
  | _, _ => ⟨S2x2048x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Proof.Tiles.lean ====
/-
# Buffers filled tile by tile

The kernel fills each of its buffers one head at a time: a 512 × 64 column block of a 512 × 512 buffer, a column of the
512 × 8 buffer of row sums, a row `[b, :, h, :]` of a `[2, 512, 8, 64]` block, a block `[y, t, :, 64h : 64h + 64]` of the
gathered keys and values. A buffer of which the heads below `n` are filled is written here as one function of the index
(`colsMix`, `sumsMix`, `rowMix`, `kvMix`); a store turns the function at `n` into the function at `n + 1`, and a load of a
filled tile gives the tile.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pipeline.Value
public import Idealize.ShloMosaic.Lib.Pipeline.ValueKit.Geometry
public import Idealize.ShloMosaic.Lib.Pointwise.Index
public import Idealize.ShloMosaic.Lib.Tactic

@[expose] public section

noncomputable section

namespace Cert.AllToAll

open Cert.KernelIdeal Cert.KernelIdeal.Gen
open Idealize.ShloMosaic

variable {α : Type}

/-! ## Column blocks of a 512 × 512 buffer -/

/-- The heads `lo ≤ h < n` hold the tiles `T h`, everything else what it held. -/
def colsMix (lo n : ℕ) (T : ℕ → S512x64.Idx → α) (old : S512x512.Idx → α) : S512x512.Idx → α := fun i =>
  if lo ≤ (i 1).val / 64 ∧ (i 1).val / 64 < n then
    T ((i 1).val / 64) (ix2 (n0 := 512) (n1 := 64) (i 0) ⟨(i 1).val % 64, Nat.mod_lt _ (by decide)⟩)
  else old i

/-- All eight heads hold their tiles. -/
def cols (T : ℕ → S512x64.Idx → α) : S512x512.Idx → α := fun i =>
  T ((i 1).val / 64) (ix2 (n0 := 512) (n1 := 64) (i 0) ⟨(i 1).val % 64, Nat.mod_lt _ (by decide)⟩)

theorem colsMix_start (lo : ℕ) (T : ℕ → S512x64.Idx → α) (old : S512x512.Idx → α) : colsMix lo lo T old = old := by
  funext i; unfold colsMix; rw [if_neg (by omega)]

theorem colsMix_full (T : ℕ → S512x64.Idx → α) (old : S512x512.Idx → α) : colsMix 0 8 T old = cols T := by
  funext i; unfold colsMix cols
  have h1 : (i 1).val < 512 := (i 1).isLt
  rw [if_pos (by omega)]

theorem colsMix_eq (lo n : ℕ) (T : ℕ → S512x64.Idx → α) (old : S512x512.Idx → α) (i : S512x512.Idx)
    (h : lo ≤ (i 1).val / 64 ∧ (i 1).val / 64 < n) : colsMix lo n T old i = cols T i := by
  unfold colsMix cols; rw [if_pos h]

theorem colsMix_old (n : ℕ) (T : ℕ → S512x64.Idx → α) (old : S512x512.Idx → α) (i : S512x512.Idx)
    (h : n ≤ (i 1).val / 64) : colsMix 0 n T old i = old i := by
  unfold colsMix; rw [if_neg (by omega)]

theorem colsMix_store (lo n : ℕ) (T : ℕ → S512x64.Idx → α) (old : S512x512.Idx → α) (hlo : lo ≤ n)
    (h : S512x512.Slices ![0, 64 * n] S512x64) :
    updateSlice (colsMix lo n T old) (T n) ![0, 64 * n] h = colsMix lo (n + 1) T old := by
  funext i
  have h0 : (i 0).val < 512 := (i 0).isLt
  have h1 : (i 1).val < 512 := (i 1).isLt
  unfold updateSlice colsMix
  by_cases hn : (i 1).val / 64 = n
  · subst hn
    rw [dif_pos (Fin.forall_fin_two.mpr ⟨⟨Nat.zero_le _, (Nat.zero_add 512).symm ▸ h0⟩,
      ⟨show 64 * ((i 1).val / 64) ≤ (i 1).val by omega, show (i 1).val < 64 * ((i 1).val / 64) + 64 by omega⟩⟩), if_pos (by omega)]
    refine congrArg (T _) (funext fun b => ?_)
    match b with
    | ⟨0, _⟩ => rfl
    | ⟨1, _⟩ => exact Fin.ext (show (i 1).val - 64 * ((i 1).val / 64) = (i 1).val % 64 by omega)
  · rw [dif_neg (fun hc => by
      have hc1 := hc 1
      have h2 : 64 * n ≤ (i 1).val := hc1.1
      have h3 : (i 1).val < 64 * n + 64 := hc1.2
      omega)]
    by_cases hm : lo ≤ (i 1).val / 64 ∧ (i 1).val / 64 < n
    · rw [if_pos hm, if_pos (by omega)]
    · rw [if_neg hm, if_neg (by omega)]

/-! ## Columns of the 512 × 8 buffer -/

def sumsMix (n : ℕ) (T : ℕ → S512x1.Idx → α) (old : S512x8.Idx → α) : S512x8.Idx → α := fun i =>
  if (i 1).val < n then T (i 1).val (ix2 (n0 := 512) (n1 := 1) (i 0) 0) else old i

theorem sumsMix_start (T : ℕ → S512x1.Idx → α) (old : S512x8.Idx → α) : sumsMix 0 T old = old := by
  funext i; unfold sumsMix; rw [if_neg (Nat.not_lt_zero _)]

theorem sumsMix_old (n : ℕ) (T : ℕ → S512x1.Idx → α) (old : S512x8.Idx → α) (i : S512x8.Idx)
    (h : n ≤ (i 1).val) : sumsMix n T old i = old i := by
  unfold sumsMix; rw [if_neg (by omega)]

theorem sumsMix_store (n : ℕ) (T : ℕ → S512x1.Idx → α) (old : S512x8.Idx → α)
    (h : S512x8.Slices ![0, n] S512x1) :
    updateSlice (sumsMix n T old) (T n) ![0, n] h = sumsMix (n + 1) T old := by
  funext i
  have h0 : (i 0).val < 512 := (i 0).isLt
  unfold updateSlice sumsMix
  by_cases hn : (i 1).val = n
  · subst hn
    rw [dif_pos (Fin.forall_fin_two.mpr ⟨⟨Nat.zero_le _, (Nat.zero_add 512).symm ▸ h0⟩,
      ⟨show (i 1).val ≤ (i 1).val by omega, show (i 1).val < (i 1).val + 1 by omega⟩⟩), if_pos (by omega)]
    refine congrArg (T _) (funext fun b => ?_)
    match b with
    | ⟨0, _⟩ => rfl
    | ⟨1, _⟩ => exact Fin.ext (show (i 1).val - (i 1).val = 0 by omega)
  · rw [dif_neg (fun hc => by
      have hc1 := hc 1
      have h2 : n ≤ (i 1).val := hc1.1
      have h3 : (i 1).val < n + 1 := hc1.2
      omega)]
    by_cases hm : (i 1).val < n
    · rw [if_pos hm, if_pos (by omega)]
    · rw [if_neg hm, if_neg (by omega)]

/-! ## Rows of a `[2, 512, 8, 64]` block -/

def rowMix (b n : ℕ) (T : ℕ → S1x512x1x64.Idx → α) (old : S2x512x8x64.Idx → α) : S2x512x8x64.Idx → α := fun i =>
  if (i 0).val = b ∧ (i 2).val < n then
    T (i 2).val (ix4 (n0 := 1) (n1 := 512) (n2 := 1) (n3 := 64) 0 (i 1) 0 (i 3))
  else old i

theorem rowMix_start (b : ℕ) (T : ℕ → S1x512x1x64.Idx → α) (old : S2x512x8x64.Idx → α) : rowMix b 0 T old = old := by
  funext i; unfold rowMix; rw [if_neg (by omega)]

theorem fin4_all {P : Fin 4 → Prop} (h0 : P 0) (h1 : P 1) (h2 : P 2) (h3 : P 3) : ∀ a, P a := fun a => by
  match a with
  | ⟨0, _⟩ => exact h0
  | ⟨1, _⟩ => exact h1
  | ⟨2, _⟩ => exact h2
  | ⟨3, _⟩ => exact h3

theorem rowMix_store (b n : ℕ) (T : ℕ → S1x512x1x64.Idx → α) (old : S2x512x8x64.Idx → α)
    (h : S2x512x8x64.Slices ![b, 0, n, 0] S1x512x1x64) :
    updateSlice (rowMix b n T old) (T n) ![b, 0, n, 0] h = rowMix b (n + 1) T old := by
  funext i
  have h0 : (i 0).val < 2 := (i 0).isLt
  have h1 : (i 1).val < 512 := (i 1).isLt
  have h2 : (i 2).val < 8 := (i 2).isLt
  have h3 : (i 3).val < 64 := (i 3).isLt
  unfold updateSlice rowMix
  by_cases hn : (i 0).val = b ∧ (i 2).val = n
  · obtain ⟨rfl, rfl⟩ := hn
    rw [dif_pos (fin4_all (show (i 0).val ≤ (i 0).val ∧ (i 0).val < (i 0).val + 1 by omega) (show 0 ≤ (i 1).val ∧ (i 1).val < 0 + 512 by omega)
      (show (i 2).val ≤ (i 2).val ∧ (i 2).val < (i 2).val + 1 by omega) (show 0 ≤ (i 3).val ∧ (i 3).val < 0 + 64 by omega)),
      if_pos (by omega)]
    refine congrArg (T _) (funext fun a => ?_)
    match a with
    | ⟨0, _⟩ => exact Fin.ext (show (i 0).val - (i 0).val = 0 by omega)
    | ⟨1, _⟩ => rfl
    | ⟨2, _⟩ => exact Fin.ext (show (i 2).val - (i 2).val = 0 by omega)
    | ⟨3, _⟩ => rfl
  · rw [dif_neg (fun hc => by
      have e0 : b ≤ (i 0).val ∧ (i 0).val < b + 1 := hc 0
      have e2 : n ≤ (i 2).val ∧ (i 2).val < n + 1 := hc 2
      omega)]
    by_cases hm : (i 0).val = b ∧ (i 2).val < n
    · rw [if_pos hm, if_pos (by omega)]
    · rw [if_neg hm, if_neg (by omega)]

/-- The row `[b, :, h, :]` of a block (heads counted modulo 8). -/
def rowT (X : S2x512x8x64.Idx → α) (b : Fin 2) (h : ℕ) : S1x512x1x64.Idx → α := fun i =>
  X (ix4 (n0 := 2) (n1 := 512) (n2 := 8) (n3 := 64) b (i 1) ⟨h % 8, Nat.mod_lt _ (by decide)⟩ (i 3))

/-! ## The slabs of keys and values -/

/-- In slab `y` the heads below `nk` of the keys and the heads below `nv` of the values are in place. -/
def kvMix (y nk nv : ℕ) (T : ℕ → ℕ → S1x1x512x64.Idx → α) (old : S4x2x512x512.Idx → α) : S4x2x512x512.Idx → α := fun i =>
  if (i 0).val = y ∧ (((i 1).val = 0 ∧ (i 3).val / 64 < nk) ∨ ((i 1).val = 1 ∧ (i 3).val / 64 < nv)) then
    T (i 1).val ((i 3).val / 64) (ix4 (n0 := 1) (n1 := 1) (n2 := 512) (n3 := 64) 0 0 (i 2) ⟨(i 3).val % 64, Nat.mod_lt _ (by decide)⟩)
  else old i

theorem kvMix_start (y : ℕ) (T : ℕ → ℕ → S1x1x512x64.Idx → α) (old : S4x2x512x512.Idx → α) : kvMix y 0 0 T old = old := by
  funext i; unfold kvMix; rw [if_neg (by omega)]

/-- The store of a key tile (`t = 0`) or of a value tile (`t = 1`), in the form both share. -/
theorem kvMix_store_of (y n t nk nv nk' nv' : ℕ) (T : ℕ → ℕ → S1x1x512x64.Idx → α) (old : S4x2x512x512.Idx → α)
    (ht : (t = 0 ∧ nk = n ∧ nk' = n + 1 ∧ nv' = nv) ∨ (t = 1 ∧ nv = n ∧ nv' = n + 1 ∧ nk' = nk))
    (h : S4x2x512x512.Slices ![y, t, 0, 64 * n] S1x1x512x64) :
    updateSlice (kvMix y nk nv T old) (T t n) ![y, t, 0, 64 * n] h = kvMix y nk' nv' T old := by
  funext i
  have h0 : (i 0).val < 4 := (i 0).isLt
  have h1 : (i 1).val < 2 := (i 1).isLt
  have h2 : (i 2).val < 512 := (i 2).isLt
  have h3 : (i 3).val < 512 := (i 3).isLt
  unfold updateSlice kvMix
  by_cases hn : (i 0).val = y ∧ (i 1).val = t ∧ (i 3).val / 64 = n
  · obtain ⟨rfl, rfl, rfl⟩ := hn
    rw [dif_pos (fin4_all (show (i 0).val ≤ (i 0).val ∧ (i 0).val < (i 0).val + 1 by omega) (show (i 1).val ≤ (i 1).val ∧ (i 1).val < (i 1).val + 1 by omega)
      (show 0 ≤ (i 2).val ∧ (i 2).val < 0 + 512 by omega)
      (show 64 * ((i 3).val / 64) ≤ (i 3).val ∧ (i 3).val < 64 * ((i 3).val / 64) + 64 by omega)),
      if_pos (by omega)]
    refine congrArg (T _ _) (funext fun a => ?_)
    match a with
    | ⟨0, _⟩ => exact Fin.ext (show (i 0).val - (i 0).val = 0 by omega)
    | ⟨1, _⟩ => exact Fin.ext (show (i 1).val - (i 1).val = 0 by omega)
    | ⟨2, _⟩ => rfl
    | ⟨3, _⟩ => exact Fin.ext (show (i 3).val - 64 * ((i 3).val / 64) = (i 3).val % 64 by omega)
  · rw [dif_neg (fun hc => by
      have e0 : y ≤ (i 0).val ∧ (i 0).val < y + 1 := hc 0
      have e1 : t ≤ (i 1).val ∧ (i 1).val < t + 1 := hc 1
      have e3 : 64 * n ≤ (i 3).val ∧ (i 3).val < 64 * n + 64 := hc 3
      omega)]
    by_cases hm : (i 0).val = y ∧ (((i 1).val = 0 ∧ (i 3).val / 64 < nk) ∨ ((i 1).val = 1 ∧ (i 3).val / 64 < nv))
    · rw [if_pos hm, if_pos (by omega)]
    · rw [if_neg hm, if_neg (by omega)]

/-! ## The same through the views of the program's loads and stores -/

variable {F : FTy → Type}

theorem write_out (b n : ℕ) (T : ℕ → S1x512x1x64.Idx → Elt F .f32) (old : S2x512x8x64.Idx → Elt F .f32)
    {off : Fin 4 → ℕ} (inb) (ho : off = ![b, 0, n, 0]) :
    ((Memref.whole cc0_stg3_0).access (Rect.unit (s := S2x512x8x64) off S1x512x1x64.size inb)).write (Elt F) (rowMix b n T old) (T n) Finset.univ
      = rowMix b (n + 1) T old := by
  subst ho
  exact (View.write_whole_slice_unit _ _ _ _ _ _).trans (rowMix_store b n T old ⟨rfl, inb⟩)

theorem write_kv (y n t nk nv nk' nv' : ℕ) (T : ℕ → ℕ → S1x1x512x64.Idx → Elt F .bf16) (old : S4x2x512x512.Idx → Elt F .bf16)
    (ht : (t = 0 ∧ nk = n ∧ nk' = n + 1 ∧ nv' = nv) ∨ (t = 1 ∧ nv = n ∧ nv' = n + 1 ∧ nk' = nk))
    {off : Fin 4 → ℕ} (inb) (ho : off = ![y, t, 0, 64 * n]) :
    ((Memref.whole cc0_scratch0).access (Rect.unit (s := S4x2x512x512) off S1x1x512x64.size inb)).write (Elt F) (kvMix y nk nv T old) (T t n) Finset.univ
      = kvMix y nk' nv' T old := by
  subst ho
  exact (View.write_whole_slice_unit _ _ _ _ _ _).trans (kvMix_store_of y n t nk nv nk' nv' T old ht ⟨rfl, inb⟩)

theorem write_acc (n : ℕ) (T : ℕ → S512x64.Idx → Elt F .f32) (old : S512x512.Idx → Elt F .f32)
    {off : Fin 2 → ℕ} (inb) (ho : off = ![0, 64 * n]) :
    ((Memref.whole cc0_scratch1).access (Rect.unit (s := S512x512) off S512x64.size inb)).write (Elt F) (colsMix 0 n T old) (T n) Finset.univ
      = colsMix 0 (n + 1) T old := by
  subst ho
  exact (View.write_whole_slice_unit _ _ _ _ _ _).trans (colsMix_store 0 n T old (Nat.zero_le _) ⟨rfl, inb⟩)

theorem write_sums (n : ℕ) (T : ℕ → S512x1.Idx → Elt F .f32) (old : S512x8.Idx → Elt F .f32)
    {off : Fin 2 → ℕ} (inb) (ho : off = ![0, n]) :
    ((Memref.whole cc0_scratch2).access (Rect.unit (s := S512x8) off S512x1.size inb)).write (Elt F) (sumsMix n T old) (T n) Finset.univ
      = sumsMix (n + 1) T old := by
  subst ho
  exact (View.write_whole_slice_unit _ _ _ _ _ _).trans (sumsMix_store n T old ⟨rfl, inb⟩)

theorem write_send (lo n : ℕ) (T : ℕ → S512x64.Idx → Elt F .bf16) (old : S512x512.Idx → Elt F .bf16) (hlo : lo ≤ n)
    {off : Fin 2 → ℕ} (inb) (ho : off = ![0, 64 * n]) :
    ((Memref.whole cc0_scratch3).access (Rect.unit (s := S512x512) off S512x64.size inb)).write (Elt F) (colsMix lo n T old) (T n) Finset.univ
      = colsMix lo (n + 1) T old := by
  subst ho
  exact (View.write_whole_slice_unit _ _ _ _ _ _).trans (colsMix_store lo n T old hlo ⟨rfl, inb⟩)

section Rows
variable (X : S2x512x8x64.Idx → Elt F .f32) (b : Fin 2) (h : ℕ) (hh : h < 8) {off : Fin 4 → ℕ} (ho : off = ![b.val, 0, h, 0])
include hh ho

theorem rowT_at (i : S1x512x1x64.Idx) (j : S2x512x8x64.Idx) (hj : ∀ a, (j a).val = off a + (i a).val) : X j = rowT X b h i := by
  subst ho
  have i0 : (i 0).val < 1 := (i 0).isLt
  have i2 : (i 2).val < 1 := (i 2).isLt
  refine congrArg X (funext fun a => Fin.ext ?_)
  match a with
  | ⟨0, _⟩ => exact (hj 0).trans (show b.val + (i 0).val = b.val by omega)
  | ⟨1, _⟩ => exact (hj 1).trans (show 0 + (i 1).val = (i 1).val by omega)
  | ⟨2, _⟩ => exact (hj 2).trans (show h + (i 2).val = h % 8 by omega)
  | ⟨3, _⟩ => exact (hj 3).trans (show 0 + (i 3).val = (i 3).val by omega)

theorem read_q (inb) :
    (Memref.whole cc0_stg0_0).view.readAt (Elt F) (Rect.unit (s := S2x512x8x64) off S1x512x1x64.size inb).toLoadRect X = rowT X b h :=
  funext fun i => rowT_at X b h hh ho i _ fun a => ValueKit.rect_emb_unit_val _ _ _ _ _
theorem read_k (inb) :
    (Memref.whole cc0_stg1_0).view.readAt (Elt F) (Rect.unit (s := S2x512x8x64) off S1x512x1x64.size inb).toLoadRect X = rowT X b h :=
  funext fun i => rowT_at X b h hh ho i _ fun a => ValueKit.rect_emb_unit_val _ _ _ _ _
theorem read_v (inb) :
    (Memref.whole cc0_stg2_0).view.readAt (Elt F) (Rect.unit (s := S2x512x8x64) off S1x512x1x64.size inb).toLoadRect X = rowT X b h :=
  funext fun i => rowT_at X b h hh ho i _ fun a => ValueKit.rect_emb_unit_val _ _ _ _ _
end Rows

/-- The gathered keys and values: slab `o` holds the tiles `T o`. -/
def kvOf (T : Fin 4 → ℕ → ℕ → S1x1x512x64.Idx → α) : S4x2x512x512.Idx → α := fun i =>
  T (i 0) (i 1).val ((i 3).val / 64) (ix4 (n0 := 1) (n1 := 1) (n2 := 512) (n3 := 64) 0 0 (i 2) ⟨(i 3).val % 64, Nat.mod_lt _ (by decide)⟩)

theorem kvMix_full (y : Fin 4) (T : Fin 4 → ℕ → ℕ → S1x1x512x64.Idx → α) (old : S4x2x512x512.Idx → α) (i : S4x2x512x512.Idx)
    (hi : i 0 = y) : kvMix y.val 8 8 (T y) old i = kvOf T i := by
  have h1 : (i 1).val < 2 := (i 1).isLt
  have h3 : (i 3).val < 512 := (i 3).isLt
  unfold kvMix kvOf; rw [if_pos ⟨congrArg Fin.val hi, by omega⟩, hi]

theorem read_kv (T : Fin 4 → ℕ → ℕ → S1x1x512x64.Idx → Elt F .bf16) (o : Fin 4) (t : Fin 2) (h : ℕ) {off : Fin 4 → ℕ} (inb)
    (ho : off = ![o.val, t.val, 0, 64 * h]) :
    (Memref.whole cc0_scratch0).view.readAt (Elt F) (Rect.unit (s := S4x2x512x512) off S1x1x512x64.size inb).toLoadRect (kvOf T) = T o t.val h := by
  subst ho
  funext i
  have i0 : (i 0).val < 1 := (i 0).isLt
  have i1 : (i 1).val < 1 := (i 1).isLt
  have i3 : (i 3).val < 64 := (i 3).isLt
  show kvOf T ((Rect.unit (s := S4x2x512x512) ![o.val, t.val, 0, 64 * h] S1x1x512x64.size inb).emb i) = _
  generalize hj : (Rect.unit (s := S4x2x512x512) ![o.val, t.val, 0, 64 * h] S1x1x512x64.size inb).emb i = j
  have e (a) : (j a).val = (![o.val, t.val, 0, 64 * h] : Fin 4 → ℕ) a + (i a).val := by
    rw [← hj]; exact ValueKit.rect_emb_unit_val _ _ _ _ _
  have e0 : j 0 = o := Fin.ext ((e 0).trans (show o.val + (i 0).val = o.val by omega))
  have e1 : (j 1).val = t.val := (e 1).trans (show t.val + (i 1).val = t.val by omega)
  have e2 : (j 2).val = (i 2).val := (e 2).trans (show 0 + (i 2).val = (i 2).val by omega)
  have e3 : (j 3).val = 64 * h + (i 3).val := e 3
  unfold kvOf
  rw [e0, e1, show (j 3).val / 64 = h by omega]
  refine congrArg (T o t.val h) (funext fun a => Fin.ext ?_)
  match a with
  | ⟨0, _⟩ => exact (show 0 = (i 0).val by omega)
  | ⟨1, _⟩ => exact (show 0 = (i 1).val by omega)
  | ⟨2, _⟩ => exact e2
  | ⟨3, _⟩ => exact (show (j 3).val % 64 = (i 3).val by omega)

section Cols
variable (h : ℕ) {off : Fin 2 → ℕ} (ho : off = ![0, 64 * h])
include ho

theorem cols_at (T : ℕ → S512x64.Idx → α) (i : S512x64.Idx) (j : S512x512.Idx) (hj : ∀ a, (j a).val = off a + (i a).val) :
    (j 1).val / 64 = h ∧ cols T j = T h i := by
  subst ho
  have i1 : (i 1).val < 64 := (i 1).isLt
  have e0 : (j 0).val = (i 0).val := (hj 0).trans (Nat.zero_add _)
  have e1 : (j 1).val = 64 * h + (i 1).val := hj 1
  refine ⟨by omega, ?_⟩
  unfold cols
  rw [show (j 1).val / 64 = h by omega]
  refine congrArg (T h) (funext fun a => Fin.ext ?_)
  match a with
  | ⟨0, _⟩ => exact e0
  | ⟨1, _⟩ => exact (show (j 1).val % 64 = (i 1).val by omega)

theorem read_acc (n : ℕ) (T : ℕ → S512x64.Idx → Elt F .f32) (old : S512x512.Idx → Elt F .f32) (hn : h < n) (inb) :
    (Memref.whole cc0_scratch1).view.readAt (Elt F) (Rect.unit (s := S512x512) off S512x64.size inb).toLoadRect (colsMix 0 n T old) = T h := by
  funext i
  have hc := cols_at h ho T i ((Rect.unit (s := S512x512) off S512x64.size inb).emb i) fun a => ValueKit.rect_emb_unit_val _ _ _ _ _
  exact (colsMix_eq 0 n T old _ ⟨Nat.zero_le _, hc.1.symm ▸ hn⟩).trans hc.2

/-- Before head `h` of the next pass is stored it still holds what the last pass left. -/
theorem read_acc_old (n : ℕ) (T T' : ℕ → S512x64.Idx → Elt F .f32) (hn : n ≤ h) (inb) :
    (Memref.whole cc0_scratch1).view.readAt (Elt F) (Rect.unit (s := S512x512) off S512x64.size inb).toLoadRect (colsMix 0 n T' (cols T)) = T h := by
  funext i
  have hc := cols_at h ho T i ((Rect.unit (s := S512x512) off S512x64.size inb).emb i) fun a => ValueKit.rect_emb_unit_val _ _ _ _ _
  exact (colsMix_old n T' (cols T) _ (hc.1.symm ▸ hn)).trans hc.2

theorem read_recv (T : ℕ → S512x64.Idx → Elt F .bf16) (inb) :
    (Memref.whole cc0_scratch4).view.readAt (Elt F) (Rect.unit (s := S512x512) off S512x64.size inb).toLoadRect (cols T) = T h := by
  funext i
  exact (cols_at h ho T i ((Rect.unit (s := S512x512) off S512x64.size inb).emb i) fun a => ValueKit.rect_emb_unit_val _ _ _ _ _).2

end Cols

/-- All eight columns in place. -/
def sums (T : ℕ → S512x1.Idx → α) : S512x8.Idx → α := fun i => T (i 1).val (ix2 (n0 := 512) (n1 := 1) (i 0) 0)

theorem sumsMix_full (T : ℕ → S512x1.Idx → α) (old : S512x8.Idx → α) : sumsMix 8 T old = sums T := by
  funext i; unfold sumsMix sums
  have h1 : (i 1).val < 8 := (i 1).isLt
  rw [if_pos h1]

section Sums
variable (h : ℕ) {off : Fin 2 → ℕ} (ho : off = ![0, h])
include ho

theorem sums_at (T : ℕ → S512x1.Idx → α) (i : S512x1.Idx) (j : S512x8.Idx) (hj : ∀ a, (j a).val = off a + (i a).val) :
    (j 1).val = h ∧ sums T j = T h i := by
  subst ho
  have i1 : (i 1).val < 1 := (i 1).isLt
  have e0 : (j 0).val = (i 0).val := (hj 0).trans (Nat.zero_add _)
  have e1 : (j 1).val = h := (hj 1).trans (show h + (i 1).val = h by omega)
  refine ⟨e1, ?_⟩
  unfold sums
  rw [e1]
  refine congrArg (T h) (funext fun a => Fin.ext ?_)
  match a with
  | ⟨0, _⟩ => exact e0
  | ⟨1, _⟩ => exact (show 0 = (i 1).val by omega)

theorem read_sums (T : ℕ → S512x1.Idx → Elt F .f32) (inb) :
    (Memref.whole cc0_scratch2).view.readAt (Elt F) (Rect.unit (s := S512x8) off S512x1.size inb).toLoadRect (sums T) = T h := by
  funext i
  exact (sums_at h ho T i ((Rect.unit (s := S512x8) off S512x1.size inb).emb i) fun a => ValueKit.rect_emb_unit_val _ _ _ _ _).2

theorem read_sums_old (n : ℕ) (T T' : ℕ → S512x1.Idx → Elt F .f32) (hn : n ≤ h) (inb) :
    (Memref.whole cc0_scratch2).view.readAt (Elt F) (Rect.unit (s := S512x8) off S512x1.size inb).toLoadRect (sumsMix n T' (sums T)) = T h := by
  funext i
  have hc := sums_at h ho T i ((Rect.unit (s := S512x8) off S512x1.size inb).emb i) fun a => ValueKit.rect_emb_unit_val _ _ _ _ _
  exact (sumsMix_old n T' (sums T) _ (hc.1.symm ▸ hn)).trans hc.2

end Sums

end Cert.AllToAll

end
-- ==== Proof.Protocol.lean ====
/-
# The protocol

Mesh x = 2, y = 4, z = 4, device `16x + 4y + z`. Every semaphore has one round.

* The barrier semaphore of a device is raised by one unit by each of its three y peers and by its x mate, and the device waits for
  four. A y peer's unit carries the peer's slab of this device's y position (the place this device's keys and values are copied
  to); the mate's unit carries both halves of the mate's receive buffer.
* A `y_send` semaphore is raised when the copy of the device's own slab to one peer has left it: a third share of the slab.
* A `y_recv` semaphore is raised when a peer's slab has landed: the slab, holding the peer's keys and values of batch x.
* An `x_send` semaphore is raised when the copy of one half of the send buffer has left: that half.
* An `x_recv` semaphore is raised when the mate's half has landed: that half of the receive buffer, holding the mate's result.

Waits go up the levels: barrier 1, `y_recv` 2, `x_recv` 3; the send semaphores are waited for when nothing is owed any more.
-/
module

public import proofs.«01_k».proof.Proof.Tiles
public import Idealize.ShloMosaic.Lib.Ring.Trips

@[expose] public section

noncomputable section

namespace Cert.AllToAll

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (shares3 pointsTo_thirds)
open Idealize.ShloMosaic.Pipeline (Dat Cfg Window BodyObligation cellOf)

variable {F : FTy → Type} [FloatOps F]

/-- The round ghost state of this protocol beside the pipeline's; a cell's duties are named by `Fin 4`. -/
abbrev UB : Type := URounds (GSem nD τ sig) (Fin 4)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

/-! ## The devices -/

set_option backward.proofsInPublic true in
/-- The batch (the x coordinate) of a device; -/
def xN (c : Dev nD) : Fin 2 := ⟨c.val / 16 % 2, Nat.mod_lt _ (by decide)⟩
set_option backward.proofsInPublic true in
/-- its place along the sequence (the y coordinate). -/
def yN (c : Dev nD) : Fin 4 := ⟨c.val / 4 % 4, Nat.mod_lt _ (by decide)⟩
set_option backward.proofsInPublic true in
/-- The device of place `o` with the x and z of `c`. -/
def atY (o : Fin 4) (c : Dev nD) : Dev nD := ⟨(16 * (c.val / 16) + 4 * o.val + c.val % 4) % 32, Nat.mod_lt _ (by decide)⟩
set_option backward.proofsInPublic true in
/-- The device of the other batch with the y and z of `c`. -/
def mate (c : Dev nD) : Dev nD := ⟨(c.val + 16) % 32, Nat.mod_lt _ (by decide)⟩

set_option backward.proofsInPublic true in
/-- The place of the `j`-th of the three others of place `y`, in increasing order; -/
def othY (j : Fin 3) (y : Fin 4) : Fin 4 := if j.val < y.val then ⟨j.val, by omega⟩ else ⟨j.val + 1, by omega⟩
/-- the device there; -/
def oth (j : Fin 3) (c : Dev nD) : Dev nD := atY (othY j (yN c)) c
set_option backward.proofsInPublic true in
/-- and the index under which that device knows `c`. -/
def back (j : Fin 3) (c : Dev nD) : Fin 3 := if h : j.val < (yN c).val then ⟨(yN c).val - 1, by omega⟩ else ⟨(yN c).val % 3, Nat.mod_lt _ (by decide)⟩
set_option backward.proofsInPublic true in
/-- The index of the `k`-th peer in the order in which `c` visits them. -/
def wslot (k : Fin 3) (c : Dev nD) : Fin 3 := if (yN c).val ≤ 1 then k else if (yN c).val = 2 then k + 1 else 2 - k
/-- The `k`-th peer; -/
def peer (k : Fin 3) (c : Dev nD) : Dev nD := oth (wslot k c) c
/-- the index under which it knows `c`. -/
def slot (k : Fin 3) (c : Dev nD) : Fin 3 := back (wslot k c) c

theorem mate_mate : ∀ c : Dev nD, mate (mate c) = c := by decide +kernel
theorem oth_back : ∀ (j : Fin 3) (c : Dev nD), oth (back j c) (oth j c) = c := by decide +kernel
theorem back_back : ∀ (j : Fin 3) (c : Dev nD), back (back j c) (oth j c) = j := by decide +kernel
theorem oth_slot (k : Fin 3) (c : Dev nD) : oth (slot k c) (peer k c) = c := oth_back _ _
theorem yN_atY : ∀ (o : Fin 4) (c : Dev nD), yN (atY o c) = o := by decide +kernel
theorem xN_atY : ∀ (o : Fin 4) (c : Dev nD), xN (atY o c) = xN c := by decide +kernel
theorem atY_atY : ∀ (o o' : Fin 4) (c : Dev nD), atY o (atY o' c) = atY o c := by decide +kernel
theorem atY_self : ∀ c : Dev nD, atY (yN c) c = c := by decide +kernel
theorem xN_mate : ∀ c : Dev nD, (xN (mate c)).val = 1 - (xN c).val := by decide +kernel
theorem atY_yN_oth (j : Fin 3) (c : Dev nD) : atY (yN (oth j c)) c = oth j c := by unfold oth; rw [yN_atY]
theorem wslot_bij : ∀ c : Dev nD, Function.Bijective fun k => wslot k c := by decide +kernel
/-- Together with its own, the places of the three peers are all four. -/
theorem places : ∀ (c : Dev nD) (y : Fin 4), y = yN c ∨ y = yN (peer 0 c) ∨ y = yN (peer 1 c) ∨ y = yN (peer 2 c) := by decide +kernel
theorem places_ne : ∀ c : Dev nD, yN c ≠ yN (peer 0 c) ∧ yN c ≠ yN (peer 1 c) ∧ yN c ≠ yN (peer 2 c)
    ∧ yN (peer 0 c) ≠ yN (peer 1 c) ∧ yN (peer 0 c) ≠ yN (peer 2 c) ∧ yN (peer 1 c) ≠ yN (peer 2 c) := by decide +kernel

/-- Paying is a permutation: the `k`-th peer of `c` is paid under `slot k c`. -/
def pay : Fin 3 × Dev nD → Fin 3 × Dev nD := fun p => (slot p.1 p.2, peer p.1 p.2)
theorem pay_injective : Function.Injective pay := by
  rintro ⟨k, c⟩ ⟨k', c'⟩ h
  have h1 : slot k c = slot k' c' := congrArg Prod.fst h
  have h2 : peer k c = peer k' c' := congrArg Prod.snd h
  have hc : c = c' := by rw [← oth_slot k c, ← oth_slot k' c', h1, h2]
  subst hc
  have hw : wslot k c = wslot k' c := by
    have e1 : back (slot k c) (peer k c) = wslot k c := back_back _ _
    have e2 : back (slot k' c) (peer k' c) = wslot k' c := back_back _ _
    rw [← e1, ← e2, h1, h2]
  rw [(wslot_bij c).1 hw]
def payE : Fin 3 × Dev nD ≃ Fin 3 × Dev nD := Equiv.ofBijective pay (Finite.injective_iff_bijective.mp pay_injective)
def mateE : Dev nD ≃ Dev nD := ⟨mate, mate, mate_mate, mate_mate⟩

/-! ## The cells -/

/-- The runtime's barrier semaphore of collective id 0. -/
abbrev barS : Sem sig := (SemArray.scalar (sig.barrier 0 rfl) : Sems sig S_).sem
abbrev ySendS : Fin 3 → DmaSem sig
  | 0 => ((cc0_scratch5.slice (Rect.unit (s := S3) ![0] S1.size inb_S3_S1_0)).squeeze S_ squeezes_S1_S_).sem
  | 1 => ((cc0_scratch5.slice (Rect.unit (s := S3) ![1] S1.size inb_S3_S1_1)).squeeze S_ squeezes_S1_S_).sem
  | 2 => ((cc0_scratch5.slice (Rect.unit (s := S3) ![2] S1.size inb_S3_S1_2)).squeeze S_ squeezes_S1_S_).sem
abbrev yRecvS : Fin 3 → DmaSem sig
  | 0 => ((cc0_scratch6.slice (Rect.unit (s := S3) ![0] S1.size inb_S3_S1_0)).squeeze S_ squeezes_S1_S_).sem
  | 1 => ((cc0_scratch6.slice (Rect.unit (s := S3) ![1] S1.size inb_S3_S1_1)).squeeze S_ squeezes_S1_S_).sem
  | 2 => ((cc0_scratch6.slice (Rect.unit (s := S3) ![2] S1.size inb_S3_S1_2)).squeeze S_ squeezes_S1_S_).sem
abbrev xSendS : Fin 2 → DmaSem sig
  | 0 => ((cc0_scratch7.slice (Rect.unit (s := S2) ![0] S1.size inb_S2_S1_0)).squeeze S_ squeezes_S1_S_).sem
  | 1 => ((cc0_scratch7.slice (Rect.unit (s := S2) ![1] S1.size inb_S2_S1_1)).squeeze S_ squeezes_S1_S_).sem
abbrev xRecvS : Fin 2 → DmaSem sig
  | 0 => ((cc0_scratch8.slice (Rect.unit (s := S2) ![0] S1.size inb_S2_S1_0)).squeeze S_ squeezes_S1_S_).sem
  | 1 => ((cc0_scratch8.slice (Rect.unit (s := S2) ![1] S1.size inb_S2_S1_1)).squeeze S_ squeezes_S1_S_).sem

/-- The eleven semaphores of a device: barrier, `y_send`, `y_recv`, `x_send`, `x_recv`. -/
abbrev csem : Fin 11 → SemLoc sig
  | 0 => .reg barS
  | 1 => .dma (ySendS 0) | 2 => .dma (ySendS 1) | 3 => .dma (ySendS 2)
  | 4 => .dma (yRecvS 0) | 5 => .dma (yRecvS 1) | 6 => .dma (yRecvS 2)
  | 7 => .dma (xSendS 0) | 8 => .dma (xSendS 1)
  | 9 => .dma (xRecvS 0) | 10 => .dma (xRecvS 1)
abbrev kcell (ck : Dev nD × Fin 11) : GSem nD τ sig := ((ck.1 : Thread nD τ), csem ck.2)

abbrev kYS (k : Fin 3) : Fin 11 := ⟨1 + k.val, by omega⟩
abbrev kYR (k : Fin 3) : Fin 11 := ⟨4 + k.val, by omega⟩
abbrev kXS (h : Fin 2) : Fin 11 := ⟨7 + h.val, by omega⟩
abbrev kXR (h : Fin 2) : Fin 11 := ⟨9 + h.val, by omega⟩

theorem csem_YS : ∀ k, csem (kYS k) = .dma (ySendS k) := by decide
theorem csem_YR : ∀ k, csem (kYR k) = .dma (yRecvS k) := by decide
theorem csem_XS : ∀ k, csem (kXS k) = .dma (xSendS k) := by decide
theorem csem_XR : ∀ k, csem (kXR k) = .dma (xRecvS k) := by decide

/-- Which of the eleven a semaphore is. -/
def kind (s : SemLoc sig) : Option (Fin 11) := (List.finRange 11).find? fun k => decide (csem k = s)
theorem kind_csem : ∀ k, kind (csem k) = some k := by decide +kernel
theorem csem_injective : Function.Injective csem := fun a b h => Option.some.inj (by rw [← kind_csem a, ← kind_csem b, h])

theorem kcell_injective : Function.Injective (kcell : Dev nD × Fin 11 → GSem nD τ sig) := by
  rintro ⟨c, k⟩ ⟨c', k'⟩ h
  have h1 : c = c' := congrArg (fun g : GSem nD τ sig => g.1.1) h
  have h2 : k = k' := csem_injective (congrArg Prod.snd h)
  rw [h1, h2]

/-- The credit of one slab, and of one half. -/
abbrev slabV (y : Fin 4) : Memref sig .tc .vmem S2x512x512 .bf16 :=
  ((Memref.whole cc0_scratch0).slice (Rect.unit (s := S4x2x512x512) ![y.val, 0, 0, 0] S1x2x512x512.size
    (by revert y; decide)) (fun _ => rfl)).squeeze S2x512x512 squeezes_S1x2x512x512_S2x512x512
abbrev NY : ℕ := (slabV 0).view.dmaCredit
abbrev NX : ℕ := ((Memref.whole cc0_scratch4).slice (Rect.unit (s := S512x512) ![0, 0] S512x256.size inb_S512x512_S512x256_0_0) (fun _ => rfl)
  : Memref sig .tc .vmem S512x256 .bf16).view.dmaCredit
theorem NY_pos : 0 < NY := View.dmaCredit_pos _ (by decide)
theorem NX_pos : 0 < NX := View.dmaCredit_pos _ (by decide)

/-! ## The contents -/

/-- The three blocks of every device: queries, keys, values. -/
abbrev Blocks (F : FTy → Type) := Fin 3 → Dev nD → S2x512x8x64.Idx → Elt F .f32

variable (X : Blocks F)

/-- The bf16 tile of device `d` of head `h`: keys (`t = 0`) or values of its batch. -/
def kvTile (d : Dev nD) : ℕ → ℕ → S1x1x512x64.Idx → Elt F .bf16 := fun t h =>
  if t = 0 then k0_pay1 (rowT (X 1 d) (xN d) h) else k0_pay2 (rowT (X 2 d) (xN d) h)

/-- What the slabs of `c` hold in the end. -/
def kvAll (c : Dev nD) : S4x2x512x512.Idx → Elt F .bf16 := kvOf fun o => kvTile X (atY o c)

theorem kvAll_oth (j : Fin 3) (c : Dev nD) : kvAll X (oth j c) = kvAll X c := by
  unfold kvAll oth; simp only [atY_atY]

/-- The sums of the exponentials of head `h` after the device's own block and the blocks of its first `n` peers; -/
def lS (c : Dev nD) : ℕ → ℕ → S512x1.Idx → Elt F .f32
  | 0, h => k0_pay22 (rowT (X 0 c) (xN c) h) (rowT (X 1 c) (xN c) h)
  | n + 1, h => k0_pay56 (k0_pay54 (rowT (X 0 c) (xN c) h)) (kvTile X (peer ⟨n % 3, Nat.mod_lt _ (by decide)⟩ c) 0 h) (lS c n h)
/-- the weighted sums of the values. -/
def aS (c : Dev nD) : ℕ → ℕ → S512x64.Idx → Elt F .f32
  | 0, h => k0_pay23 (rowT (X 0 c) (xN c) h) (rowT (X 1 c) (xN c) h) (rowT (X 2 c) (xN c) h)
  | n + 1, h => k0_pay57 (k0_pay54 (rowT (X 0 c) (xN c) h)) (kvTile X (peer ⟨n % 3, Nat.mod_lt _ (by decide)⟩ c) 0 h)
      (kvTile X (peer ⟨n % 3, Nat.mod_lt _ (by decide)⟩ c) 1 h) (aS c n h)

/-- The device's own batch of the result, head by head; -/
def outT (c : Dev nD) : ℕ → S1x512x1x64.Idx → Elt F .f32 := fun h => k0_pay155 (aS X c 3 h) (lS X c 3 h)
/-- the same rounded, as it is sent to the mate; -/
def sendT (c : Dev nD) : ℕ → S512x64.Idx → Elt F .bf16 := fun h => k0_pay156 (aS X c 3 h) (lS X c 3 h)
/-- the other batch, as the mate sent it. -/
def otherT (c : Dev nD) : ℕ → S1x512x1x64.Idx → Elt F .f32 := fun h => k0_pay178 (sendT X (mate c) h)

/-- The result block of device `c`. -/
def outAll (c : Dev nD) : S2x512x8x64.Idx → Elt F .f32 := fun i =>
  (if (i 0).val = (xN c).val then outT X c else otherT X c) (i 2).val (ix4 (n0 := 1) (n1 := 512) (n2 := 1) (n3 := 64) 0 (i 1) 0 (i 3))

theorem outAll_eq (c : Dev nD) (old : S2x512x8x64.Idx → Elt F .f32) :
    rowMix (1 - (xN c).val) 8 (otherT X c) (rowMix (xN c).val 8 (outT X c) old) = outAll X c := by
  funext i
  have h0 : (i 0).val < 2 := (i 0).isLt
  have h2 : (i 2).val < 8 := (i 2).isLt
  have hx : (xN c).val < 2 := (xN c).isLt
  unfold rowMix outAll
  by_cases h : (i 0).val = (xN c).val
  · rw [if_neg (by omega), if_pos ⟨h, h2⟩, if_pos h]
  · rw [if_pos (by omega), if_neg h]

/-! ## The pieces of the buffers -/

def slabSet (y : Fin 4) : Finset S4x2x512x512.Idx := Finset.univ.filter fun i => (i 0).val = y.val
def halfSet (h : Fin 2) : Finset S512x512.Idx := Finset.univ.filter fun i => (i 1).val / 256 = h.val

abbrev kvPts (c : Dev nD) (y : Fin 4) (q : PosShare TreeShare) (f : S4x2x512x512.Idx → Elt F .bf16) : sProp 𝕄 :=
  (((c : Thread nD τ).loc cc0_scratch0) ↦[slabSet y]{q} f)
abbrev sendPts (c : Dev nD) (h : Fin 2) (f : S512x512.Idx → Elt F .bf16) : sProp 𝕄 :=
  (((c : Thread nD τ).loc cc0_scratch3) ↦[halfSet h]{fullShare} f)
abbrev recvPts (c : Dev nD) (h : Fin 2) (f : S512x512.Idx → Elt F .bf16) : sProp 𝕄 :=
  (((c : Thread nD τ).loc cc0_scratch4) ↦[halfSet h]{fullShare} f)

/-! ## The schedule -/

def barPay (c : Dev nD) (d : Fin 4) : sProp 𝕄 :=
  if h : d.val < 3 then iprop(∃ f, kvPts (oth ⟨d.val, h⟩ c) (yN c) fullShare f)
  else iprop((∃ f, recvPts (mate c) 0 f) ∗ (∃ f, recvPts (mate c) 1 f))

/-- What the one landing on semaphore `k` of device `c` hands over. -/
def payK (c : Dev nD) (k : Fin 11) : sProp 𝕄 :=
  if k.val < 4 then kvPts c (yN c) (shares3 fullShare ⟨(k.val + 2) % 3, Nat.mod_lt _ (by decide)⟩) (kvAll X c)
  else if k.val < 7 then kvPts c (yN (oth ⟨(k.val + 2) % 3, Nat.mod_lt _ (by decide)⟩ c)) fullShare (kvAll X c)
  else if k.val < 9 then sendPts c ⟨(k.val + 1) % 2, Nat.mod_lt _ (by decide)⟩ (cols (sendT X c))
  else recvPts c ⟨(k.val + 1) % 2, Nat.mod_lt _ (by decide)⟩ (cols (sendT X (mate c)))

/-- The amount of one landing on semaphore `k`. -/
def amt (k : Fin 11) : ℕ := if k.val = 0 then 1 else if k.val < 7 then NY else NX
theorem amt_pos (k : Fin 11) : 0 < amt k := by
  unfold amt; split
  · exact Nat.one_pos
  · split
    · exact NY_pos
    · exact NX_pos

def rd : Rounds.Schedule (GSem nD τ sig) (Fin 4) 𝕄 where
  duties g r := if r = 0 ∧ g.1.2 = .tc then (match kind g.2 with | none => ∅ | some k => if k.val = 0 then Finset.univ else {0}) else ∅
  unitless _ := False
  amount g _ _ := match kind g.2 with | none => 1 | some k => amt k
  payload g _ d := match kind g.2 with | none => iprop(emp) | some k => if k.val = 0 then barPay g.1.1 d else payK X g.1.1 k
  amount_pos g _ _ _ := by
    cases kind g.2 with
    | none => exact Nat.one_pos
    | some k => exact amt_pos k

instance rd_payload_storable (g : GSem nD τ sig) (r : ℕ) (d : Fin 4) :
    BI.Storable (upEmb : UEmb _ 𝕄) ((rd (F := F) X).payload g r d) := by
  show BI.Storable upEmb (match kind g.2 with | none => iprop(emp) | some k => if k.val = 0 then barPay g.1.1 d else payK X g.1.1 k)
  cases kind g.2 with
  | none => infer_instance
  | some k =>
    dsimp only
    unfold barPay payK
    (repeat' split) <;> infer_instance

section Sched
variable (c : Dev nD) (k : Fin 11)

theorem duties_bar : (rd X).duties (kcell (c, 0)) 0 = Finset.univ := by
  dsimp only [rd]; rw [if_pos ⟨rfl, rfl⟩, kind_csem]; rfl
theorem duties_dma (hk : k.val ≠ 0) : (rd X).duties (kcell (c, k)) 0 = {0} := by
  dsimp only [rd]; rw [if_pos ⟨rfl, rfl⟩, kind_csem]; exact if_neg hk
theorem duties_later (g : GSem nD τ sig) : ∀ r, 1 ≤ r → (rd X).duties g r = ∅ :=
  fun r hr => by dsimp only [rd]; rw [if_neg fun h => by omega]
theorem amount_eq (r : ℕ) (d : Fin 4) : (rd X).amount (kcell (c, k)) r d = amt k := by
  dsimp only [rd]; rw [kind_csem]
theorem payload_bar (r : ℕ) (d : Fin 4) : (rd X).payload (kcell (c, 0)) r d = barPay c d := by
  dsimp only [rd]; rw [kind_csem]; rfl
theorem payload_dma (hk : k.val ≠ 0) (r : ℕ) (d : Fin 4) : (rd X).payload (kcell (c, k)) r d = payK X c k := by
  dsimp only [rd]; rw [kind_csem]; exact if_neg hk
theorem expect_bar : (rd X).expect (kcell (c, 0)) 0 = 4 := by
  unfold Schedule.expect Schedule.amountOf
  rw [duties_bar, Finset.sum_congr rfl fun d _ => amount_eq X c 0 0 d, Finset.sum_const, Finset.card_univ, Fintype.card_fin]; rfl
theorem expect_dma (hk : k.val ≠ 0) : (rd X).expect (kcell (c, k)) 0 = amt k := by
  unfold Schedule.expect Schedule.amountOf; rw [duties_dma X c k hk, Finset.sum_singleton, amount_eq]
theorem rest_bar : bigSep ((rd X).duties (kcell (c, 0)) 0 \ ∅) (fun d => (rd X).payload (kcell (c, 0)) 0 d)
    = (bigSep Finset.univ fun d : Fin 4 => (barPay c d : sProp 𝕄)) := by
  rw [Finset.sdiff_empty, duties_bar]; exact bigSep_congr fun d _ => payload_bar X c 0 d
theorem rest_dma (hk : k.val ≠ 0) : bigSep ((rd X).duties (kcell (c, k)) 0 \ ∅) (fun d => (rd X).payload (kcell (c, k)) 0 d) = payK X c k := by
  rw [Finset.sdiff_empty, duties_dma X c k hk, bigSep_singleton, payload_dma X c k hk]

end Sched

/-! ## What a device owes, and the levels -/

/-- The credits still owed after the copies to the peers are on their way: both halves for the mate. -/
def OX1 (c : Dev nD) : CellTallies nD τ sig Unit := tallyAt (kcell (mate c, kXR 1)) () NX
def OX (c : Dev nD) : CellTallies nD τ sig Unit := OX1 c + tallyAt (kcell (mate c, kXR 0)) () NX
/-- The same while `n` copies to the peers are still to be started (the last peers of the order); -/
def OY (c : Dev nD) : ℕ → CellTallies nD τ sig Unit
  | 0 => OX c
  | n + 1 => OY c n + tallyAt (kcell (peer ⟨(2 - n) % 3, Nat.mod_lt _ (by decide)⟩ c, kYR (slot ⟨(2 - n) % 3, Nat.mod_lt _ (by decide)⟩ c))) () NY
/-- and while the mate's barrier unit and those of the last `n` peers are still to be raised. -/
def OB (c : Dev nD) : ℕ → CellTallies nD τ sig Unit
  | 0 => OY c 3 + tallyAt (kcell (mate c, 0)) () 1
  | n + 1 => OB c n + tallyAt (kcell (peer ⟨(2 - n) % 3, Nat.mod_lt _ (by decide)⟩ c, 0)) () 1
def O₀ (c : Dev nD) : CellTallies nD τ sig Unit := OB c 3

def L (g : GSem nD τ sig) : Finset Unit := if g.1.2 = .tc then {()} else ∅
def lvK (k : Fin 11) : ℕ := if k.val = 0 then 1 else if k.val < 4 then 0 else if k.val < 7 then 2 else if k.val < 9 then 0 else 3
def lv (g : GSem nD τ sig) (_ : Unit) : ℕ := match kind g.2 with | none => 0 | some k => lvK k

theorem L_of_ne (g : GSem nD τ sig) (h : g.1.2 ≠ .tc) : L g = ∅ := if_neg h
theorem L_tc (c : Dev nD) (sm : SemLoc sig) : L ((c : Thread nD τ), sm) = {()} := if_pos rfl
theorem lv_kcell (c : Dev nD) (k : Fin 11) : lv (kcell (c, k)) () = lvK k := by
  unfold lv; dsimp only; rw [kind_csem]

/-- Everything `O` owes is owed to TensorCore cells above level `n`. -/
def Above (n : ℕ) (O : CellTallies nD τ sig Unit) : Prop := ∀ g u, 0 < O g u → g.1.2 = .tc ∧ n < lv g u

theorem above_zero (n : ℕ) : Above n 0 := fun g u h => absurd h (Nat.lt_irrefl 0)
theorem above_add {n : ℕ} {O O' : CellTallies nD τ sig Unit} (h : Above n O) (h' : Above n O') : Above n (O + O') := fun g u hg => by
  rw [Pi.add_apply, Finsupp.add_apply] at hg
  rcases Nat.eq_zero_or_pos (O g u) with h0 | h0
  · exact h' g u (by omega)
  · exact h g u h0
theorem above_tally (n : ℕ) (c : Dev nD) (k : Fin 11) (a : ℕ) (h : n < lvK k) : Above n (tallyAt (kcell (c, k)) () a) := fun g u hg => by
  rw [tallyAt_apply] at hg
  by_cases hc : g = kcell (c, k) ∧ u = ()
  · rw [hc.1]; exact ⟨rfl, by rw [lv_kcell]; exact h⟩
  · rw [if_neg hc] at hg; exact absurd hg (Nat.lt_irrefl 0)

theorem lvK_XR (h : Fin 2) : lvK (kXR h) = 3 := by revert h; decide
theorem lvK_YR (h : Fin 3) : lvK (kYR h) = 2 := by revert h; decide
theorem above_OX (c : Dev nD) : Above 2 (OX c) :=
  above_add (above_tally 2 _ _ _ (by rw [lvK_XR]; decide)) (above_tally 2 _ _ _ (by rw [lvK_XR]; decide))
theorem above_mono {n n' : ℕ} (h : n' ≤ n) {O : CellTallies nD τ sig Unit} (hO : Above n O) : Above n' O :=
  fun g u hg => ⟨(hO g u hg).1, Nat.lt_of_le_of_lt h (hO g u hg).2⟩
theorem above_OY (c : Dev nD) : ∀ n, Above 1 (OY c n)
  | 0 => above_mono (by decide) (above_OX c)
  | n + 1 => above_add (above_OY c n) (above_tally 1 _ _ _ (by rw [lvK_YR]; decide))
theorem above_OB (c : Dev nD) : ∀ n, Above 0 (OB c n)
  | 0 => above_add (above_mono (by decide) (above_OY c 3)) (above_tally 0 _ _ _ (by decide))
  | n + 1 => above_add (above_OB c n) (above_tally 0 _ _ _ (by decide))

omit [FloatOps F] in
theorem mayWait_of (n : ℕ) (c : Dev nD) (sm : SemLoc sig) (hsm : lv ((c : Thread nD τ), sm) () ≤ n) (O : CellTallies nD τ sig Unit)
    (hO : Above n O) : (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact hsm)
    (fun g u hg => (hO g u hg).2)

end Cert.AllToAll

end
-- ==== Proof.Pieces.lean ====
/-
# The pieces of the buffers as the program names them

The program copies slab `kv_all[y]` as a squeezed slice and halves of the send and receive buffers as slices of 256 columns. Their
elements are `slabSet y` and `halfSet h`; what lands in a destination equals the source on these elements.
-/
module

public import proofs.«01_k».proof.Proof.Protocol

@[expose] public section

noncomputable section

namespace Cert.AllToAll

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (shares3 pointsTo_thirds)

variable {F : FTy → Type} [FloatOps F]

local notation "𝕄" => MT nD τ sig Unit (Elt F) ℕ UU ℕ

/-- Slab `kv_all[y]` as the program slices it. -/
abbrev slabAt (off : Fin 4 → ℕ) (inb : ∀ a, off a + S1x2x512x512.size a ≤ S4x2x512x512.size a) : Memref sig .tc .vmem S2x512x512 .bf16 :=
  ((Memref.whole cc0_scratch0).slice (Rect.unit (s := S4x2x512x512) off S1x2x512x512.size inb) (fun _ => rfl)).squeeze S2x512x512 squeezes_S1x2x512x512_S2x512x512

theorem slab_set (y : Fin 4) (off inb) (ho : off = ![y.val, 0, 0, 0]) : (slabAt off inb).view.set = slabSet y := by
  subst ho
  refine (View.set_reshape _ _).trans ((View.set_slice_whole _ _).trans (Finset.ext fun i => ?_))
  rw [Rect.mem_set_unit]
  have h1 : (i 1).val < 2 := (i 1).isLt
  have h2 : (i 2).val < 512 := (i 2).isLt
  have h3 : (i 3).val < 512 := (i 3).isLt
  unfold slabSet; rw [Finset.mem_filter]
  constructor
  · intro h
    have h0 : y.val ≤ (i 0).val ∧ (i 0).val < y.val + 1 := h 0
    exact ⟨Finset.mem_univ _, by omega⟩
  · rintro ⟨-, h⟩
    refine fin4_all ?_ ?_ ?_ ?_
    · show y.val ≤ (i 0).val ∧ (i 0).val < y.val + 1
      omega
    · show 0 ≤ (i 1).val ∧ (i 1).val < 0 + 2
      omega
    · show 0 ≤ (i 2).val ∧ (i 2).val < 0 + 512
      omega
    · show 0 ≤ (i 3).val ∧ (i 3).val < 0 + 512
      omega

/-- A tile of slab `y` lies in the slab. -/
theorem tile_subset (y : Fin 4) (t h : ℕ) (off : Fin 4 → ℕ) (inb) (ho : off = ![y.val, t, 0, 64 * h]) :
    (Memref.whole cc0_scratch0).view.setOn (Rect.unit (s := S4x2x512x512) off S1x1x512x64.size inb).toLoadRect.set ⊆ slabSet y := by
  subst ho
  intro i hi
  obtain ⟨x, hx, rfl⟩ := Finset.mem_map.mp hi
  have h0 : y.val ≤ (x 0).val ∧ (x 0).val < y.val + 1 := Rect.mem_set_unit.mp hx 0
  unfold slabSet; rw [Finset.mem_filter]
  refine ⟨Finset.mem_univ _, ?_⟩
  show (x 0).val = y.val
  omega

section Halves
variable (hf : Fin 2) {off : Fin 2 → ℕ}

theorem half_mem_of (n : ℕ) (hn : n = 256 * hf.val) (i : S512x512.Idx) (h : n ≤ (i 1).val ∧ (i 1).val < n + 256) : i ∈ halfSet hf := by
  unfold halfSet; rw [Finset.mem_filter]; exact ⟨Finset.mem_univ _, by omega⟩

theorem send_set (inb) (ho : off = ![0, 256 * hf.val]) :
    ((Memref.whole cc0_scratch3).slice (Rect.unit (s := S512x512) off S512x256.size inb) (fun _ => rfl) : Memref sig .tc .vmem S512x256 .bf16).view.set = halfSet hf := by
  subst ho
  refine (View.set_slice_whole _ _).trans (Finset.ext fun i => ?_)
  rw [Rect.mem_set_unit]
  have h0 : (i 0).val < 512 := (i 0).isLt
  unfold halfSet; rw [Finset.mem_filter]
  constructor
  · intro h
    have h1 : 256 * hf.val ≤ (i 1).val ∧ (i 1).val < 256 * hf.val + 256 := h 1
    exact ⟨Finset.mem_univ _, by omega⟩
  · rintro ⟨-, h⟩ a
    match a with
    | ⟨0, _⟩ => show 0 ≤ (i 0).val ∧ (i 0).val < 0 + 512; omega
    | ⟨1, _⟩ => show 256 * hf.val ≤ (i 1).val ∧ (i 1).val < 256 * hf.val + 256; omega

theorem recv_set (inb) (ho : off = ![0, 256 * hf.val]) :
    ((Memref.whole cc0_scratch4).slice (Rect.unit (s := S512x512) off S512x256.size inb) (fun _ => rfl) : Memref sig .tc .vmem S512x256 .bf16).view.set = halfSet hf :=
  (View.set_slice_whole _ _).trans ((View.set_slice_whole _ _).symm.trans (send_set hf inb ho))

/-- The columns of a head lie in its half. -/
theorem send_subset (n : ℕ) (hn : n / 4 = hf.val) (inb) (ho : off = ![0, 64 * n]) :
    ((Memref.whole cc0_scratch3).access (Rect.unit (s := S512x512) off S512x64.size inb)).setOn Finset.univ ⊆ halfSet hf := by
  subst ho
  intro i hi
  obtain ⟨x, hx, rfl⟩ := Finset.mem_map.mp hi
  have hx1 : (x 1).val < 64 := (x 1).isLt
  have e : ((Rect.unit (s := S512x512) ![0, 64 * n] S512x64.size inb).emb x 1).val = 64 * n + (x 1).val := ValueKit.rect_emb_unit_val _ _ _ _ _
  unfold halfSet; rw [Finset.mem_filter]
  refine ⟨Finset.mem_univ _, ?_⟩
  show ((Rect.unit (s := S512x512) ![0, 64 * n] S512x64.size inb).emb x 1).val / 256 = hf.val
  omega
theorem send_subset_load (n : ℕ) (hn : n / 4 = hf.val) (inb) (ho : off = ![0, 64 * n]) :
    (Memref.whole cc0_scratch3).view.setOn (Rect.unit (s := S512x512) off S512x64.size inb).toLoadRect.set ⊆ halfSet hf := by
  subst ho
  intro i hi
  obtain ⟨x, hx, rfl⟩ := Finset.mem_map.mp hi
  have h1 : 64 * n ≤ (x 1).val ∧ (x 1).val < 64 * n + 64 := Rect.mem_set_unit.mp hx 1
  unfold halfSet; rw [Finset.mem_filter]
  refine ⟨Finset.mem_univ _, ?_⟩
  show (x 1).val / 256 = hf.val
  omega
theorem recv_subset_load (n : ℕ) (hn : n / 4 = hf.val) (inb) (ho : off = ![0, 64 * n]) :
    (Memref.whole cc0_scratch4).view.setOn (Rect.unit (s := S512x512) off S512x64.size inb).toLoadRect.set ⊆ halfSet hf := by
  subst ho
  intro i hi
  obtain ⟨x, hx, rfl⟩ := Finset.mem_map.mp hi
  have h1 : 64 * n ≤ (x 1).val ∧ (x 1).val < 64 * n + 64 := Rect.mem_set_unit.mp hx 1
  unfold halfSet; rw [Finset.mem_filter]
  refine ⟨Finset.mem_univ _, ?_⟩
  show (x 1).val / 256 = hf.val
  omega

end Halves

/-- What a slab's landing leaves on the slab is the source's contents. -/
theorem slab_landing (c : Dev nD) (y : Fin 4) (off inb) (ho : off = ![y.val, 0, 0, 0]) (fd fs : S4x2x512x512.Idx → Elt F .bf16) :
    ((slabAt off inb).view.loc (c : Thread nD τ) ↦[(slabAt off inb).view.set]{fullShare}
        ((slabAt off inb).view.write (Elt F) fd ((slabAt off inb).view.read (Elt F) fs) Finset.univ) : sProp 𝕄)
      = kvPts c y fullShare fs := by
  rw [View.write_read_eq_piecewise, View.setOn_univ, slab_set y off inb ho]
  refine pointsTo_congr fun i hi => ?_
  exact Finset.piecewise_eq_of_mem _ _ _ hi

/-- The same for a half: it holds what the mate's send buffer held there. -/
theorem half_landing (c : Dev nD) (hf : Fin 2) (off inb) (ho : off = ![0, 256 * hf.val]) (fd fs : S512x512.Idx → Elt F .bf16) :
    ((((Memref.whole cc0_scratch4).slice (Rect.unit (s := S512x512) off S512x256.size inb) (fun _ => rfl) : Memref sig .tc .vmem S512x256 .bf16).view.loc (c : Thread nD τ))
        ↦[((Memref.whole cc0_scratch4).slice (Rect.unit (s := S512x512) off S512x256.size inb) (fun _ => rfl) : Memref sig .tc .vmem S512x256 .bf16).view.set]{fullShare}
        (((Memref.whole cc0_scratch4).slice (Rect.unit (s := S512x512) off S512x256.size inb) (fun _ => rfl) : Memref sig .tc .vmem S512x256 .bf16).view.write (Elt F) fd
          (((Memref.whole cc0_scratch3).slice (Rect.unit (s := S512x512) off S512x256.size inb) (fun _ => rfl) : Memref sig .tc .vmem S512x256 .bf16).view.read (Elt F) fs) Finset.univ) : sProp 𝕄)
      = recvPts c hf fs := by
  rw [recv_set hf inb ho]
  refine pointsTo_congr fun i hi => ?_
  rw [← recv_set hf inb ho] at hi
  obtain ⟨x, hx, rfl⟩ := Finset.mem_map.mp hi
  exact View.write_emb_of_mem _ _ hx

/-! ## Taking the buffers apart and putting them together -/

theorem slab_disjoint {y y' : Fin 4} (h : y ≠ y') : Disjoint (slabSet y) (slabSet y') := by
  refine Finset.disjoint_left.mpr fun i hi hi' => h (Fin.ext ?_)
  unfold slabSet at hi hi'
  rw [Finset.mem_filter] at hi hi'
  exact hi.2.symm.trans hi'.2
theorem half_disjoint : Disjoint (halfSet 0) (halfSet 1) := by
  refine Finset.disjoint_left.mpr fun i hi hi' => ?_
  unfold halfSet at hi hi'
  rw [Finset.mem_filter] at hi hi'
  exact absurd (hi.2.symm.trans hi'.2) (by decide)
theorem half_union : halfSet 0 ∪ halfSet 1 = Finset.univ := by
  refine Finset.eq_univ_iff_forall.mpr fun i => ?_
  have h1 : (i 1).val < 512 := (i 1).isLt
  unfold halfSet
  rw [Finset.mem_union, Finset.mem_filter, Finset.mem_filter]
  by_cases h : (i 1).val / 256 = 0
  · exact Or.inl ⟨Finset.mem_univ _, h⟩
  · exact Or.inr ⟨Finset.mem_univ _, show (i 1).val / 256 = 1 by omega⟩
theorem slab_union (c : Dev nD) :
    slabSet (yN c) ∪ (slabSet (yN (peer 0 c)) ∪ (slabSet (yN (peer 1 c)) ∪ slabSet (yN (peer 2 c)))) = Finset.univ := by
  refine Finset.eq_univ_iff_forall.mpr fun i => ?_
  unfold slabSet
  simp only [Finset.mem_union, Finset.mem_filter, Finset.mem_univ, true_and]
  rcases places c (i 0) with h | h | h | h
  · exact Or.inl (congrArg Fin.val h)
  · exact Or.inr (Or.inl (congrArg Fin.val h))
  · exact Or.inr (Or.inr (Or.inl (congrArg Fin.val h)))
  · exact Or.inr (Or.inr (Or.inr (congrArg Fin.val h)))

omit [FloatOps F] in
/-- The gathered buffer is the device's own slab and the three of its peers. -/
theorem kv_split (c : Dev nD) (f : S4x2x512x512.Idx → Elt F .bf16) :
    (((c : Thread nD τ).loc cc0_scratch0) ↦{fullShare} f : sProp 𝕄)
      ⊣⊢ iprop(kvPts c (yN c) fullShare f ∗ kvPts c (yN (peer 0 c)) fullShare f ∗ kvPts c (yN (peer 1 c)) fullShare f
          ∗ kvPts c (yN (peer 2 c)) fullShare f) := by
  obtain ⟨h1, h2, h3, h4, h5, h6⟩ := places_ne c
  rw [← slab_union c]
  refine (pointsTo_union (Finset.disjoint_union_right.mpr ⟨slab_disjoint h1, Finset.disjoint_union_right.mpr ⟨slab_disjoint h2, slab_disjoint h3⟩⟩)).trans ?_
  refine sep_congr .rfl ?_
  refine (pointsTo_union (Finset.disjoint_union_right.mpr ⟨slab_disjoint h4, slab_disjoint h5⟩)).trans ?_
  exact sep_congr .rfl (pointsTo_union (slab_disjoint h6))

omit [FloatOps F] in
theorem send_split (c : Dev nD) (f : S512x512.Idx → Elt F .bf16) :
    (((c : Thread nD τ).loc cc0_scratch3) ↦{fullShare} f : sProp 𝕄) ⊣⊢ iprop(sendPts c 0 f ∗ sendPts c 1 f) := by
  rw [← half_union]; exact pointsTo_union half_disjoint
omit [FloatOps F] in
theorem recv_split (c : Dev nD) (f : S512x512.Idx → Elt F .bf16) :
    (((c : Thread nD τ).loc cc0_scratch4) ↦{fullShare} f : sProp 𝕄) ⊣⊢ iprop(recvPts c 0 f ∗ recvPts c 1 f) := by
  rw [← half_union]; exact pointsTo_union half_disjoint

end Cert.AllToAll

end
-- ==== Proof.Fragments.lean ====
/-
# One lemma per kind of step

The body is straight-line: eight heads copied into the own slab, the handshake, eight heads folded from the device's own block, eight
heads folded from each of three slabs, four heads divided and stored and their half sent, twice, and four heads of the mate's
result taken over, twice. A lemma here runs one head of one such loop, at any offsets equal to the expected ones.
-/
module

public import proofs.«01_k».proof.Proof.Pieces

@[expose] public section

noncomputable section

namespace Cert.AllToAll

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (shares3 pointsTo_thirds)

variable {F : FTy → Type} [FloatOps F]

local notation "𝕄" => MT nD τ sig Unit (Elt F) ℕ UU ℕ
/-- A device program. -/
abbrev DProg (F : FTy → Type) := Prog (TpuEff nD τ sig (Elt F) Λ₀ (.tc)) PUnit.{1}

variable (X : Blocks F)

/-- The weakest precondition of a device's program. -/
abbrev wpc (c : Dev nD) (p : DProg F) (Q : PUnit.{1} → sProp 𝕄) : sProp 𝕄 :=
  wp frame (wpE (defs₀ (F := F)) 𝒱₀ (c : Thread nD τ) none) Set.univ p Q

/-! ## What a device holds -/

abbrev qPts (c : Dev nD) : sProp 𝕄 := (((c : Thread nD τ).loc cc0_stg0_0) ↦{fullShare} X 0 c)
abbrev kPts (c : Dev nD) : sProp 𝕄 := (((c : Thread nD τ).loc cc0_stg1_0) ↦{fullShare} X 1 c)
abbrev vPts (c : Dev nD) : sProp 𝕄 := (((c : Thread nD τ).loc cc0_stg2_0) ↦{fullShare} X 2 c)
abbrev oPts (c : Dev nD) (f : S2x512x8x64.Idx → Elt F .f32) : sProp 𝕄 := (((c : Thread nD τ).loc cc0_stg3_0) ↦{fullShare} f)
abbrev accPts (c : Dev nD) (f : S512x512.Idx → Elt F .f32) : sProp 𝕄 := (((c : Thread nD τ).loc cc0_scratch1) ↦{fullShare} f)
abbrev sumPts (c : Dev nD) (f : S512x8.Idx → Elt F .f32) : sProp 𝕄 := (((c : Thread nD τ).loc cc0_scratch2) ↦{fullShare} f)
abbrev kvWhole (c : Dev nD) (f : S4x2x512x512.Idx → Elt F .bf16) : sProp 𝕄 := (((c : Thread nD τ).loc cc0_scratch0) ↦{fullShare} f)

/-- With `n` heads copied into the own slab; -/
def copySt (c : Dev nD) (old : S4x2x512x512.Idx → Elt F .bf16) (n : ℕ) : sProp 𝕄 :=
  iprop(kPts X c ∗ vPts X c ∗ kvWhole c (kvMix (yN c).val n n (kvTile X c) old))
/-- with `n` heads folded from the own block; -/
def ownSt (c : Dev nD) (a : S512x512.Idx → Elt F .f32) (l : S512x8.Idx → Elt F .f32) (n : ℕ) : sProp 𝕄 :=
  iprop(qPts X c ∗ kPts X c ∗ vPts X c ∗ accPts c (colsMix 0 n (aS X c 0) a) ∗ sumPts c (sumsMix n (lS X c 0) l))
/-- with `n` heads folded from the slab of peer `s`; -/
def foldSt (c : Dev nD) (s : ℕ) (n : ℕ) : sProp 𝕄 :=
  iprop(qPts X c ∗ kvPts c (yN (peer ⟨s % 3, Nat.mod_lt _ (by decide)⟩ c)) fullShare (kvAll X c)
    ∗ accPts c (colsMix 0 n (aS X c (s + 1)) (cols (aS X c s))) ∗ sumPts c (sumsMix n (lS X c (s + 1)) (sums (lS X c s))))
/-- with the heads below `n` divided and stored, those of half `hf` in the send buffer; -/
def outSt (c : Dev nD) (hf : Fin 2) (o : S2x512x8x64.Idx → Elt F .f32) (f : S512x512.Idx → Elt F .bf16) (n : ℕ) : sProp 𝕄 :=
  iprop(accPts c (cols (aS X c 3)) ∗ sumPts c (sums (lS X c 3)) ∗ oPts c (rowMix (xN c).val n (outT X c) o)
    ∗ sendPts c hf (colsMix (4 * hf.val) n (sendT X c) f))
/-- with the heads below `n` of the mate's batch taken over, half `hf` being read. -/
def takeSt (c : Dev nD) (hf : Fin 2) (o : S2x512x8x64.Idx → Elt F .f32) (n : ℕ) : sProp 𝕄 :=
  iprop(recvPts c hf (cols (sendT X (mate c))) ∗ oPts c (rowMix (1 - (xN c).val) n (otherT X c) o))

/-! ## The rectangles -/

abbrev rRow (off : Fin 4 → ℕ) (inb : ∀ a, off a + S1x512x1x64.size a ≤ S2x512x8x64.size a) : Rect S2x512x8x64 :=
  Rect.unit (s := S2x512x8x64) off S1x512x1x64.size inb
abbrev rTile (off : Fin 4 → ℕ) (inb : ∀ a, off a + S1x1x512x64.size a ≤ S4x2x512x512.size a) : Rect S4x2x512x512 :=
  Rect.unit (s := S4x2x512x512) off S1x1x512x64.size inb
abbrev rCols (off : Fin 2 → ℕ) (inb : ∀ a, off a + S512x64.size a ≤ S512x512.size a) : Rect S512x512 :=
  Rect.unit (s := S512x512) off S512x64.size inb
abbrev rCol (off : Fin 2 → ℕ) (inb : ∀ a, off a + S512x1.size a ≤ S512x8.size a) : Rect S512x8 :=
  Rect.unit (s := S512x8) off S512x1.size inb

/-! ## The heads -/

section Steps
variable (c : Dev nD) (n : ℕ)

set_option maxHeartbeats 1000000 in
theorem step_copy {k : DProg F} {Q : PUnit.{1} → sProp 𝕄} (hn : n < 8) (old : S4x2x512x512.Idx → Elt F .bf16) {or ok ov : Fin 4 → ℕ} {ir ik iv}
    (hr : or = ![(xN c).val, 0, n, 0]) (hk : ok = ![(yN c).val, 0, 0, 64 * n]) (hv : ov = ![(yN c).val, 1, 0, 64 * n])
    {l1 l2 l3 l4 s1 s2 m1 m2} :
    copySt X c old n ⊢ iprop((copySt X c old (n + 1) -∗ wpc c k Q) -∗ wpc c
      (.op (.load (Memref.whole cc0_stg1_0) (rRow or ir).toLoadRect l1) fun x =>
       .op (.load (Memref.whole cc0_scratch0) (rTile ok ik).toLoadRect l2) fun _ =>
       .op (.store (Memref.whole cc0_scratch0) (rTile ok ik) (k0_pay1 x) Finset.univ s1 m1) fun _ =>
       .op (.load (Memref.whole cc0_stg2_0) (rRow or ir).toLoadRect l3) fun y =>
       .op (.load (Memref.whole cc0_scratch0) (rTile ov iv).toLoadRect l4) fun _ =>
       .op (.store (Memref.whole cc0_scratch0) (rTile ov iv) (k0_pay2 y) Finset.univ s2 m2) fun _ => k) Q) := by
  have ek : k0_pay1 (rowT (X 1 c) (xN c) n) = kvTile X c 0 n := by unfold kvTile; rw [if_pos rfl]
  have ev : k0_pay2 (rowT (X 2 c) (xN c) n) = kvTile X c 1 n := by unfold kvTile; rw [if_neg (by decide)]
  unfold copySt
  iintro ⟨HK, HV, Hkv⟩ Hk
  iapply (wp_load 𝒱₀ (c : Thread nD τ) none Set.univ (m := Memref.whole cc0_stg1_0) (Finset.subset_univ _)) $$ HK; iintro HK
  iapply (wp_load 𝒱₀ (c : Thread nD τ) none Set.univ (m := Memref.whole cc0_scratch0) (Finset.subset_univ _)) $$ Hkv; iintro Hkv
  iapply (wp_store 𝒱₀ (c : Thread nD τ) none Set.univ (m := Memref.whole cc0_scratch0) (r := rTile ok ik) (Mk := Finset.univ) (Finset.subset_univ _)) $$ Hkv; iintro Hkv
  iapply (wp_load 𝒱₀ (c : Thread nD τ) none Set.univ (m := Memref.whole cc0_stg2_0) (Finset.subset_univ _)) $$ HV; iintro HV
  iapply (wp_load 𝒱₀ (c : Thread nD τ) none Set.univ (m := Memref.whole cc0_scratch0) (Finset.subset_univ _)) $$ Hkv; iintro Hkv
  iapply (wp_store 𝒱₀ (c : Thread nD τ) none Set.univ (m := Memref.whole cc0_scratch0) (r := rTile ov iv) (Mk := Finset.univ) (Finset.subset_univ _)) $$ Hkv; iintro Hkv
  iapply Hk
  rw [read_k (X 1 c) (xN c) n hn hr, read_v (X 2 c) (xN c) n hn hr, ek, ev,
    write_kv (yN c).val n 0 n n (n + 1) n (kvTile X c) old (Or.inl ⟨rfl, rfl, rfl, rfl⟩) ik hk,
    write_kv (yN c).val n 1 (n + 1) n (n + 1) (n + 1) (kvTile X c) old (Or.inr ⟨rfl, rfl, rfl, rfl⟩) iv hv]
  isplitl [HK]; · iexact HK
  isplitl [HV]; · iexact HV
  iexact Hkv

set_option maxHeartbeats 1000000 in
theorem step_own {k : DProg F} {Q : PUnit.{1} → sProp 𝕄} (hn : n < 8) (a : S512x512.Idx → Elt F .f32) (l : S512x8.Idx → Elt F .f32)
    {or : Fin 4 → ℕ} {oc ol : Fin 2 → ℕ} {ir ic il} (hr : or = ![(xN c).val, 0, n, 0]) (hc : oc = ![0, 64 * n]) (hl : ol = ![0, n])
    {l1 l2 l3 l4 l5 s1 s2 m1 m2} :
    ownSt X c a l n ⊢ iprop((ownSt X c a l (n + 1) -∗ wpc c k Q) -∗ wpc c
      (.op (.load (Memref.whole cc0_stg0_0) (rRow or ir).toLoadRect l1) fun q =>
       .op (.load (Memref.whole cc0_stg1_0) (rRow or ir).toLoadRect l2) fun x =>
       .op (.load (Memref.whole cc0_stg2_0) (rRow or ir).toLoadRect l3) fun y =>
       .op (.load (Memref.whole cc0_scratch2) (rCol ol il).toLoadRect l4) fun _ =>
       .op (.store (Memref.whole cc0_scratch2) (rCol ol il) (k0_pay22 q x) Finset.univ s1 m1) fun _ =>
       .op (.load (Memref.whole cc0_scratch1) (rCols oc ic).toLoadRect l5) fun _ =>
       .op (.store (Memref.whole cc0_scratch1) (rCols oc ic) (k0_pay23 q x y) Finset.univ s2 m2) fun _ => k) Q) := by
  have el : k0_pay22 (rowT (X 0 c) (xN c) n) (rowT (X 1 c) (xN c) n) = lS X c 0 n := rfl
  have ea : k0_pay23 (rowT (X 0 c) (xN c) n) (rowT (X 1 c) (xN c) n) (rowT (X 2 c) (xN c) n) = aS X c 0 n := rfl
  unfold ownSt
  iintro ⟨HQ, HK, HV, Ha, Hl⟩ Hk
  iapply (wp_load 𝒱₀ (c : Thread nD τ) none Set.univ (m := Memref.whole cc0_stg0_0) (Finset.subset_univ _)) $$ HQ; iintro HQ
  iapply (wp_load 𝒱₀ (c : Thread nD τ) none Set.univ (m := Memref.whole cc0_stg1_0) (Finset.subset_univ _)) $$ HK; iintro HK
  iapply (wp_load 𝒱₀ (c : Thread nD τ) none Set.univ (m := Memref.whole cc0_stg2_0) (Finset.subset_univ _)) $$ HV; iintro HV
  iapply (wp_load 𝒱₀ (c : Thread nD τ) none Set.univ (m := Memref.whole cc0_scratch2) (Finset.subset_univ _)) $$ Hl; iintro Hl
  iapply (wp_store 𝒱₀ (c : Thread nD τ) none Set.univ (m := Memref.whole cc0_scratch2) (r := rCol ol il) (Mk := Finset.univ) (Finset.subset_univ _)) $$ Hl; iintro Hl
  iapply (wp_load 𝒱₀ (c : Thread nD τ) none Set.univ (m := Memref.whole cc0_scratch1) (Finset.subset_univ _)) $$ Ha; iintro Ha
  iapply (wp_store 𝒱₀ (c : Thread nD τ) none Set.univ (m := Memref.whole cc0_scratch1) (r := rCols oc ic) (Mk := Finset.univ) (Finset.subset_univ _)) $$ Ha; iintro Ha
  iapply Hk
  rw [read_q (X 0 c) (xN c) n hn hr, read_k (X 1 c) (xN c) n hn hr, read_v (X 2 c) (xN c) n hn hr, el, ea,
    write_sums n (lS X c 0) l il hl, write_acc n (aS X c 0) a ic hc]
  isplitl [HQ]; · iexact HQ
  isplitl [HK]; · iexact HK
  isplitl [HV]; · iexact HV
  isplitl [Ha]; · iexact Ha
  iexact Hl

set_option maxHeartbeats 1000000 in
theorem step_fold {k : DProg F} {Q : PUnit.{1} → sProp 𝕄} (s : ℕ) (hn : n < 8)
    {or ok ov : Fin 4 → ℕ} {oc ol : Fin 2 → ℕ} {ir ik iv ic il} (hr : or = ![(xN c).val, 0, n, 0])
    (hk : ok = ![(yN (peer ⟨s % 3, Nat.mod_lt _ (by decide)⟩ c)).val, 0, 0, 64 * n])
    (hv : ov = ![(yN (peer ⟨s % 3, Nat.mod_lt _ (by decide)⟩ c)).val, 1, 0, 64 * n]) (hc : oc = ![0, 64 * n]) (hl : ol = ![0, n])
    {l1 l2 l3 l4 l5 l6 l7 s1 s2 m1 m2} :
    foldSt X c s n ⊢ iprop((foldSt X c s (n + 1) -∗ wpc c k Q) -∗ wpc c
      (.op (.load (Memref.whole cc0_stg0_0) (rRow or ir).toLoadRect l1) fun q =>
       .op (.load (Memref.whole cc0_scratch0) (rTile ok ik).toLoadRect l2) fun x =>
       .op (.load (Memref.whole cc0_scratch0) (rTile ov iv).toLoadRect l3) fun y =>
       .op (.load (Memref.whole cc0_scratch2) (rCol ol il).toLoadRect l4) fun l =>
       .op (.load (Memref.whole cc0_scratch2) (rCol ol il).toLoadRect l5) fun _ =>
       .op (.store (Memref.whole cc0_scratch2) (rCol ol il) (k0_pay56 (k0_pay54 q) x l) Finset.univ s1 m1) fun _ =>
       .op (.load (Memref.whole cc0_scratch1) (rCols oc ic).toLoadRect l6) fun a =>
       .op (.load (Memref.whole cc0_scratch1) (rCols oc ic).toLoadRect l7) fun _ =>
       .op (.store (Memref.whole cc0_scratch1) (rCols oc ic) (k0_pay57 (k0_pay54 q) x y a) Finset.univ s2 m2) fun _ => k) Q) := by
  have el : k0_pay56 (k0_pay54 (rowT (X 0 c) (xN c) n)) (kvTile X (atY (yN (peer ⟨s % 3, Nat.mod_lt _ (by decide)⟩ c)) c) (0 : Fin 2).val n) (lS X c s n) = lS X c (s + 1) n := by
    unfold peer; rw [atY_yN_oth]; rfl
  have ea : k0_pay57 (k0_pay54 (rowT (X 0 c) (xN c) n)) (kvTile X (atY (yN (peer ⟨s % 3, Nat.mod_lt _ (by decide)⟩ c)) c) (0 : Fin 2).val n)
      (kvTile X (atY (yN (peer ⟨s % 3, Nat.mod_lt _ (by decide)⟩ c)) c) (1 : Fin 2).val n) (aS X c s n) = aS X c (s + 1) n := by
    unfold peer; rw [atY_yN_oth]; rfl
  unfold foldSt
  iintro ⟨HQ, Hkv, Ha, Hl⟩ Hk
  iapply (wp_load 𝒱₀ (c : Thread nD τ) none Set.univ (m := Memref.whole cc0_stg0_0) (Finset.subset_univ _)) $$ HQ; iintro HQ
  iapply (wp_load 𝒱₀ (c : Thread nD τ) none Set.univ (m := Memref.whole cc0_scratch0) (tile_subset _ 0 n ok ik hk)) $$ Hkv; iintro Hkv
  iapply (wp_load 𝒱₀ (c : Thread nD τ) none Set.univ (m := Memref.whole cc0_scratch0) (tile_subset _ 1 n ov iv hv)) $$ Hkv; iintro Hkv
  iapply (wp_load 𝒱₀ (c : Thread nD τ) none Set.univ (m := Memref.whole cc0_scratch2) (Finset.subset_univ _)) $$ Hl; iintro Hl
  iapply (wp_load 𝒱₀ (c : Thread nD τ) none Set.univ (m := Memref.whole cc0_scratch2) (Finset.subset_univ _)) $$ Hl; iintro Hl
  iapply (wp_store 𝒱₀ (c : Thread nD τ) none Set.univ (m := Memref.whole cc0_scratch2) (r := rCol ol il) (Mk := Finset.univ) (Finset.subset_univ _)) $$ Hl; iintro Hl
  iapply (wp_load 𝒱₀ (c : Thread nD τ) none Set.univ (m := Memref.whole cc0_scratch1) (Finset.subset_univ _)) $$ Ha; iintro Ha
  iapply (wp_load 𝒱₀ (c : Thread nD τ) none Set.univ (m := Memref.whole cc0_scratch1) (Finset.subset_univ _)) $$ Ha; iintro Ha
  iapply (wp_store 𝒱₀ (c : Thread nD τ) none Set.univ (m := Memref.whole cc0_scratch1) (r := rCols oc ic) (Mk := Finset.univ) (Finset.subset_univ _)) $$ Ha; iintro Ha
  iapply Hk
  unfold kvAll
  rw [read_q (X 0 c) (xN c) n hn hr, read_kv _ _ 0 n ik hk, read_kv _ _ 1 n iv hv, read_sums_old n hl n _ _ le_rfl il,
    read_acc_old n hc n _ _ le_rfl ic, el, ea, write_sums n (lS X c (s + 1)) _ il hl, write_acc n (aS X c (s + 1)) _ ic hc]
  isplitl [HQ]; · iexact HQ
  isplitl [Hkv]; · iexact Hkv
  isplitl [Ha]; · iexact Ha
  iexact Hl

set_option maxHeartbeats 1000000 in
theorem step_out {k : DProg F} {Q : PUnit.{1} → sProp 𝕄} (hf : Fin 2) (hn : n / 4 = hf.val) (o : S2x512x8x64.Idx → Elt F .f32) (f : S512x512.Idx → Elt F .bf16)
    {or : Fin 4 → ℕ} {oc ol : Fin 2 → ℕ} {ir ic il is} (hr : or = ![(xN c).val, 0, n, 0]) (hc : oc = ![0, 64 * n]) (hl : ol = ![0, n])
    {l1 l2 l3 l4 s1 s2 m1 m2} :
    outSt X c hf o f n ⊢ iprop((outSt X c hf o f (n + 1) -∗ wpc c k Q) -∗ wpc c
      (.op (.load (Memref.whole cc0_scratch1) (rCols oc ic).toLoadRect l1) fun a =>
       .op (.load (Memref.whole cc0_scratch2) (rCol ol il).toLoadRect l2) fun l =>
       .op (.load (Memref.whole cc0_stg3_0) (rRow or ir).toLoadRect l3) fun _ =>
       .op (.store (Memref.whole cc0_stg3_0) (rRow or ir) (k0_pay155 a l) Finset.univ s1 m1) fun _ =>
       .op (.load (Memref.whole cc0_scratch3) (rCols oc is).toLoadRect l4) fun _ =>
       .op (.store (Memref.whole cc0_scratch3) (rCols oc is) (k0_pay156 a l) Finset.univ s2 m2) fun _ => k) Q) := by
  have ho : k0_pay155 (aS X c 3 n) (lS X c 3 n) = outT X c n := rfl
  have hs : k0_pay156 (aS X c 3 n) (lS X c 3 n) = sendT X c n := rfl
  have ea := read_acc_old n hc 0 (aS X c 3) (aS X c 3) (Nat.zero_le _) ic
  rw [colsMix_start] at ea
  unfold outSt
  iintro ⟨Ha, Hl, Ho, Hs⟩ Hk
  iapply (wp_load 𝒱₀ (c : Thread nD τ) none Set.univ (m := Memref.whole cc0_scratch1) (Finset.subset_univ _)) $$ Ha; iintro Ha
  iapply (wp_load 𝒱₀ (c : Thread nD τ) none Set.univ (m := Memref.whole cc0_scratch2) (Finset.subset_univ _)) $$ Hl; iintro Hl
  iapply (wp_load 𝒱₀ (c : Thread nD τ) none Set.univ (m := Memref.whole cc0_stg3_0) (Finset.subset_univ _)) $$ Ho; iintro Ho
  iapply (wp_store 𝒱₀ (c : Thread nD τ) none Set.univ (m := Memref.whole cc0_stg3_0) (r := rRow or ir) (Mk := Finset.univ) (Finset.subset_univ _)) $$ Ho; iintro Ho
  iapply (wp_load 𝒱₀ (c : Thread nD τ) none Set.univ (m := Memref.whole cc0_scratch3) (send_subset_load hf n hn is hc)) $$ Hs; iintro Hs
  iapply (wp_store 𝒱₀ (c : Thread nD τ) none Set.univ (m := Memref.whole cc0_scratch3) (r := rCols oc is) (Mk := Finset.univ) (send_subset hf n hn is hc)) $$ Hs; iintro Hs
  iapply Hk
  rw [ea, read_sums n hl _ il, ho, hs, write_out (xN c).val n (outT X c) o ir hr, write_send (4 * hf.val) n (sendT X c) f (by omega) is hc]
  isplitl [Ha]; · iexact Ha
  isplitl [Hl]; · iexact Hl
  isplitl [Ho]; · iexact Ho
  iexact Hs

set_option maxHeartbeats 1000000 in
theorem step_take {k : DProg F} {Q : PUnit.{1} → sProp 𝕄} (hf : Fin 2) (hn : n / 4 = hf.val) (o : S2x512x8x64.Idx → Elt F .f32)
    {or : Fin 4 → ℕ} {oc : Fin 2 → ℕ} {ir ic} (hr : or = ![1 - (xN c).val, 0, n, 0]) (hc : oc = ![0, 64 * n])
    {l1 l2 s1 m1} :
    takeSt X c hf o n ⊢ iprop((takeSt X c hf o (n + 1) -∗ wpc c k Q) -∗ wpc c
      (.op (.load (Memref.whole cc0_scratch4) (rCols oc ic).toLoadRect l1) fun v =>
       .op (.load (Memref.whole cc0_stg3_0) (rRow or ir).toLoadRect l2) fun _ =>
       .op (.store (Memref.whole cc0_stg3_0) (rRow or ir) (k0_pay178 v) Finset.univ s1 m1) fun _ => k) Q) := by
  have ho : k0_pay178 (sendT X (mate c) n) = otherT X c n := rfl
  unfold takeSt
  iintro ⟨Hr, Ho⟩ Hk
  iapply (wp_load 𝒱₀ (c : Thread nD τ) none Set.univ (m := Memref.whole cc0_scratch4) (recv_subset_load hf n hn ic hc)) $$ Hr; iintro Hr
  iapply (wp_load 𝒱₀ (c : Thread nD τ) none Set.univ (m := Memref.whole cc0_stg3_0) (Finset.subset_univ _)) $$ Ho; iintro Ho
  iapply (wp_store 𝒱₀ (c : Thread nD τ) none Set.univ (m := Memref.whole cc0_stg3_0) (r := rRow or ir) (Mk := Finset.univ) (Finset.subset_univ _)) $$ Ho; iintro Ho
  iapply Hk
  rw [read_recv n hc _ ic, ho, write_out (1 - (xN c).val) n (otherT X c) o ir hr]
  isplitl [Hr]; · iexact Hr
  iexact Ho

end Steps

end Cert.AllToAll

end
-- ==== Proof.Handshake.lean ====
/-
# One lemma per step of the protocol

The barrier units to a peer and to the mate, the wait for the four units, the copies of the slab and of a half, and the wait for a
landing, which also closes its semaphore: nothing more is due on it and its counter is zero.
-/
module

public import proofs.«01_k».proof.Proof.Fragments

@[expose] public section

noncomputable section

namespace Cert.AllToAll

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (shares3 pointsTo_thirds)

variable {F : FTy → Type} [FloatOps F]

local notation "𝕄" => MT nD τ sig Unit (Elt F) ℕ UU ℕ

variable (X : Blocks F)

/-- What every device knows: the invariant of each of the cells of the mesh, under the names `K` they were allocated at, and that
    each is at its round. -/
def recs (K : Dev nD × Fin 11 → ℕ) : sProp 𝕄 :=
  iprop((bigSep Finset.univ fun ck : Dev nD × Fin 11 => cellInv ER (rd X) (K ck) (kcell ck))
    ∗ bigSep Finset.univ fun ck : Dev nD × Fin 11 => reached ER (kcell ck) 0)

instance recs_persistent (K : Dev nD × Fin 11 → ℕ) : BI.Persistent (recs X K) := by unfold recs; infer_instance

theorem recs_inv (K : Dev nD × Fin 11 → ℕ) (ck : Dev nD × Fin 11) : recs X K ⊢ cellInv ER (rd X) (K ck) (kcell ck) := by
  have h : (bigSep Finset.univ fun ck : Dev nD × Fin 11 => (cellInv ER (rd X) (K ck) (kcell ck) : sProp 𝕄)) ⊢ cellInv ER (rd X) (K ck) (kcell ck) :=
    bigSep_elim (Finset.mem_univ ck)
  unfold recs
  iintro ⟨H, -⟩
  iapply h
  iexact H
theorem recs_reached (K : Dev nD × Fin 11 → ℕ) (ck : Dev nD × Fin 11) : recs X K ⊢ reached ER (kcell ck) 0 := by
  have h : (bigSep Finset.univ fun ck : Dev nD × Fin 11 => (reached ER (kcell ck) 0 : sProp 𝕄)) ⊢ reached ER (kcell ck) 0 :=
    bigSep_elim (Finset.mem_univ ck)
  unfold recs
  iintro ⟨-, H⟩
  iapply h
  iexact H

/-! ## The payloads by name -/

theorem payK_YS (c : Dev nD) (k : Fin 3) : payK X c (kYS k) = kvPts c (yN c) (shares3 fullShare k) (kvAll X c) := by
  match k with | 0 => rfl | 1 => rfl | 2 => rfl
theorem payK_YR (c : Dev nD) (j : Fin 3) : payK X c (kYR j) = kvPts c (yN (oth j c)) fullShare (kvAll X c) := by
  match j with | 0 => rfl | 1 => rfl | 2 => rfl
theorem payK_XS (c : Dev nD) (h : Fin 2) : payK X c (kXS h) = sendPts c h (cols (sendT X c)) := by
  match h with | 0 => rfl | 1 => rfl
theorem payK_XR (c : Dev nD) (h : Fin 2) : payK X c (kXR h) = recvPts c h (cols (sendT X (mate c))) := by
  match h with | 0 => rfl | 1 => rfl
theorem kYS_ne (k : Fin 3) : (kYS k).val ≠ 0 := by show 1 + k.val ≠ 0; omega
theorem kYR_ne (k : Fin 3) : (kYR k).val ≠ 0 := by show 4 + k.val ≠ 0; omega
theorem kXS_ne (k : Fin 2) : (kXS k).val ≠ 0 := by show 7 + k.val ≠ 0; omega
theorem kXR_ne (k : Fin 2) : (kXR k).val ≠ 0 := by show 9 + k.val ≠ 0; omega
theorem amt_YS : ∀ k : Fin 3, amt (kYS k) = NY := by intro k; match k with | 0 => rfl | 1 => rfl | 2 => rfl
theorem amt_YR : ∀ k : Fin 3, amt (kYR k) = NY := by intro k; match k with | 0 => rfl | 1 => rfl | 2 => rfl
theorem amt_XS : ∀ k : Fin 2, amt (kXS k) = NX := by intro k; match k with | 0 => rfl | 1 => rfl
theorem amt_XR : ∀ k : Fin 2, amt (kXR k) = NX := by intro k; match k with | 0 => rfl | 1 => rfl

theorem barPay_peer (k : Fin 3) (c : Dev nD) :
    (barPay (peer k c) (slot k c).castSucc : sProp 𝕄) = iprop(∃ f, kvPts c (yN (peer k c)) fullShare f) := by
  unfold barPay
  rw [dif_pos (show ((slot k c).castSucc).val < 3 from (slot k c).isLt)]
  rw [show (⟨((slot k c).castSucc).val, (slot k c).isLt⟩ : Fin 3) = slot k c from rfl, oth_slot]
theorem barPay_mate (c : Dev nD) :
    (barPay (mate c) 3 : sProp 𝕄) = iprop((∃ f, recvPts c 0 f) ∗ (∃ f, recvPts c 1 f)) := by
  unfold barPay; rw [dif_neg (by decide), mate_mate]
theorem barPay_own (j : Fin 3) (c : Dev nD) : (barPay c j.castSucc : sProp 𝕄) = iprop(∃ f, kvPts (oth j c) (yN c) fullShare f) := by
  unfold barPay
  rw [dif_pos (show (j.castSucc).val < 3 from j.isLt)]; rfl

/-- The half of the send buffer, and of the receive buffer, that starts at a given column. -/
abbrev sendAt (off : Fin 2 → ℕ) (inb : ∀ a, off a + S512x256.size a ≤ S512x512.size a) : Memref sig .tc .vmem S512x256 .bf16 :=
  (Memref.whole cc0_scratch3).slice (Rect.unit (s := S512x512) off S512x256.size inb) (fun _ => rfl)
abbrev recvAt (off : Fin 2 → ℕ) (inb : ∀ a, off a + S512x256.size a ≤ S512x512.size a) : Memref sig .tc .vmem S512x256 .bf16 :=
  (Memref.whole cc0_scratch4).slice (Rect.unit (s := S512x512) off S512x256.size inb) (fun _ => rfl)

theorem slab_own (c : Dev nD) (y : Fin 4) (q : PosShare TreeShare) (f) (off inb) (ho : off = ![y.val, 0, 0, 0]) :
    (kvPts c y q f : sProp 𝕄) = ((slabAt off inb).view.loc (c : Thread nD τ) ↦[(slabAt off inb).view.set]{q} f) := by
  rw [slab_set y off inb ho]
theorem send_own (c : Dev nD) (h : Fin 2) (f) (off inb) (ho : off = ![0, 256 * h.val]) :
    (sendPts c h f : sProp 𝕄) = ((sendAt off inb).view.loc (c : Thread nD τ) ↦[(sendAt off inb).view.set]{fullShare} f) := by
  rw [send_set h inb ho]
theorem recv_own (c : Dev nD) (h : Fin 2) (f) (off inb) (ho : off = ![0, 256 * h.val]) :
    (recvPts c h f : sProp 𝕄) = ((recvAt off inb).view.loc (c : Thread nD τ) ↦[(recvAt off inb).view.set]{fullShare} f) := by
  rw [recv_set h inb ho]

/-! ## The steps -/

section Steps
variable (K : Dev nD × Fin 11 → ℕ) (c : Dev nD)

theorem step_signal {k : DProg F} {Q : PUnit.{1} → sProp 𝕄} (j : Fin 3) {n : Dev nD} (hn : n = peer j c) {a} (ha : a = 1)
    {O₁ : CellTallies nD τ sig Unit} (O : CellTallies nD τ sig Unit) (hO : O₁ = O + tallyAt (kcell (peer j c, 0)) () 1) {W : Waits sig Unit} :
    iprop(recs X K ∗ owes (c : Thread nD τ) O₁ W ∗ dutyTok ER (kcell (peer j c, 0)) 0 (slot j c).castSucc
        ∗ (∃ f, kvPts c (yN (peer j c)) fullShare f))
      ⊢ iprop((owes (c : Thread nD τ) O W -∗ wpc c k Q) -∗ wpc c (.op (.semSignal ((n, .tc) : Thread nD τ) barS a) fun _ => k) Q) := by
  subst hn ha
  iintro ⟨#HR, HO, Ht, Hp⟩ Hk
  iapply (Rounds.wp_signal 𝒱₀ ER (rd X) (c : Thread nD τ) none (dst := (peer j c : Thread nD τ)) (κ := K (peer j c, 0))
      (d := (slot j c).castSucc) (by rw [duties_bar]; exact Finset.mem_univ _) (amount_eq X (peer j c) 0 0 _) () O hO) $$ [HO Ht Hp]
  · isplitr; · iapply (recs_inv X K (peer j c, 0)); iexact HR
    isplitl [HO]; · iexact HO
    isplitl [Ht]; · iexact Ht
    isplitl [Hp]; · rw [payload_bar, barPay_peer]; iexact Hp
    iapply (recs_reached X K (peer j c, 0)); iexact HR
  iexact Hk

theorem step_signal_mate {k : DProg F} {Q : PUnit.{1} → sProp 𝕄} {n : Dev nD} (hn : n = mate c) {a} (ha : a = 1)
    {O₁ : CellTallies nD τ sig Unit} (O : CellTallies nD τ sig Unit) (hO : O₁ = O + tallyAt (kcell (mate c, 0)) () 1) {W : Waits sig Unit} :
    iprop(recs X K ∗ owes (c : Thread nD τ) O₁ W ∗ dutyTok ER (kcell (mate c, 0)) 0 3 ∗ (∃ f, recvPts c 0 f) ∗ (∃ f, recvPts c 1 f))
      ⊢ iprop((owes (c : Thread nD τ) O W -∗ wpc c k Q) -∗ wpc c (.op (.semSignal ((n, .tc) : Thread nD τ) barS a) fun _ => k) Q) := by
  subst hn ha
  iintro ⟨#HR, HO, Ht, Hp⟩ Hk
  iapply (Rounds.wp_signal 𝒱₀ ER (rd X) (c : Thread nD τ) none (dst := (mate c : Thread nD τ)) (κ := K (mate c, 0))
      (d := 3) (by rw [duties_bar]; exact Finset.mem_univ _) (amount_eq X (mate c) 0 0 _) () O hO) $$ [HO Ht Hp]
  · isplitr; · iapply (recs_inv X K (mate c, 0)); iexact HR
    isplitl [HO]; · iexact HO
    isplitl [Ht]; · iexact Ht
    isplitl [Hp]; · rw [payload_bar, barPay_mate]; iexact Hp
    iapply (recs_reached X K (mate c, 0)); iexact HR
  iexact Hk

/-- The wait for the four units: the slabs of its place on the peers and the mate's receive buffer are the device's to copy into. -/
theorem step_wait_bar {k : DProg F} {Q : PUnit.{1} → sProp 𝕄} {a} (ha : a = 4) (O : CellTallies nD τ sig Unit) (hO : Above 1 O) {W : Waits sig Unit} :
    iprop(recs X K ∗ levAts L lv ∗ cred (tallyAt (kcell (c, 0)) () 4) ∗ owes (c : Thread nD τ) O W ∗ atPos ER (kcell (c, 0)) 0 ∅ 0)
      ⊢ iprop(((∃ W', owes (c : Thread nD τ) O W') ∗ semVal (kcell (c, 0)) 0 ∗ (bigSep Finset.univ fun d : Fin 4 => (barPay c d : sProp 𝕄)) -∗ wpc c k Q)
        -∗ wpc c (.op (.semWait barS a) fun _ => k) Q) := by
  subst ha
  iintro ⟨#HR, #Hlev, Hc, HO, Hat⟩ Hk
  iapply (Rounds.wp_wait_rest_token 𝒱₀ ER (rd X) (c : Thread nD τ) none (κ := K (c, 0)) (sm := .reg barS)
      (wpE_semWait_eq 𝒱₀ (c : Thread nD τ) none Set.univ) (Set.mem_univ _) () (O := O) (W := W) (R := 0) (m := 0) (T := ∅)
      (by rw [Nat.zero_add]; exact (expect_bar X c).symm)) $$ [Hc HO Hat]
  · isplitr; · iapply (recs_inv X K (c, 0)); iexact HR
    isplitl [Hc]; · iexact Hc
    isplitl [HO]; · iexact HO
    isplitr; · iapply (mayWait_of 1 c (.reg barS) (le_of_eq (lv_kcell c 0)) O hO); iexact Hlev
    iexact Hat
  iintro ⟨HO, Hat, -, Hp⟩
  imod (Rounds.cell_close ER (rd X) (Set.mem_univ (K (c, 0))) (fun h => h) (R := 0 + 1) (duties_later X (kcell (c, 0)))) $$ [Hat] with Hz
  · isplitr; · iapply (recs_inv X K (c, 0)); iexact HR
    iexact Hat
  iapply Hk
  isplitl [HO]; · iexists _; iexact HO
  isplitl [Hz]; · iexact Hz
  ihave Hp' := (Entails.of_eq (rest_bar X c)) $$ Hp
  iexact Hp'

/-- The wait for a landing: what it hands over, and the counter at zero. -/
theorem step_wait {k : DProg F} {Q : PUnit.{1} → sProp 𝕄} (i : Fin 11) (hi : i.val ≠ 0) {s : DmaSem sig} (hs : SemLoc.dma s = csem i)
    {sp sp' : Space} {sh sh' : Shape} {e e' : EltTy} {src : Memref sig (.tc) sp' sh' e'} {dst : Memref sig (.tc) sp sh e}
    {h1 : src.view.WordExact} {h2 : dst.view.WordExact} (hN : dst.view.dmaCredit = amt i)
    (n : ℕ) (hl : lvK i ≤ n) (O : CellTallies nD τ sig Unit) (hO : Above n O) {W : Waits sig Unit} :
    iprop(recs X K ∗ levAts L lv ∗ cred (tallyAt (kcell (c, i)) () (amt i)) ∗ owes (c : Thread nD τ) O W ∗ atPos ER (kcell (c, i)) 0 ∅ 0)
      ⊢ iprop(((∃ W', owes (c : Thread nD τ) O W') ∗ semVal (kcell (c, i)) 0 ∗ payK X c i -∗ wpc c k Q)
        -∗ wpc c (.op (.waitDma2 s src dst h1 h2) fun _ => k) Q) := by
  have hcell : kcell (c, i) = ((c : Thread nD τ), SemLoc.dma s) := by rw [hs]
  have hinv := recs_inv X K (c, i)
  have hexp := expect_dma X c i hi
  have hlater := duties_later X (kcell (c, i))
  have hrest := rest_dma X c i hi
  have hlv : lv ((c : Thread nD τ), SemLoc.dma s) () ≤ n := by rw [← hcell, lv_kcell]; exact hl
  rw [hcell] at hinv hexp hlater hrest ⊢
  rw [← hN] at hexp ⊢
  iintro ⟨#HR, #Hlev, Hc, HO, Hat⟩ Hk
  iapply (Rounds.wp_wait_rest_token 𝒱₀ ER (rd X) (c : Thread nD τ) none (κ := K (c, i)) (sm := .dma s)
      (wpE_waitDma2_eq 𝒱₀ (c : Thread nD τ) none Set.univ) (Set.mem_univ _) () (O := O) (W := W) (R := 0) (m := 0) (T := ∅)
      (by rw [Nat.zero_add]; exact hexp.symm)) $$ [Hc HO Hat]
  · isplitr; · iapply hinv; iexact HR
    isplitl [Hc]; · iexact Hc
    isplitl [HO]; · iexact HO
    isplitr; · iapply (mayWait_of n c (.dma s) hlv O hO); iexact Hlev
    iexact Hat
  iintro ⟨HO, Hat, -, Hp⟩
  imod (Rounds.cell_close ER (rd X) (Set.mem_univ (K (c, i))) (fun h => h) (R := 0 + 1) hlater) $$ [Hat] with Hz
  · isplitr; · iapply hinv; iexact HR
    iexact Hat
  iapply Hk
  isplitl [HO]; · iexists _; iexact HO
  isplitl [Hz]; · iexact Hz
  ihave Hp' := (Entails.of_eq hrest) $$ Hp
  iexact Hp'

/-- The copy of the own slab to the `j`-th peer. -/
theorem step_send_slab {k : DProg F} {Q : PUnit.{1} → sProp 𝕄} (j : Fin 3) {n : Dev nD} (hn : n = peer j c)
    {off : Fin 4 → ℕ} {inb : ∀ a, off a + S1x2x512x512.size a ≤ S4x2x512x512.size a} (ho : off = ![(yN c).val, 0, 0, 0])
    {s1 s2 : DmaSem sig} (hs1 : SemLoc.dma s1 = csem (kYS j)) (hs2 : SemLoc.dma s2 = csem (kYR (slot j c)))
    {hsc : (slabAt off inb).view.ref.isScScratch = false} {h1 : (slabAt off inb).view.WordExact} {h2 : (slabAt off inb).view.WordExact}
    {hsem : DmaTarget.Typed .vmem (.dma s2) (.remote (Dev.tc n : Thread nD τ) (slabAt off inb) (.dma s1) hsc)}
    {O₁ : CellTallies nD τ sig Unit} (O : CellTallies nD τ sig Unit) (hO : O₁ = O + tallyAt (kcell (peer j c, kYR (slot j c))) () NY) {W : Waits sig Unit} :
    iprop(recs X K ∗ kvPts c (yN c) (shares3 fullShare j) (kvAll X c) ∗ (∃ f, kvPts (peer j c) (yN c) fullShare f) ∗ owes (c : Thread nD τ) O₁ W
        ∗ dutyTok ER (kcell (c, kYS j)) 0 0 ∗ dutyTok ER (kcell (peer j c, kYR (slot j c))) 0 0)
      ⊢ iprop((cred (tallyAt (kcell (c, kYS j)) () NY) ∗ owes (c : Thread nD τ) O W -∗ wpc c k Q)
        -∗ wpc c (.op (.enqueueDma (slabAt off inb) (.remote (Dev.tc n : Thread nD τ) (slabAt off inb) (.dma s1) hsc) (.dma s2) h1 h2 hsem) fun _ => k) Q) := by
  subst hn
  have e1 : kcell (c, kYS j) = ((c : Thread nD τ), SemLoc.dma s1) := by rw [hs1]
  have e2 : kcell (peer j c, kYR (slot j c)) = ((peer j c : Thread nD τ), SemLoc.dma s2) := by rw [hs2]
  have i1 := recs_inv X K (c, kYS j)
  have i2 := recs_inv X K (peer j c, kYR (slot j c))
  have r1 := recs_reached X K (c, kYS j)
  have r2 := recs_reached X K (peer j c, kYR (slot j c))
  have d1 := duties_dma X c (kYS j) (kYS_ne j)
  have d2 := duties_dma X (peer j c) (kYR (slot j c)) (kYR_ne _)
  have a1 := (amount_eq X c (kYS j) 0 0).trans (amt_YS j)
  have a2 := (amount_eq X (peer j c) (kYR (slot j c)) 0 0).trans (amt_YR _)
  have p1 := (payload_dma X c (kYS j) (kYS_ne j) 0 0).trans (payK_YS X c j)
  have p2 := (payload_dma X (peer j c) (kYR (slot j c)) (kYR_ne _) 0 0).trans (payK_YR X _ _)
  rw [oth_slot, show kvAll X (peer j c) = kvAll X c from kvAll_oth X _ c] at p2
  rw [e1] at i1 r1 d1 a1 p1 ⊢
  rw [e2] at i2 r2 d2 a2 p2 hO ⊢
  iintro ⟨#HR, Hs, ⟨%fd, Hd⟩, HO, Ht1, Ht2⟩ Hk
  ihave Hs' := (Entails.of_eq (slab_own c (yN c) (shares3 fullShare j) (kvAll X c) off inb ho)) $$ Hs
  ihave Hd' := (Entails.of_eq (slab_own (peer j c) (yN c) fullShare fd off inb ho)) $$ Hd
  iapply (Rounds.wp_send_pointsTo 𝒱₀ ER (rd X) (c : Thread nD τ) none (κ₁ := K (c, kYS j)) (κ₂ := K (peer j c, kYR (slot j c)))
      (r₁ := 0) (r₂ := 0) (d₁ := 0) (d₂ := 0) (fd := fd) (fs := kvAll X c) (src := slabAt off inb) (dst := slabAt off inb) (c' := (peer j c : Thread nD τ))
      (by rw [d1]; exact Finset.mem_singleton_self _) (by rw [d2]; exact Finset.mem_singleton_self _)
      () () NY rfl a1 a2 O hO (W := W)
      (Entails.of_eq ((slab_own c (yN c) (shares3 fullShare j) (kvAll X c) off inb ho).symm.trans p1.symm))
      (Entails.of_eq ((slab_landing (peer j c) (yN c) off inb ho fd (kvAll X c)).trans p2.symm))) $$ [Hs' Hd' HO Ht1 Ht2]
  · isplitr; · iapply i1; iexact HR
    isplitr; · iapply i2; iexact HR
    isplitl [Hs']; · iexact Hs'
    isplitl [Hd']; · iexact Hd'
    isplitl [HO]; · iexact HO
    isplitl [Ht1]; · iexact Ht1
    isplitr; · iapply r1; iexact HR
    isplitl [Ht2]; · iexact Ht2
    iapply r2; iexact HR
  iexact Hk

/-- The copy of a half of the send buffer to the mate. -/
theorem step_send_half {k : DProg F} {Q : PUnit.{1} → sProp 𝕄} (h : Fin 2) {n : Dev nD} (hn : n = mate c)
    {off : Fin 2 → ℕ} {inb : ∀ a, off a + S512x256.size a ≤ S512x512.size a} (ho : off = ![0, 256 * h.val])
    {s1 s2 : DmaSem sig} (hs1 : SemLoc.dma s1 = csem (kXS h)) (hs2 : SemLoc.dma s2 = csem (kXR h))
    {hsc : (recvAt off inb).view.ref.isScScratch = false}
    {h1 : (sendAt off inb).view.WordExact}
    {h2 : (recvAt off inb).view.WordExact}
    {hsem : DmaTarget.Typed .vmem (.dma s2) (.remote (Dev.tc n : Thread nD τ) (recvAt off inb) (.dma s1) hsc)}
    {O₁ : CellTallies nD τ sig Unit} (O : CellTallies nD τ sig Unit) (hO : O₁ = O + tallyAt (kcell (mate c, kXR h)) () NX) {W : Waits sig Unit} :
    iprop(recs X K ∗ sendPts c h (cols (sendT X c)) ∗ (∃ f, recvPts (mate c) h f) ∗ owes (c : Thread nD τ) O₁ W
        ∗ dutyTok ER (kcell (c, kXS h)) 0 0 ∗ dutyTok ER (kcell (mate c, kXR h)) 0 0)
      ⊢ iprop((cred (tallyAt (kcell (c, kXS h)) () NX) ∗ owes (c : Thread nD τ) O W -∗ wpc c k Q)
        -∗ wpc c (.op (.enqueueDma (sendAt off inb)
          (.remote (Dev.tc n : Thread nD τ) (recvAt off inb) (.dma s1) hsc)
          (.dma s2) h1 h2 hsem) fun _ => k) Q) := by
  subst hn
  have e1 : kcell (c, kXS h) = ((c : Thread nD τ), SemLoc.dma s1) := by rw [hs1]
  have e2 : kcell (mate c, kXR h) = ((mate c : Thread nD τ), SemLoc.dma s2) := by rw [hs2]
  have i1 := recs_inv X K (c, kXS h)
  have i2 := recs_inv X K (mate c, kXR h)
  have r1 := recs_reached X K (c, kXS h)
  have r2 := recs_reached X K (mate c, kXR h)
  have d1 := duties_dma X c (kXS h) (kXS_ne h)
  have d2 := duties_dma X (mate c) (kXR h) (kXR_ne _)
  have a1 := (amount_eq X c (kXS h) 0 0).trans (amt_XS h)
  have a2 := (amount_eq X (mate c) (kXR h) 0 0).trans (amt_XR _)
  have p1 := (payload_dma X c (kXS h) (kXS_ne h) 0 0).trans (payK_XS X c h)
  have p2 := (payload_dma X (mate c) (kXR h) (kXR_ne _) 0 0).trans (payK_XR X _ _)
  rw [mate_mate] at p2
  rw [e1] at i1 r1 d1 a1 p1 ⊢
  rw [e2] at i2 r2 d2 a2 p2 hO ⊢
  iintro ⟨#HR, Hs, ⟨%fd, Hd⟩, HO, Ht1, Ht2⟩ Hk
  ihave Hs' := (Entails.of_eq (send_own c h (cols (sendT X c)) off inb ho)) $$ Hs
  ihave Hd' := (Entails.of_eq (recv_own (mate c) h fd off inb ho)) $$ Hd
  iapply (Rounds.wp_send_pointsTo 𝒱₀ ER (rd X) (c : Thread nD τ) none (κ₁ := K (c, kXS h)) (κ₂ := K (mate c, kXR h))
      (r₁ := 0) (r₂ := 0) (d₁ := 0) (d₂ := 0) (fd := fd) (fs := cols (sendT X c)) (src := sendAt off inb) (dst := recvAt off inb) (c' := (mate c : Thread nD τ))
      (by rw [d1]; exact Finset.mem_singleton_self _) (by rw [d2]; exact Finset.mem_singleton_self _)
      () () NX rfl a1 a2 O hO (W := W)
      (Entails.of_eq ((send_own c h (cols (sendT X c)) off inb ho).symm.trans p1.symm))
      (Entails.of_eq ((half_landing (mate c) h off inb ho fd (cols (sendT X c))).trans p2.symm))) $$ [Hs' Hd' HO Ht1 Ht2]
  · isplitr; · iapply i1; iexact HR
    isplitr; · iapply i2; iexact HR
    isplitl [Hs']; · iexact Hs'
    isplitl [Hd']; · iexact Hd'
    isplitl [HO]; · iexact HO
    isplitl [Ht1]; · iexact Ht1
    isplitr; · iapply r1; iexact HR
    isplitl [Ht2]; · iexact Ht2
    iapply r2; iexact HR
  iexact Hk

end Steps

end Cert.AllToAll

end
-- ==== Proof.Stages.lean ====
/-
# From one stage of the body to the next

What a device holds between the loops, and what it holds before and after the whole body.
-/
module

public import proofs.«01_k».proof.Proof.Handshake

@[expose] public section

noncomputable section

namespace Cert.AllToAll

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (shares3 pointsTo_thirds)

variable {F : FTy → Type} [FloatOps F]

local notation "𝕄" => MT nD τ sig Unit (Elt F) ℕ UU ℕ

variable (X : Blocks F)

/-! ## Finite conjunctions spelled out -/

theorem sep_fin2 (Φ : Fin 2 → sProp 𝕄) : bigSep Finset.univ Φ = iprop(Φ 0 ∗ Φ 1) := bigSep_univ_eq_bigSepL [0, 1] (by decide) (by decide) Φ
theorem sep_fin3 (Φ : Fin 3 → sProp 𝕄) : bigSep Finset.univ Φ = iprop(Φ 0 ∗ Φ 1 ∗ Φ 2) := bigSep_univ_eq_bigSepL [0, 1, 2] (by decide) (by decide) Φ
theorem sep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ
theorem sep_cells (Φ : Fin 11 → sProp 𝕄) :
    bigSep Finset.univ Φ = iprop(Φ 0 ∗ Φ (kYS 0) ∗ Φ (kYS 1) ∗ Φ (kYS 2) ∗ Φ (kYR 0) ∗ Φ (kYR 1) ∗ Φ (kYR 2) ∗ Φ (kXS 0) ∗ Φ (kXS 1) ∗ Φ (kXR 0) ∗ Φ (kXR 1)) :=
  bigSep_univ_eq_bigSepL [0, 1, 2, 3, 4, 5, 6, 7, 8, 9, 10] (by decide) (by decide) Φ

/-- Three things, one for each other place, in the order the device visits its peers. -/
theorem sep_order (c : Dev nD) (Φ : Fin 3 → sProp 𝕄) :
    iprop(Φ 0 ∗ Φ 1 ∗ Φ 2) = iprop(Φ (wslot 0 c) ∗ Φ (wslot 1 c) ∗ Φ (wslot 2 c)) := by
  rw [← sep_fin3 Φ, bigSep_univ_equiv (Equiv.ofBijective _ (wslot_bij c)) Φ, sep_fin3]; rfl

/-! ## Between the loops -/

section Stages
variable (c : Dev nD)

theorem copy_begin (f) : iprop(kPts X c ∗ vPts X c ∗ kvWhole c f) ⊢ copySt X c f 0 := by
  unfold copySt; rw [kvMix_start]

theorem copy_end (f) : copySt X c f 8 ⊢ iprop(kPts X c ∗ vPts X c ∗ kvPts c (yN c) fullShare (kvAll X c)
    ∗ (∃ f, kvPts c (yN (peer 0 c)) fullShare f) ∗ (∃ f, kvPts c (yN (peer 1 c)) fullShare f) ∗ (∃ f, kvPts c (yN (peer 2 c)) fullShare f)) := by
  have e : (kvPts c (yN c) fullShare (kvMix (yN c).val 8 8 (kvTile X c) f) : sProp 𝕄) = kvPts c (yN c) fullShare (kvAll X c) := by
    refine pointsTo_congr fun i hi => ?_
    unfold slabSet at hi
    have h := kvMix_full (yN c) (fun o => kvTile X (atY o c)) f i (Fin.ext (Finset.mem_filter.mp hi).2)
    rw [atY_self] at h
    exact h
  unfold copySt
  iintro ⟨HK, HV, H⟩
  ihave H' := (kv_split c (kvMix (yN c).val 8 8 (kvTile X c) f)).1 $$ H
  icases H' with ⟨H, H0, H1, H2⟩
  isplitl [HK]; · iexact HK
  isplitl [HV]; · iexact HV
  isplitl [H]; · rw [← e]; iexact H
  isplitl [H0]; · iexists _; iexact H0
  isplitl [H1]; · iexists _; iexact H1
  iexists _; iexact H2

theorem bar_open : (bigSep Finset.univ fun d : Fin 4 => (barPay c d : sProp 𝕄)) ⊢
    iprop((∃ f, kvPts (peer 0 c) (yN c) fullShare f) ∗ (∃ f, kvPts (peer 1 c) (yN c) fullShare f) ∗ (∃ f, kvPts (peer 2 c) (yN c) fullShare f)
      ∗ (∃ f, recvPts (mate c) 0 f) ∗ (∃ f, recvPts (mate c) 1 f)) := by
  have h3 : (barPay c 3 : sProp 𝕄) = iprop((∃ f, recvPts (mate c) 0 f) ∗ (∃ f, recvPts (mate c) 1 f)) := by
    unfold barPay; rw [dif_neg (by decide)]
  rw [sep_fin4, h3]
  iintro ⟨H0, H1, H2, HM⟩
  ihave H := (Entails.of_eq (sep_order c fun j : Fin 3 => (barPay c j.castSucc : sProp 𝕄))) $$ [H0 H1 H2]
  · isplitl [H0]; · iexact H0
    isplitl [H1]; · iexact H1
    iexact H2
  rw [barPay_own, barPay_own, barPay_own]
  icases H with ⟨H0, H1, H2⟩
  isplitl [H0]; · iexact H0
  isplitl [H1]; · iexact H1
  isplitl [H2]; · iexact H2
  iexact HM

theorem thirds (y : Fin 4) (f : S4x2x512x512.Idx → Elt F .bf16) : (kvPts c y fullShare f : sProp 𝕄) ⊣⊢
    iprop(kvPts c y (shares3 fullShare 0) f ∗ kvPts c y (shares3 fullShare 1) f ∗ kvPts c y (shares3 fullShare 2) f) :=
  pointsTo_thirds (ℓ := (c : Thread nD τ).loc cc0_scratch0) (I := slabSet y) fullShare f

theorem own_begin (a l) : iprop(qPts X c ∗ kPts X c ∗ vPts X c ∗ accPts c a ∗ sumPts c l) ⊢ ownSt X c a l 0 := by
  unfold ownSt; rw [colsMix_start, sumsMix_start]
theorem own_end (a l) : ownSt X c a l 8 ⊢ iprop(qPts X c ∗ kPts X c ∗ vPts X c ∗ accPts c (cols (aS X c 0)) ∗ sumPts c (sums (lS X c 0))) := by
  unfold ownSt; rw [colsMix_full, sumsMix_full]

theorem fold_begin (s : ℕ) : iprop(qPts X c ∗ kvPts c (yN (peer ⟨s % 3, Nat.mod_lt _ (by decide)⟩ c)) fullShare (kvAll X c)
    ∗ accPts c (cols (aS X c s)) ∗ sumPts c (sums (lS X c s))) ⊢ foldSt X c s 0 := by
  unfold foldSt; rw [colsMix_start, sumsMix_start]
theorem fold_end (s : ℕ) : foldSt X c s 8 ⊢ iprop(qPts X c ∗ kvPts c (yN (peer ⟨s % 3, Nat.mod_lt _ (by decide)⟩ c)) fullShare (kvAll X c)
    ∗ accPts c (cols (aS X c (s + 1))) ∗ sumPts c (sums (lS X c (s + 1)))) := by
  unfold foldSt; rw [colsMix_full, sumsMix_full]

theorem row_begin (b : ℕ) (T : ℕ → S1x512x1x64.Idx → Elt F .f32) (o) : (oPts c o : sProp 𝕄) ⊢ oPts c (rowMix b 0 T o) := by
  rw [rowMix_start]

theorem out_begin (hf : Fin 2) (o f) : iprop(accPts c (cols (aS X c 3)) ∗ sumPts c (sums (lS X c 3))
    ∗ oPts c (rowMix (xN c).val (4 * hf.val) (outT X c) o) ∗ sendPts c hf f) ⊢ outSt X c hf o f (4 * hf.val) := by
  unfold outSt; rw [colsMix_start]
theorem out_end (hf : Fin 2) (o f) : outSt X c hf o f (4 * hf.val + 4) ⊢ iprop(accPts c (cols (aS X c 3)) ∗ sumPts c (sums (lS X c 3))
    ∗ oPts c (rowMix (xN c).val (4 * hf.val + 4) (outT X c) o) ∗ sendPts c hf (cols (sendT X c))) := by
  have e : (sendPts c hf (colsMix (4 * hf.val) (4 * hf.val + 4) (sendT X c) f) : sProp 𝕄) = sendPts c hf (cols (sendT X c)) := by
    refine pointsTo_congr fun i hi => ?_
    unfold halfSet at hi
    have h := (Finset.mem_filter.mp hi).2
    exact colsMix_eq _ _ _ _ _ (by omega)
  unfold outSt; rw [e]

theorem take_open (hf : Fin 2) (o n) : iprop(recvPts c hf (cols (sendT X (mate c))) ∗ oPts c (rowMix (1 - (xN c).val) n (otherT X c) o)) ⊢ takeSt X c hf o n := by
  unfold takeSt; iintro H; iexact H
theorem take_close (hf : Fin 2) (o n) : takeSt X c hf o n ⊢ iprop(recvPts c hf (cols (sendT X (mate c))) ∗ oPts c (rowMix (1 - (xN c).val) n (otherT X c) o)) := by
  unfold takeSt; iintro H; iexact H

end Stages

/-! ## Before and after the body -/

section Ends
variable (K : Dev nD × Fin 11 → ℕ) (c : Dev nD)

/-- The tokens of the duties the device pays: a unit to each peer's barrier and to its mate's, the landing of its slab on each peer and of
    its halves on the mate, and the end of reading at its own side of each copy. -/
def payToks : sProp 𝕄 :=
  iprop((bigSep Finset.univ fun k : Fin 3 => dutyTok ER (kcell (peer k c, 0)) 0 (slot k c).castSucc) ∗ dutyTok ER (kcell (mate c, 0)) 0 3
    ∗ (bigSep Finset.univ fun k : Fin 3 => dutyTok ER (kcell (c, kYS k)) 0 0)
    ∗ (bigSep Finset.univ fun k : Fin 3 => dutyTok ER (kcell (peer k c, kYR (slot k c))) 0 0)
    ∗ (bigSep Finset.univ fun h : Fin 2 => dutyTok ER (kcell (c, kXS h)) 0 0)
    ∗ (bigSep Finset.univ fun h : Fin 2 => dutyTok ER (kcell (mate c, kXR h)) 0 0))

/-- What stays with a device: its positions at its own cells, and those tokens. -/
def linear : sProp 𝕄 := iprop((bigSep Finset.univ fun k : Fin 11 => atPos ER (kcell (c, k)) 0 ∅ 0) ∗ payToks c)

/-- The credit the launch gives it: what the others owe its cells. -/
def credits : sProp 𝕄 :=
  iprop(cred (tallyAt (kcell (c, 0)) () 4) ∗ (bigSep Finset.univ fun j : Fin 3 => cred (tallyAt (kcell (c, kYR j)) () NY))
    ∗ (bigSep Finset.univ fun h : Fin 2 => cred (tallyAt (kcell (c, kXR h)) () NX)))

/-- The five scratch buffers, at some contents. -/
def scratch : sProp 𝕄 :=
  iprop((∃ f, kvWhole c f) ∗ (∃ f, accPts c f) ∗ (∃ f, sumPts c f) ∗ (∃ f : S512x512.Idx → Elt F .bf16, (((c : Thread nD τ).loc cc0_scratch3) ↦{fullShare} f))
    ∗ (∃ f : S512x512.Idx → Elt F .bf16, (((c : Thread nD τ).loc cc0_scratch4) ↦{fullShare} f)))

/-- The eleven counters of the device at zero. -/
def closed : sProp 𝕄 := bigSep Finset.univ fun k : Fin 11 => semVal (kcell (c, k)) 0

theorem kv_join : iprop((kvPts c (yN c) (shares3 fullShare 0) (kvAll X c) ∗ kvPts c (yN c) (shares3 fullShare 1) (kvAll X c)
      ∗ kvPts c (yN c) (shares3 fullShare 2) (kvAll X c))
    ∗ kvPts c (yN (peer 0 c)) fullShare (kvAll X c) ∗ kvPts c (yN (peer 1 c)) fullShare (kvAll X c) ∗ kvPts c (yN (peer 2 c)) fullShare (kvAll X c))
    ⊢ (kvWhole c (kvAll X c) : sProp 𝕄) := by
  iintro ⟨H, Hp⟩
  ihave H := (thirds c (yN c) (kvAll X c)).2 $$ H
  iapply (kv_split c (kvAll X c)).2
  isplitl [H]; · iexact H
  iexact Hp

theorem closed_intro : iprop(semVal (kcell (c, 0)) 0 ∗ (semVal (kcell (c, kYS 0)) 0 ∗ semVal (kcell (c, kYS 1)) 0 ∗ semVal (kcell (c, kYS 2)) 0)
    ∗ (semVal (kcell (c, kYR (wslot 0 c))) 0 ∗ semVal (kcell (c, kYR (wslot 1 c))) 0 ∗ semVal (kcell (c, kYR (wslot 2 c))) 0)
    ∗ (semVal (kcell (c, kXS 0)) 0 ∗ semVal (kcell (c, kXS 1)) 0) ∗ (semVal (kcell (c, kXR 0)) 0 ∗ semVal (kcell (c, kXR 1)) 0))
    ⊢ (closed c : sProp 𝕄) := by
  unfold closed
  rw [sep_cells]
  iintro ⟨HB, ⟨S0, S1, S2⟩, HR, ⟨X0, X1⟩, M0, M1⟩
  ihave HR := (Entails.of_eq (sep_order c fun j : Fin 3 => (semVal (kcell (c, kYR j)) 0 : sProp 𝕄)).symm) $$ HR
  icases HR with ⟨R0, R1, R2⟩
  isplitl [HB]; · iexact HB
  isplitl [S0]; · iexact S0
  isplitl [S1]; · iexact S1
  isplitl [S2]; · iexact S2
  isplitl [R0]; · iexact R0
  isplitl [R1]; · iexact R1
  isplitl [R2]; · iexact R2
  isplitl [X0]; · iexact X0
  isplitl [X1]; · iexact X1
  isplitl [M0]; · iexact M0
  iexact M1

/-- The positions, the receive cells in the order of the waits. -/
theorem positions_open : (bigSep Finset.univ fun k : Fin 11 => (atPos ER (kcell (c, k)) 0 ∅ 0 : sProp 𝕄)) ⊢
    iprop(atPos ER (kcell (c, 0)) 0 ∅ 0 ∗ (atPos ER (kcell (c, kYS 0)) 0 ∅ 0 ∗ atPos ER (kcell (c, kYS 1)) 0 ∅ 0 ∗ atPos ER (kcell (c, kYS 2)) 0 ∅ 0)
      ∗ (atPos ER (kcell (c, kYR (wslot 0 c))) 0 ∅ 0 ∗ atPos ER (kcell (c, kYR (wslot 1 c))) 0 ∅ 0 ∗ atPos ER (kcell (c, kYR (wslot 2 c))) 0 ∅ 0)
      ∗ (atPos ER (kcell (c, kXS 0)) 0 ∅ 0 ∗ atPos ER (kcell (c, kXS 1)) 0 ∅ 0) ∗ (atPos ER (kcell (c, kXR 0)) 0 ∅ 0 ∗ atPos ER (kcell (c, kXR 1)) 0 ∅ 0)) := by
  rw [sep_cells, ← sep_order c fun j : Fin 3 => (atPos ER (kcell (c, kYR j)) 0 ∅ 0 : sProp 𝕄)]
  iintro ⟨HB, S0, S1, S2, R0, R1, R2, X0, X1, M0, M1⟩
  isplitl [HB]; · iexact HB
  isplitl [S0 S1 S2]
  · isplitl [S0]; · iexact S0
    isplitl [S1]; · iexact S1
    iexact S2
  isplitl [R0 R1 R2]
  · isplitl [R0]; · iexact R0
    isplitl [R1]; · iexact R1
    iexact R2
  isplitl [X0 X1]
  · isplitl [X0]; · iexact X0
    iexact X1
  isplitl [M0]; · iexact M0
  iexact M1

theorem credits_open : credits c ⊢
    (iprop(cred (tallyAt (kcell (c, 0)) () 4)
      ∗ (cred (tallyAt (kcell (c, kYR (wslot 0 c))) () NY) ∗ cred (tallyAt (kcell (c, kYR (wslot 1 c))) () NY) ∗ cred (tallyAt (kcell (c, kYR (wslot 2 c))) () NY))
      ∗ cred (tallyAt (kcell (c, kXR 0)) () NX) ∗ cred (tallyAt (kcell (c, kXR 1)) () NX)) : sProp 𝕄) := by
  unfold credits
  rw [sep_fin3, sep_fin2, sep_order c fun j : Fin 3 => (cred (tallyAt (kcell (c, kYR j)) () NY) : sProp 𝕄)]

end Ends

end Cert.AllToAll

end
-- ==== Proof.Program.lean ====
/-
# The program in sections

The device's program written as heads and protocol steps, one definition each, over a continuation.
-/
module

public import proofs.«01_k».proof.Proof.Handshake

@[expose] public section

noncomputable section

namespace Cert.AllToAll

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev IR (or : Fin 4 → ℕ) : Prop := ∀ a, or a + S1x512x1x64.size a ≤ S2x512x8x64.size a
abbrev IT (ok : Fin 4 → ℕ) : Prop := ∀ a, ok a + S1x1x512x64.size a ≤ S4x2x512x512.size a
abbrev IC (oc : Fin 2 → ℕ) : Prop := ∀ a, oc a + S512x64.size a ≤ S512x512.size a
abbrev IS (ol : Fin 2 → ℕ) : Prop := ∀ a, ol a + S512x1.size a ≤ S512x8.size a
abbrev IY (off : Fin 4 → ℕ) : Prop := ∀ a, off a + S1x2x512x512.size a ≤ S4x2x512x512.size a
abbrev IX (off : Fin 2 → ℕ) : Prop := ∀ a, off a + S512x256.size a ≤ S512x512.size a

/-- One head's keys and values copied into the own slab. -/
def headCopy {or ok ov : Fin 4 → ℕ} (ir : IR or) (ik : IT ok) (iv : IT ov) (pk : (rTile ok ik).PackedRows (EltTy.packing .bf16))
    (pv : (rTile ov iv).PackedRows (EltTy.packing .bf16)) (k : DProg F) : DProg F :=
  .op (.load (Memref.whole cc0_stg1_0) (rRow or ir).toLoadRect (View.loadsAt_vmem h_S1x512x1x64)) fun x =>
  .op (.load (Memref.whole cc0_scratch0) (rTile ok ik).toLoadRect (View.loadsAt_vmem h_S1x1x512x64)) fun _ =>
  .op (.store (Memref.whole cc0_scratch0) (rTile ok ik) (k0_pay1 x) Finset.univ
    (View.stores_vmem h_S1x1x512x64 ((Memref.isWhole_whole _).storeExact_slice rfl _ pk) (fun _ => rfl)) (.inl rfl)) fun _ =>
  .op (.load (Memref.whole cc0_stg2_0) (rRow or ir).toLoadRect (View.loadsAt_vmem h_S1x512x1x64)) fun y =>
  .op (.load (Memref.whole cc0_scratch0) (rTile ov iv).toLoadRect (View.loadsAt_vmem h_S1x1x512x64)) fun _ =>
  .op (.store (Memref.whole cc0_scratch0) (rTile ov iv) (k0_pay2 y) Finset.univ
    (View.stores_vmem h_S1x1x512x64 ((Memref.isWhole_whole _).storeExact_slice rfl _ pv) (fun _ => rfl)) (.inl rfl)) fun _ => k

/-- One head folded from the own block. -/
def headOwn {or : Fin 4 → ℕ} {oc ol : Fin 2 → ℕ} (ir : IR or) (ic : IC oc) (il : IS ol) (k : DProg F) : DProg F :=
  .op (.load (Memref.whole cc0_stg0_0) (rRow or ir).toLoadRect (View.loadsAt_vmem h_S1x512x1x64)) fun q =>
  .op (.load (Memref.whole cc0_stg1_0) (rRow or ir).toLoadRect (View.loadsAt_vmem h_S1x512x1x64)) fun x =>
  .op (.load (Memref.whole cc0_stg2_0) (rRow or ir).toLoadRect (View.loadsAt_vmem h_S1x512x1x64)) fun y =>
  .op (.load (Memref.whole cc0_scratch2) (rCol ol il).toLoadRect (View.loadsAt_vmem h_S512x1)) fun _ =>
  .op (.store (Memref.whole cc0_scratch2) (rCol ol il) (k0_pay22 q x) Finset.univ (View.stores_vmem_bits_univ h_S512x1 rfl) (.inl rfl)) fun _ =>
  .op (.load (Memref.whole cc0_scratch1) (rCols oc ic).toLoadRect (View.loadsAt_vmem h_S512x64)) fun _ =>
  .op (.store (Memref.whole cc0_scratch1) (rCols oc ic) (k0_pay23 q x y) Finset.univ (View.stores_vmem_bits_univ h_S512x64 rfl) (.inl rfl)) fun _ => k

/-- One head folded from a slab. -/
def headFold {or ok ov : Fin 4 → ℕ} {oc ol : Fin 2 → ℕ} (ir : IR or) (ik : IT ok) (iv : IT ov) (ic : IC oc) (il : IS ol) (k : DProg F) : DProg F :=
  .op (.load (Memref.whole cc0_stg0_0) (rRow or ir).toLoadRect (View.loadsAt_vmem h_S1x512x1x64)) fun q =>
  .op (.load (Memref.whole cc0_scratch0) (rTile ok ik).toLoadRect (View.loadsAt_vmem h_S1x1x512x64)) fun x =>
  .op (.load (Memref.whole cc0_scratch0) (rTile ov iv).toLoadRect (View.loadsAt_vmem h_S1x1x512x64)) fun y =>
  .op (.load (Memref.whole cc0_scratch2) (rCol ol il).toLoadRect (View.loadsAt_vmem h_S512x1)) fun l =>
  .op (.load (Memref.whole cc0_scratch2) (rCol ol il).toLoadRect (View.loadsAt_vmem h_S512x1)) fun _ =>
  .op (.store (Memref.whole cc0_scratch2) (rCol ol il) (k0_pay56 (k0_pay54 q) x l) Finset.univ (View.stores_vmem_bits_univ h_S512x1 rfl) (.inl rfl)) fun _ =>
  .op (.load (Memref.whole cc0_scratch1) (rCols oc ic).toLoadRect (View.loadsAt_vmem h_S512x64)) fun a =>
  .op (.load (Memref.whole cc0_scratch1) (rCols oc ic).toLoadRect (View.loadsAt_vmem h_S512x64)) fun _ =>
  .op (.store (Memref.whole cc0_scratch1) (rCols oc ic) (k0_pay57 (k0_pay54 q) x y a) Finset.univ (View.stores_vmem_bits_univ h_S512x64 rfl) (.inl rfl)) fun _ => k

/-- One head divided, stored to the result and to the send buffer. -/
def headOut {or : Fin 4 → ℕ} {oc ol : Fin 2 → ℕ} (ir : IR or) (ic : IC oc) (il : IS ol) (pc : (rCols oc ic).PackedRows (EltTy.packing .bf16)) (k : DProg F) : DProg F :=
  .op (.load (Memref.whole cc0_scratch1) (rCols oc ic).toLoadRect (View.loadsAt_vmem h_S512x64)) fun a =>
  .op (.load (Memref.whole cc0_scratch2) (rCol ol il).toLoadRect (View.loadsAt_vmem h_S512x1)) fun l =>
  .op (.load (Memref.whole cc0_stg3_0) (rRow or ir).toLoadRect (View.loadsAt_vmem h_S1x512x1x64)) fun _ =>
  .op (.store (Memref.whole cc0_stg3_0) (rRow or ir) (k0_pay155 a l) Finset.univ (View.stores_vmem_bits_univ h_S1x512x1x64 rfl) (.inl rfl)) fun _ =>
  .op (.load (Memref.whole cc0_scratch3) (rCols oc ic).toLoadRect (View.loadsAt_vmem h_S512x64)) fun _ =>
  .op (.store (Memref.whole cc0_scratch3) (rCols oc ic) (k0_pay156 a l) Finset.univ
    (View.stores_vmem h_S512x64 ((Memref.isWhole_whole _).storeExact_slice rfl _ pc) (fun _ => rfl)) (.inl rfl)) fun _ => k

/-- One head of the mate's batch taken over. -/
def headTake {or : Fin 4 → ℕ} {oc : Fin 2 → ℕ} (ir : IR or) (ic : IC oc) (k : DProg F) : DProg F :=
  .op (.load (Memref.whole cc0_scratch4) (rCols oc ic).toLoadRect (View.loadsAt_vmem h_S512x64)) fun v =>
  .op (.load (Memref.whole cc0_stg3_0) (rRow or ir).toLoadRect (View.loadsAt_vmem h_S1x512x1x64)) fun _ =>
  .op (.store (Memref.whole cc0_stg3_0) (rRow or ir) (k0_pay178 v) Finset.univ (View.stores_vmem_bits_univ h_S1x512x1x64 rfl) (.inl rfl)) fun _ => k

/-- A unit to the barrier of device `n`; -/
def sigBar (n : Dev nD) (k : DProg F) : DProg F := .op (.semSignal ((n, .tc) : Thread nD τ) barS (1#32).toInt) fun _ => k
/-- the wait for four; -/
def waitBar (k : DProg F) : DProg F := .op (.semWait barS (4#32).toInt) fun _ => k
/-- a copy of a slab to device `n`; -/
def sendSlab (n : Dev nD) {off : Fin 4 → ℕ} (inb : IY off) (ww : (Rect.unit (s := S4x2x512x512) off S1x2x512x512.size inb).WholeWords (EltTy.packing .bf16))
    (s1 s2 : DmaSem sig) (k : DProg F) : DProg F :=
  .op (.enqueueDma (slabAt off inb) (.remote (Dev.tc n : Thread nD τ) (slabAt off inb) (.dma s1)) (.dma s2)
    (((Memref.isWhole_whole _).wordExact_slice rfl _ ww).reshape _ _) (((Memref.isWhole_whole _).wordExact_slice rfl _ ww).reshape _ _)
    ⟨⟨rfl, Or.inl rfl⟩, trivial⟩) fun _ => k
/-- the wait for one; -/
def waitSlab (s : DmaSem sig) {off : Fin 4 → ℕ} (inb : IY off) (ww : (Rect.unit (s := S4x2x512x512) off S1x2x512x512.size inb).WholeWords (EltTy.packing .bf16))
    (k : DProg F) : DProg F :=
  .op (.waitDma2 s (slabAt off inb) (slabAt off inb) (((Memref.isWhole_whole _).wordExact_slice rfl _ ww).reshape _ _)
    (((Memref.isWhole_whole _).wordExact_slice rfl _ ww).reshape _ _)) fun _ => k
/-- a copy of a half to device `n`; -/
def sendHalf (n : Dev nD) {off : Fin 2 → ℕ} (inb : IX off) (ww : (Rect.unit (s := S512x512) off S512x256.size inb).WholeWords (EltTy.packing .bf16))
    (s1 s2 : DmaSem sig) (k : DProg F) : DProg F :=
  .op (.enqueueDma (sendAt off inb) (.remote (Dev.tc n : Thread nD τ) (recvAt off inb) (.dma s1)) (.dma s2)
    ((Memref.isWhole_whole _).wordExact_slice rfl _ ww) ((Memref.isWhole_whole _).wordExact_slice rfl _ ww)
    ⟨⟨rfl, Or.inl rfl⟩, trivial⟩) fun _ => k
/-- the wait for one to land; -/
def waitRecv (s : DmaSem sig) {off : Fin 2 → ℕ} (inb : IX off) (ww : (Rect.unit (s := S512x512) off S512x256.size inb).WholeWords (EltTy.packing .bf16))
    (k : DProg F) : DProg F :=
  .op (.waitDma2 s (sendAt off inb) (recvAt off inb) ((Memref.isWhole_whole _).wordExact_slice rfl _ ww) ((Memref.isWhole_whole _).wordExact_slice rfl _ ww)) fun _ => k
/-- the wait for one to have been read. -/
def waitSent (s : DmaSem sig) {off : Fin 2 → ℕ} (inb : IX off) (ww : (Rect.unit (s := S512x512) off S512x256.size inb).WholeWords (EltTy.packing .bf16))
    (k : DProg F) : DProg F :=
  .op (.waitDma2 s (recvAt off inb) (sendAt off inb) ((Memref.isWhole_whole _).wordExact_slice rfl _ ww) ((Memref.isWhole_whole _).wordExact_slice rfl _ ww)) fun _ => k

/-! ## The sections -/

variable (c : Dev nD)

/-- The eight heads copied. -/
def pCopy (k : DProg F) : DProg F :=
  headCopy (k0_off1_inb c) (k0_off2_inb c) (k0_off3_inb c) (k0_off2_packedbf16 c) (k0_off3_packedbf16 c) <|
  headCopy (k0_off4_inb c) (k0_off5_inb c) (k0_off6_inb c) (k0_off5_packedbf16 c) (k0_off6_packedbf16 c) <|
  headCopy (k0_off7_inb c) (k0_off8_inb c) (k0_off9_inb c) (k0_off8_packedbf16 c) (k0_off9_packedbf16 c) <|
  headCopy (k0_off10_inb c) (k0_off11_inb c) (k0_off12_inb c) (k0_off11_packedbf16 c) (k0_off12_packedbf16 c) <|
  headCopy (k0_off13_inb c) (k0_off14_inb c) (k0_off15_inb c) (k0_off14_packedbf16 c) (k0_off15_packedbf16 c) <|
  headCopy (k0_off16_inb c) (k0_off17_inb c) (k0_off18_inb c) (k0_off17_packedbf16 c) (k0_off18_packedbf16 c) <|
  headCopy (k0_off19_inb c) (k0_off20_inb c) (k0_off21_inb c) (k0_off20_packedbf16 c) (k0_off21_packedbf16 c) <|
  headCopy (k0_off22_inb c) (k0_off23_inb c) (k0_off24_inb c) (k0_off23_packedbf16 c) (k0_off24_packedbf16 c) k

/-- The eight heads of the own block. -/
def pOwn (k : DProg F) : DProg F :=
  headOwn (k0_off1_inb c) inb_S512x512_S512x64_0_0 inb_S512x8_S512x1_0_0 <|
  headOwn (k0_off4_inb c) inb_S512x512_S512x64_0_64 inb_S512x8_S512x1_0_1 <|
  headOwn (k0_off7_inb c) inb_S512x512_S512x64_0_128 inb_S512x8_S512x1_0_2 <|
  headOwn (k0_off10_inb c) inb_S512x512_S512x64_0_192 inb_S512x8_S512x1_0_3 <|
  headOwn (k0_off13_inb c) inb_S512x512_S512x64_0_256 inb_S512x8_S512x1_0_4 <|
  headOwn (k0_off16_inb c) inb_S512x512_S512x64_0_320 inb_S512x8_S512x1_0_5 <|
  headOwn (k0_off19_inb c) inb_S512x512_S512x64_0_384 inb_S512x8_S512x1_0_6 <|
  headOwn (k0_off22_inb c) inb_S512x512_S512x64_0_448 inb_S512x8_S512x1_0_7 k

/-- The eight heads of slab 0 of the order. -/
def pFold0 (k : DProg F) : DProg F :=
  headFold (k0_off1_inb c) (k0_off31_inb c) (k0_off32_inb c) inb_S512x512_S512x64_0_0 inb_S512x8_S512x1_0_0 <|
  headFold (k0_off4_inb c) (k0_off33_inb c) (k0_off34_inb c) inb_S512x512_S512x64_0_64 inb_S512x8_S512x1_0_1 <|
  headFold (k0_off7_inb c) (k0_off35_inb c) (k0_off36_inb c) inb_S512x512_S512x64_0_128 inb_S512x8_S512x1_0_2 <|
  headFold (k0_off10_inb c) (k0_off37_inb c) (k0_off38_inb c) inb_S512x512_S512x64_0_192 inb_S512x8_S512x1_0_3 <|
  headFold (k0_off13_inb c) (k0_off39_inb c) (k0_off40_inb c) inb_S512x512_S512x64_0_256 inb_S512x8_S512x1_0_4 <|
  headFold (k0_off16_inb c) (k0_off41_inb c) (k0_off42_inb c) inb_S512x512_S512x64_0_320 inb_S512x8_S512x1_0_5 <|
  headFold (k0_off19_inb c) (k0_off43_inb c) (k0_off44_inb c) inb_S512x512_S512x64_0_384 inb_S512x8_S512x1_0_6 <|
  headFold (k0_off22_inb c) (k0_off45_inb c) (k0_off46_inb c) inb_S512x512_S512x64_0_448 inb_S512x8_S512x1_0_7 k

/-- The eight heads of slab 1 of the order. -/
def pFold1 (k : DProg F) : DProg F :=
  headFold (k0_off1_inb c) (k0_off49_inb c) (k0_off50_inb c) inb_S512x512_S512x64_0_0 inb_S512x8_S512x1_0_0 <|
  headFold (k0_off4_inb c) (k0_off51_inb c) (k0_off52_inb c) inb_S512x512_S512x64_0_64 inb_S512x8_S512x1_0_1 <|
  headFold (k0_off7_inb c) (k0_off53_inb c) (k0_off54_inb c) inb_S512x512_S512x64_0_128 inb_S512x8_S512x1_0_2 <|
  headFold (k0_off10_inb c) (k0_off55_inb c) (k0_off56_inb c) inb_S512x512_S512x64_0_192 inb_S512x8_S512x1_0_3 <|
  headFold (k0_off13_inb c) (k0_off57_inb c) (k0_off58_inb c) inb_S512x512_S512x64_0_256 inb_S512x8_S512x1_0_4 <|
  headFold (k0_off16_inb c) (k0_off59_inb c) (k0_off60_inb c) inb_S512x512_S512x64_0_320 inb_S512x8_S512x1_0_5 <|
  headFold (k0_off19_inb c) (k0_off61_inb c) (k0_off62_inb c) inb_S512x512_S512x64_0_384 inb_S512x8_S512x1_0_6 <|
  headFold (k0_off22_inb c) (k0_off63_inb c) (k0_off64_inb c) inb_S512x512_S512x64_0_448 inb_S512x8_S512x1_0_7 k

/-- The eight heads of slab 2 of the order. -/
def pFold2 (k : DProg F) : DProg F :=
  headFold (k0_off1_inb c) (k0_off67_inb c) (k0_off68_inb c) inb_S512x512_S512x64_0_0 inb_S512x8_S512x1_0_0 <|
  headFold (k0_off4_inb c) (k0_off69_inb c) (k0_off70_inb c) inb_S512x512_S512x64_0_64 inb_S512x8_S512x1_0_1 <|
  headFold (k0_off7_inb c) (k0_off71_inb c) (k0_off72_inb c) inb_S512x512_S512x64_0_128 inb_S512x8_S512x1_0_2 <|
  headFold (k0_off10_inb c) (k0_off73_inb c) (k0_off74_inb c) inb_S512x512_S512x64_0_192 inb_S512x8_S512x1_0_3 <|
  headFold (k0_off13_inb c) (k0_off75_inb c) (k0_off76_inb c) inb_S512x512_S512x64_0_256 inb_S512x8_S512x1_0_4 <|
  headFold (k0_off16_inb c) (k0_off77_inb c) (k0_off78_inb c) inb_S512x512_S512x64_0_320 inb_S512x8_S512x1_0_5 <|
  headFold (k0_off19_inb c) (k0_off79_inb c) (k0_off80_inb c) inb_S512x512_S512x64_0_384 inb_S512x8_S512x1_0_6 <|
  headFold (k0_off22_inb c) (k0_off81_inb c) (k0_off82_inb c) inb_S512x512_S512x64_0_448 inb_S512x8_S512x1_0_7 k

/-- The four heads of half 0 divided and stored. -/
def pOut0 (k : DProg F) : DProg F :=
  headOut (k0_off1_inb c) inb_S512x512_S512x64_0_0 inb_S512x8_S512x1_0_0 packedbf16_S512x512_S512x64_0_0 <|
  headOut (k0_off4_inb c) inb_S512x512_S512x64_0_64 inb_S512x8_S512x1_0_1 packedbf16_S512x512_S512x64_0_64 <|
  headOut (k0_off7_inb c) inb_S512x512_S512x64_0_128 inb_S512x8_S512x1_0_2 packedbf16_S512x512_S512x64_0_128 <|
  headOut (k0_off10_inb c) inb_S512x512_S512x64_0_192 inb_S512x8_S512x1_0_3 packedbf16_S512x512_S512x64_0_192 k

/-- The four heads of half 1 divided and stored. -/
def pOut1 (k : DProg F) : DProg F :=
  headOut (k0_off13_inb c) inb_S512x512_S512x64_0_256 inb_S512x8_S512x1_0_4 packedbf16_S512x512_S512x64_0_256 <|
  headOut (k0_off16_inb c) inb_S512x512_S512x64_0_320 inb_S512x8_S512x1_0_5 packedbf16_S512x512_S512x64_0_320 <|
  headOut (k0_off19_inb c) inb_S512x512_S512x64_0_384 inb_S512x8_S512x1_0_6 packedbf16_S512x512_S512x64_0_384 <|
  headOut (k0_off22_inb c) inb_S512x512_S512x64_0_448 inb_S512x8_S512x1_0_7 packedbf16_S512x512_S512x64_0_448 k

/-- The four heads of half 0 taken over. -/
def pTake0 (k : DProg F) : DProg F :=
  headTake (k0_off83_inb c) inb_S512x512_S512x64_0_0 <|
  headTake (k0_off84_inb c) inb_S512x512_S512x64_0_64 <|
  headTake (k0_off85_inb c) inb_S512x512_S512x64_0_128 <|
  headTake (k0_off86_inb c) inb_S512x512_S512x64_0_192 k

/-- The four heads of half 1 taken over. -/
def pTake1 (k : DProg F) : DProg F :=
  headTake (k0_off87_inb c) inb_S512x512_S512x64_0_256 <|
  headTake (k0_off88_inb c) inb_S512x512_S512x64_0_320 <|
  headTake (k0_off89_inb c) inb_S512x512_S512x64_0_384 <|
  headTake (k0_off90_inb c) inb_S512x512_S512x64_0_448 k

/-! The receive semaphores as the program computes them. -/

abbrev ySlot0 : DmaSem sig := ((cc0_scratch6.slice (Rect.unit (s := S3) (k0_off25 c) S1.size (k0_off25_inb c))).squeeze S_ squeezes_S1_S_).sem
abbrev ySlot1 : DmaSem sig := ((cc0_scratch6.slice (Rect.unit (s := S3) (k0_off27 c) S1.size (k0_off27_inb c))).squeeze S_ squeezes_S1_S_).sem
abbrev ySlot2 : DmaSem sig := ((cc0_scratch6.slice (Rect.unit (s := S3) (k0_off28 c) S1.size (k0_off28_inb c))).squeeze S_ squeezes_S1_S_).sem
abbrev yFrom0 : DmaSem sig := ((cc0_scratch6.slice (Rect.unit (s := S3) (k0_off29 c) S1.size (k0_off29_inb c))).squeeze S_ squeezes_S1_S_).sem
abbrev yFrom1 : DmaSem sig := ((cc0_scratch6.slice (Rect.unit (s := S3) (k0_off47 c) S1.size (k0_off47_inb c))).squeeze S_ squeezes_S1_S_).sem
abbrev yFrom2 : DmaSem sig := ((cc0_scratch6.slice (Rect.unit (s := S3) (k0_off65 c) S1.size (k0_off65_inb c))).squeeze S_ squeezes_S1_S_).sem

/-- The whole program of device `c`. -/
def prog : DProg F :=
  pCopy c <|
  sigBar ⟨k0_dev1 c, k0_dev1_lt c⟩ <|
  sigBar ⟨k0_dev2 c, k0_dev2_lt c⟩ <|
  sigBar ⟨k0_dev3 c, k0_dev3_lt c⟩ <|
  sigBar ⟨k0_dev4 c, k0_dev4_lt c⟩ <|
  waitBar <|
  sendSlab ⟨k0_dev5 c, k0_dev5_lt c⟩ (k0_off26_inb c) (k0_off26_wordsbf16 c) (ySendS 0) (ySlot0 c) <|
  sendSlab ⟨k0_dev6 c, k0_dev6_lt c⟩ (k0_off26_inb c) (k0_off26_wordsbf16 c) (ySendS 1) (ySlot1 c) <|
  sendSlab ⟨k0_dev7 c, k0_dev7_lt c⟩ (k0_off26_inb c) (k0_off26_wordsbf16 c) (ySendS 2) (ySlot2 c) <|
  pOwn c <|
  waitSlab (yFrom0 c) (k0_off30_inb c) (k0_off30_wordsbf16 c) <|
  pFold0 c <|
  waitSlab (yFrom1 c) (k0_off48_inb c) (k0_off48_wordsbf16 c) <|
  pFold1 c <|
  waitSlab (yFrom2 c) (k0_off66_inb c) (k0_off66_wordsbf16 c) <|
  pFold2 c <|
  pOut0 c <|
  sendHalf ⟨k0_dev8 c, k0_dev8_lt c⟩ inb_S512x512_S512x256_0_0 wordsbf16_S512x512_S512x256_0_0 (xSendS 0) (xRecvS 0) <|
  pOut1 c <|
  sendHalf ⟨k0_dev9 c, k0_dev9_lt c⟩ inb_S512x512_S512x256_0_256 wordsbf16_S512x512_S512x256_0_256 (xSendS 1) (xRecvS 1) <|
  waitRecv (xRecvS 0) inb_S512x512_S512x256_0_0 wordsbf16_S512x512_S512x256_0_0 <|
  pTake0 c <|
  waitRecv (xRecvS 1) inb_S512x512_S512x256_0_256 wordsbf16_S512x512_S512x256_0_256 <|
  pTake1 c <|
  waitSent (xSendS 0) inb_S512x512_S512x256_0_0 wordsbf16_S512x512_S512x256_0_0 <|
  waitSent (xSendS 1) inb_S512x512_S512x256_0_256 wordsbf16_S512x512_S512x256_0_256 <|
  waitSlab (ySendS 0) (k0_off26_inb c) (k0_off26_wordsbf16 c) <|
  waitSlab (ySendS 1) (k0_off26_inb c) (k0_off26_wordsbf16 c) <|
  waitSlab (ySendS 2) (k0_off26_inb c) (k0_off26_wordsbf16 c) <|
  .ret ⟨⟩

end Cert.AllToAll

end
-- ==== Proof.Offsets.lean ====
/-
# The program's offsets, devices and semaphores in closed form

Each is computed by the program from its device number; here it is the coordinate, the peer or the slot it stands for, checked at each
of the thirty-two devices.
-/
module

public import proofs.«01_k».proof.Proof.Protocol

@[expose] public section

noncomputable section

namespace Cert.AllToAll

open Cert.KernelIdeal Cert.KernelIdeal.Gen
open Idealize.ShloMosaic
open Idealize.ShloMosaic.TcCoe

/-! ## Offsets -/

theorem o1 : ∀ c : Dev nD, k0_off1 c = ![(xN c).val, 0, 0, 0] := by decide +kernel
theorem o4 : ∀ c : Dev nD, k0_off4 c = ![(xN c).val, 0, 1, 0] := by decide +kernel
theorem o7 : ∀ c : Dev nD, k0_off7 c = ![(xN c).val, 0, 2, 0] := by decide +kernel
theorem o10 : ∀ c : Dev nD, k0_off10 c = ![(xN c).val, 0, 3, 0] := by decide +kernel
theorem o13 : ∀ c : Dev nD, k0_off13 c = ![(xN c).val, 0, 4, 0] := by decide +kernel
theorem o16 : ∀ c : Dev nD, k0_off16 c = ![(xN c).val, 0, 5, 0] := by decide +kernel
theorem o19 : ∀ c : Dev nD, k0_off19 c = ![(xN c).val, 0, 6, 0] := by decide +kernel
theorem o22 : ∀ c : Dev nD, k0_off22 c = ![(xN c).val, 0, 7, 0] := by decide +kernel
theorem o2 : ∀ c : Dev nD, k0_off2 c = ![(yN c).val, 0, 0, 0] := by decide +kernel
theorem o3 : ∀ c : Dev nD, k0_off3 c = ![(yN c).val, 1, 0, 0] := by decide +kernel
theorem o5 : ∀ c : Dev nD, k0_off5 c = ![(yN c).val, 0, 0, 64] := by decide +kernel
theorem o6 : ∀ c : Dev nD, k0_off6 c = ![(yN c).val, 1, 0, 64] := by decide +kernel
theorem o8 : ∀ c : Dev nD, k0_off8 c = ![(yN c).val, 0, 0, 128] := by decide +kernel
theorem o9 : ∀ c : Dev nD, k0_off9 c = ![(yN c).val, 1, 0, 128] := by decide +kernel
theorem o11 : ∀ c : Dev nD, k0_off11 c = ![(yN c).val, 0, 0, 192] := by decide +kernel
theorem o12 : ∀ c : Dev nD, k0_off12 c = ![(yN c).val, 1, 0, 192] := by decide +kernel
theorem o14 : ∀ c : Dev nD, k0_off14 c = ![(yN c).val, 0, 0, 256] := by decide +kernel
theorem o15 : ∀ c : Dev nD, k0_off15 c = ![(yN c).val, 1, 0, 256] := by decide +kernel
theorem o17 : ∀ c : Dev nD, k0_off17 c = ![(yN c).val, 0, 0, 320] := by decide +kernel
theorem o18 : ∀ c : Dev nD, k0_off18 c = ![(yN c).val, 1, 0, 320] := by decide +kernel
theorem o20 : ∀ c : Dev nD, k0_off20 c = ![(yN c).val, 0, 0, 384] := by decide +kernel
theorem o21 : ∀ c : Dev nD, k0_off21 c = ![(yN c).val, 1, 0, 384] := by decide +kernel
theorem o23 : ∀ c : Dev nD, k0_off23 c = ![(yN c).val, 0, 0, 448] := by decide +kernel
theorem o24 : ∀ c : Dev nD, k0_off24 c = ![(yN c).val, 1, 0, 448] := by decide +kernel
theorem o26 : ∀ c : Dev nD, k0_off26 c = ![(yN c).val, 0, 0, 0] := by decide +kernel
theorem o30 : ∀ c : Dev nD, k0_off30 c = ![(yN (peer 0 c)).val, 0, 0, 0] := by decide +kernel
theorem o31 : ∀ c : Dev nD, k0_off31 c = ![(yN (peer 0 c)).val, 0, 0, 0] := by decide +kernel
theorem o32 : ∀ c : Dev nD, k0_off32 c = ![(yN (peer 0 c)).val, 1, 0, 0] := by decide +kernel
theorem o33 : ∀ c : Dev nD, k0_off33 c = ![(yN (peer 0 c)).val, 0, 0, 64] := by decide +kernel
theorem o34 : ∀ c : Dev nD, k0_off34 c = ![(yN (peer 0 c)).val, 1, 0, 64] := by decide +kernel
theorem o35 : ∀ c : Dev nD, k0_off35 c = ![(yN (peer 0 c)).val, 0, 0, 128] := by decide +kernel
theorem o36 : ∀ c : Dev nD, k0_off36 c = ![(yN (peer 0 c)).val, 1, 0, 128] := by decide +kernel
theorem o37 : ∀ c : Dev nD, k0_off37 c = ![(yN (peer 0 c)).val, 0, 0, 192] := by decide +kernel
theorem o38 : ∀ c : Dev nD, k0_off38 c = ![(yN (peer 0 c)).val, 1, 0, 192] := by decide +kernel
theorem o39 : ∀ c : Dev nD, k0_off39 c = ![(yN (peer 0 c)).val, 0, 0, 256] := by decide +kernel
theorem o40 : ∀ c : Dev nD, k0_off40 c = ![(yN (peer 0 c)).val, 1, 0, 256] := by decide +kernel
theorem o41 : ∀ c : Dev nD, k0_off41 c = ![(yN (peer 0 c)).val, 0, 0, 320] := by decide +kernel
theorem o42 : ∀ c : Dev nD, k0_off42 c = ![(yN (peer 0 c)).val, 1, 0, 320] := by decide +kernel
theorem o43 : ∀ c : Dev nD, k0_off43 c = ![(yN (peer 0 c)).val, 0, 0, 384] := by decide +kernel
theorem o44 : ∀ c : Dev nD, k0_off44 c = ![(yN (peer 0 c)).val, 1, 0, 384] := by decide +kernel
theorem o45 : ∀ c : Dev nD, k0_off45 c = ![(yN (peer 0 c)).val, 0, 0, 448] := by decide +kernel
theorem o46 : ∀ c : Dev nD, k0_off46 c = ![(yN (peer 0 c)).val, 1, 0, 448] := by decide +kernel
theorem o48 : ∀ c : Dev nD, k0_off48 c = ![(yN (peer 1 c)).val, 0, 0, 0] := by decide +kernel
theorem o49 : ∀ c : Dev nD, k0_off49 c = ![(yN (peer 1 c)).val, 0, 0, 0] := by decide +kernel
theorem o50 : ∀ c : Dev nD, k0_off50 c = ![(yN (peer 1 c)).val, 1, 0, 0] := by decide +kernel
theorem o51 : ∀ c : Dev nD, k0_off51 c = ![(yN (peer 1 c)).val, 0, 0, 64] := by decide +kernel
theorem o52 : ∀ c : Dev nD, k0_off52 c = ![(yN (peer 1 c)).val, 1, 0, 64] := by decide +kernel
theorem o53 : ∀ c : Dev nD, k0_off53 c = ![(yN (peer 1 c)).val, 0, 0, 128] := by decide +kernel
theorem o54 : ∀ c : Dev nD, k0_off54 c = ![(yN (peer 1 c)).val, 1, 0, 128] := by decide +kernel
theorem o55 : ∀ c : Dev nD, k0_off55 c = ![(yN (peer 1 c)).val, 0, 0, 192] := by decide +kernel
theorem o56 : ∀ c : Dev nD, k0_off56 c = ![(yN (peer 1 c)).val, 1, 0, 192] := by decide +kernel
theorem o57 : ∀ c : Dev nD, k0_off57 c = ![(yN (peer 1 c)).val, 0, 0, 256] := by decide +kernel
theorem o58 : ∀ c : Dev nD, k0_off58 c = ![(yN (peer 1 c)).val, 1, 0, 256] := by decide +kernel
theorem o59 : ∀ c : Dev nD, k0_off59 c = ![(yN (peer 1 c)).val, 0, 0, 320] := by decide +kernel
theorem o60 : ∀ c : Dev nD, k0_off60 c = ![(yN (peer 1 c)).val, 1, 0, 320] := by decide +kernel
theorem o61 : ∀ c : Dev nD, k0_off61 c = ![(yN (peer 1 c)).val, 0, 0, 384] := by decide +kernel
theorem o62 : ∀ c : Dev nD, k0_off62 c = ![(yN (peer 1 c)).val, 1, 0, 384] := by decide +kernel
theorem o63 : ∀ c : Dev nD, k0_off63 c = ![(yN (peer 1 c)).val, 0, 0, 448] := by decide +kernel
theorem o64 : ∀ c : Dev nD, k0_off64 c = ![(yN (peer 1 c)).val, 1, 0, 448] := by decide +kernel
theorem o66 : ∀ c : Dev nD, k0_off66 c = ![(yN (peer 2 c)).val, 0, 0, 0] := by decide +kernel
theorem o67 : ∀ c : Dev nD, k0_off67 c = ![(yN (peer 2 c)).val, 0, 0, 0] := by decide +kernel
theorem o68 : ∀ c : Dev nD, k0_off68 c = ![(yN (peer 2 c)).val, 1, 0, 0] := by decide +kernel
theorem o69 : ∀ c : Dev nD, k0_off69 c = ![(yN (peer 2 c)).val, 0, 0, 64] := by decide +kernel
theorem o70 : ∀ c : Dev nD, k0_off70 c = ![(yN (peer 2 c)).val, 1, 0, 64] := by decide +kernel
theorem o71 : ∀ c : Dev nD, k0_off71 c = ![(yN (peer 2 c)).val, 0, 0, 128] := by decide +kernel
theorem o72 : ∀ c : Dev nD, k0_off72 c = ![(yN (peer 2 c)).val, 1, 0, 128] := by decide +kernel
theorem o73 : ∀ c : Dev nD, k0_off73 c = ![(yN (peer 2 c)).val, 0, 0, 192] := by decide +kernel
theorem o74 : ∀ c : Dev nD, k0_off74 c = ![(yN (peer 2 c)).val, 1, 0, 192] := by decide +kernel
theorem o75 : ∀ c : Dev nD, k0_off75 c = ![(yN (peer 2 c)).val, 0, 0, 256] := by decide +kernel
theorem o76 : ∀ c : Dev nD, k0_off76 c = ![(yN (peer 2 c)).val, 1, 0, 256] := by decide +kernel
theorem o77 : ∀ c : Dev nD, k0_off77 c = ![(yN (peer 2 c)).val, 0, 0, 320] := by decide +kernel
theorem o78 : ∀ c : Dev nD, k0_off78 c = ![(yN (peer 2 c)).val, 1, 0, 320] := by decide +kernel
theorem o79 : ∀ c : Dev nD, k0_off79 c = ![(yN (peer 2 c)).val, 0, 0, 384] := by decide +kernel
theorem o80 : ∀ c : Dev nD, k0_off80 c = ![(yN (peer 2 c)).val, 1, 0, 384] := by decide +kernel
theorem o81 : ∀ c : Dev nD, k0_off81 c = ![(yN (peer 2 c)).val, 0, 0, 448] := by decide +kernel
theorem o82 : ∀ c : Dev nD, k0_off82 c = ![(yN (peer 2 c)).val, 1, 0, 448] := by decide +kernel
theorem o83 : ∀ c : Dev nD, k0_off83 c = ![1 - (xN c).val, 0, 0, 0] := by decide +kernel
theorem o84 : ∀ c : Dev nD, k0_off84 c = ![1 - (xN c).val, 0, 1, 0] := by decide +kernel
theorem o85 : ∀ c : Dev nD, k0_off85 c = ![1 - (xN c).val, 0, 2, 0] := by decide +kernel
theorem o86 : ∀ c : Dev nD, k0_off86 c = ![1 - (xN c).val, 0, 3, 0] := by decide +kernel
theorem o87 : ∀ c : Dev nD, k0_off87 c = ![1 - (xN c).val, 0, 4, 0] := by decide +kernel
theorem o88 : ∀ c : Dev nD, k0_off88 c = ![1 - (xN c).val, 0, 5, 0] := by decide +kernel
theorem o89 : ∀ c : Dev nD, k0_off89 c = ![1 - (xN c).val, 0, 6, 0] := by decide +kernel
theorem o90 : ∀ c : Dev nD, k0_off90 c = ![1 - (xN c).val, 0, 7, 0] := by decide +kernel

/-! ## Devices -/

theorem dv1 : ∀ c : Dev nD, (⟨k0_dev1 c, k0_dev1_lt c⟩ : Dev nD) = peer 0 c := by decide +kernel
theorem dv2 : ∀ c : Dev nD, (⟨k0_dev2 c, k0_dev2_lt c⟩ : Dev nD) = peer 1 c := by decide +kernel
theorem dv3 : ∀ c : Dev nD, (⟨k0_dev3 c, k0_dev3_lt c⟩ : Dev nD) = peer 2 c := by decide +kernel
theorem dv4 : ∀ c : Dev nD, (⟨k0_dev4 c, k0_dev4_lt c⟩ : Dev nD) = mate c := by decide +kernel
theorem dv5 : ∀ c : Dev nD, (⟨k0_dev5 c, k0_dev5_lt c⟩ : Dev nD) = peer 0 c := by decide +kernel
theorem dv6 : ∀ c : Dev nD, (⟨k0_dev6 c, k0_dev6_lt c⟩ : Dev nD) = peer 1 c := by decide +kernel
theorem dv7 : ∀ c : Dev nD, (⟨k0_dev7 c, k0_dev7_lt c⟩ : Dev nD) = peer 2 c := by decide +kernel
theorem dv8 : ∀ c : Dev nD, (⟨k0_dev8 c, k0_dev8_lt c⟩ : Dev nD) = mate c := by decide +kernel
theorem dv9 : ∀ c : Dev nD, (⟨k0_dev9 c, k0_dev9_lt c⟩ : Dev nD) = mate c := by decide +kernel

/-! ## The receive semaphores: the one a peer is paid under, and the one a peer pays -/

theorem ps0 : ∀ c : Dev nD, SemLoc.dma ((cc0_scratch6.slice (Rect.unit (s := S3) (k0_off25 c) S1.size (k0_off25_inb c))).squeeze S_ squeezes_S1_S_).sem = csem (kYR (slot 0 c)) := by decide +kernel
theorem ps1 : ∀ c : Dev nD, SemLoc.dma ((cc0_scratch6.slice (Rect.unit (s := S3) (k0_off27 c) S1.size (k0_off27_inb c))).squeeze S_ squeezes_S1_S_).sem = csem (kYR (slot 1 c)) := by decide +kernel
theorem ps2 : ∀ c : Dev nD, SemLoc.dma ((cc0_scratch6.slice (Rect.unit (s := S3) (k0_off28 c) S1.size (k0_off28_inb c))).squeeze S_ squeezes_S1_S_).sem = csem (kYR (slot 2 c)) := by decide +kernel
theorem pw0 : ∀ c : Dev nD, SemLoc.dma ((cc0_scratch6.slice (Rect.unit (s := S3) (k0_off29 c) S1.size (k0_off29_inb c))).squeeze S_ squeezes_S1_S_).sem = csem (kYR (wslot 0 c)) := by decide +kernel
theorem pw1 : ∀ c : Dev nD, SemLoc.dma ((cc0_scratch6.slice (Rect.unit (s := S3) (k0_off47 c) S1.size (k0_off47_inb c))).squeeze S_ squeezes_S1_S_).sem = csem (kYR (wslot 1 c)) := by decide +kernel
theorem pw2 : ∀ c : Dev nD, SemLoc.dma ((cc0_scratch6.slice (Rect.unit (s := S3) (k0_off65 c) S1.size (k0_off65_inb c))).squeeze S_ squeezes_S1_S_).sem = csem (kYR (wslot 2 c)) := by decide +kernel

end Cert.AllToAll

end
-- ==== Proof.Sections.lean ====
/-
# The sections run

Each section takes its state from the first head to the last: the heads' lemmas chained, over any continuation.
-/
module

public import proofs.«01_k».proof.Proof.Program
public import proofs.«01_k».proof.Proof.Offsets

@[expose] public section

noncomputable section

namespace Cert.AllToAll

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- Two steps one after the other. -/
theorem chain {A A' B R P P' : sProp 𝕄} (h1 : A ⊢ iprop((A' -∗ P') -∗ P)) (h2 : A' ⊢ iprop((B -∗ R) -∗ P')) : A ⊢ iprop((B -∗ R) -∗ P) := by
  iintro HA HB
  iapply h1 $$ HA
  iintro HA
  iapply h2 $$ HA
  iexact HB

variable (X : Blocks F) (c : Dev nD)

set_option maxHeartbeats 1000000 in
theorem run_copy {k : DProg F} {Q : PUnit.{1} → sProp 𝕄} (f : S4x2x512x512.Idx → Elt F .bf16) :
    copySt X c f 0 ⊢ iprop((copySt X c f 8 -∗ wpc c k Q) -∗ wpc c (pCopy c k) Q) :=
  chain (step_copy X c 0 (by decide) f (o1 c) (o2 c) (o3 c)) <|
  chain (step_copy X c 1 (by decide) f (o4 c) (o5 c) (o6 c)) <|
  chain (step_copy X c 2 (by decide) f (o7 c) (o8 c) (o9 c)) <|
  chain (step_copy X c 3 (by decide) f (o10 c) (o11 c) (o12 c)) <|
  chain (step_copy X c 4 (by decide) f (o13 c) (o14 c) (o15 c)) <|
  chain (step_copy X c 5 (by decide) f (o16 c) (o17 c) (o18 c)) <|
  chain (step_copy X c 6 (by decide) f (o19 c) (o20 c) (o21 c)) <|
  step_copy X c 7 (by decide) f (o22 c) (o23 c) (o24 c)

set_option maxHeartbeats 1000000 in
theorem run_own {k : DProg F} {Q : PUnit.{1} → sProp 𝕄} (a : S512x512.Idx → Elt F .f32) (l : S512x8.Idx → Elt F .f32) :
    ownSt X c a l 0 ⊢ iprop((ownSt X c a l 8 -∗ wpc c k Q) -∗ wpc c (pOwn c k) Q) :=
  chain (step_own X c 0 (by decide) a l (o1 c) rfl rfl) <|
  chain (step_own X c 1 (by decide) a l (o4 c) rfl rfl) <|
  chain (step_own X c 2 (by decide) a l (o7 c) rfl rfl) <|
  chain (step_own X c 3 (by decide) a l (o10 c) rfl rfl) <|
  chain (step_own X c 4 (by decide) a l (o13 c) rfl rfl) <|
  chain (step_own X c 5 (by decide) a l (o16 c) rfl rfl) <|
  chain (step_own X c 6 (by decide) a l (o19 c) rfl rfl) <|
  step_own X c 7 (by decide) a l (o22 c) rfl rfl

set_option maxHeartbeats 1000000 in
theorem run_fold0 {k : DProg F} {Q : PUnit.{1} → sProp 𝕄}  :
    foldSt X c 0 0 ⊢ iprop((foldSt X c 0 8 -∗ wpc c k Q) -∗ wpc c (pFold0 c k) Q) :=
  chain (step_fold X c 0 0 (by decide) (o1 c) (o31 c) (o32 c) rfl rfl) <|
  chain (step_fold X c 1 0 (by decide) (o4 c) (o33 c) (o34 c) rfl rfl) <|
  chain (step_fold X c 2 0 (by decide) (o7 c) (o35 c) (o36 c) rfl rfl) <|
  chain (step_fold X c 3 0 (by decide) (o10 c) (o37 c) (o38 c) rfl rfl) <|
  chain (step_fold X c 4 0 (by decide) (o13 c) (o39 c) (o40 c) rfl rfl) <|
  chain (step_fold X c 5 0 (by decide) (o16 c) (o41 c) (o42 c) rfl rfl) <|
  chain (step_fold X c 6 0 (by decide) (o19 c) (o43 c) (o44 c) rfl rfl) <|
  step_fold X c 7 0 (by decide) (o22 c) (o45 c) (o46 c) rfl rfl

set_option maxHeartbeats 1000000 in
theorem run_fold1 {k : DProg F} {Q : PUnit.{1} → sProp 𝕄}  :
    foldSt X c 1 0 ⊢ iprop((foldSt X c 1 8 -∗ wpc c k Q) -∗ wpc c (pFold1 c k) Q) :=
  chain (step_fold X c 0 1 (by decide) (o1 c) (o49 c) (o50 c) rfl rfl) <|
  chain (step_fold X c 1 1 (by decide) (o4 c) (o51 c) (o52 c) rfl rfl) <|
  chain (step_fold X c 2 1 (by decide) (o7 c) (o53 c) (o54 c) rfl rfl) <|
  chain (step_fold X c 3 1 (by decide) (o10 c) (o55 c) (o56 c) rfl rfl) <|
  chain (step_fold X c 4 1 (by decide) (o13 c) (o57 c) (o58 c) rfl rfl) <|
  chain (step_fold X c 5 1 (by decide) (o16 c) (o59 c) (o60 c) rfl rfl) <|
  chain (step_fold X c 6 1 (by decide) (o19 c) (o61 c) (o62 c) rfl rfl) <|
  step_fold X c 7 1 (by decide) (o22 c) (o63 c) (o64 c) rfl rfl

set_option maxHeartbeats 1000000 in
theorem run_fold2 {k : DProg F} {Q : PUnit.{1} → sProp 𝕄}  :
    foldSt X c 2 0 ⊢ iprop((foldSt X c 2 8 -∗ wpc c k Q) -∗ wpc c (pFold2 c k) Q) :=
  chain (step_fold X c 0 2 (by decide) (o1 c) (o67 c) (o68 c) rfl rfl) <|
  chain (step_fold X c 1 2 (by decide) (o4 c) (o69 c) (o70 c) rfl rfl) <|
  chain (step_fold X c 2 2 (by decide) (o7 c) (o71 c) (o72 c) rfl rfl) <|
  chain (step_fold X c 3 2 (by decide) (o10 c) (o73 c) (o74 c) rfl rfl) <|
  chain (step_fold X c 4 2 (by decide) (o13 c) (o75 c) (o76 c) rfl rfl) <|
  chain (step_fold X c 5 2 (by decide) (o16 c) (o77 c) (o78 c) rfl rfl) <|
  chain (step_fold X c 6 2 (by decide) (o19 c) (o79 c) (o80 c) rfl rfl) <|
  step_fold X c 7 2 (by decide) (o22 c) (o81 c) (o82 c) rfl rfl

set_option maxHeartbeats 1000000 in
theorem run_out0 {k : DProg F} {Q : PUnit.{1} → sProp 𝕄} (o : S2x512x8x64.Idx → Elt F .f32) (f : S512x512.Idx → Elt F .bf16) :
    outSt X c 0 o f 0 ⊢ iprop((outSt X c 0 o f 4 -∗ wpc c k Q) -∗ wpc c (pOut0 c k) Q) :=
  chain (step_out X c 0 0 (by decide) o f (o1 c) rfl rfl) <|
  chain (step_out X c 1 0 (by decide) o f (o4 c) rfl rfl) <|
  chain (step_out X c 2 0 (by decide) o f (o7 c) rfl rfl) <|
  step_out X c 3 0 (by decide) o f (o10 c) rfl rfl

set_option maxHeartbeats 1000000 in
theorem run_out1 {k : DProg F} {Q : PUnit.{1} → sProp 𝕄} (o : S2x512x8x64.Idx → Elt F .f32) (f : S512x512.Idx → Elt F .bf16) :
    outSt X c 1 o f 4 ⊢ iprop((outSt X c 1 o f 8 -∗ wpc c k Q) -∗ wpc c (pOut1 c k) Q) :=
  chain (step_out X c 4 1 (by decide) o f (o13 c) rfl rfl) <|
  chain (step_out X c 5 1 (by decide) o f (o16 c) rfl rfl) <|
  chain (step_out X c 6 1 (by decide) o f (o19 c) rfl rfl) <|
  step_out X c 7 1 (by decide) o f (o22 c) rfl rfl

set_option maxHeartbeats 1000000 in
theorem run_take0 {k : DProg F} {Q : PUnit.{1} → sProp 𝕄} (o : S2x512x8x64.Idx → Elt F .f32) :
    takeSt X c 0 o 0 ⊢ iprop((takeSt X c 0 o 4 -∗ wpc c k Q) -∗ wpc c (pTake0 c k) Q) :=
  chain (step_take X c 0 0 (by decide) o (o83 c) rfl) <|
  chain (step_take X c 1 0 (by decide) o (o84 c) rfl) <|
  chain (step_take X c 2 0 (by decide) o (o85 c) rfl) <|
  step_take X c 3 0 (by decide) o (o86 c) rfl

set_option maxHeartbeats 1000000 in
theorem run_take1 {k : DProg F} {Q : PUnit.{1} → sProp 𝕄} (o : S2x512x8x64.Idx → Elt F .f32) :
    takeSt X c 1 o 4 ⊢ iprop((takeSt X c 1 o 8 -∗ wpc c k Q) -∗ wpc c (pTake1 c k) Q) :=
  chain (step_take X c 4 1 (by decide) o (o87 c) rfl) <|
  chain (step_take X c 5 1 (by decide) o (o88 c) rfl) <|
  chain (step_take X c 6 1 (by decide) o (o89 c) rfl) <|
  step_take X c 7 1 (by decide) o (o90 c) rfl

section Waits
variable (K : Dev nD × Fin 11 → ℕ) (i : Fin 11) (hi : i.val ≠ 0) {s : DmaSem sig} (hs : SemLoc.dma s = csem i) (n : ℕ) (hl : lvK i ≤ n)
  (O : CellTallies nD τ sig Unit) (hO : Above n O) {W : Waits sig Unit}
include hi hs hl hO

/-- The wait for a slab; -/
theorem wait_slab {k : DProg F} {Q : PUnit.{1} → sProp 𝕄} (hN : amt i = NY) {off : Fin 4 → ℕ} (inb : IY off) (ww : (Rect.unit (s := S4x2x512x512) off S1x2x512x512.size inb).WholeWords (EltTy.packing .bf16)) :
    iprop(recs X K ∗ levAts L lv ∗ cred (tallyAt (kcell (c, i)) () (amt i)) ∗ owes (c : Thread nD τ) O W ∗ atPos ER (kcell (c, i)) 0 ∅ 0)
      ⊢ iprop(((∃ W', owes (c : Thread nD τ) O W') ∗ semVal (kcell (c, i)) 0 ∗ payK X c i -∗ wpc c k Q) -∗ wpc c (waitSlab s inb ww k) Q) :=
  step_wait X K c i hi hs (hN.symm ▸ (rfl : (slabAt off inb).view.dmaCredit = NY)) n hl O hO

/-- for a half to land; -/
theorem wait_recv {k : DProg F} {Q : PUnit.{1} → sProp 𝕄} (hN : amt i = NX) {off : Fin 2 → ℕ} (inb : IX off) (ww : (Rect.unit (s := S512x512) off S512x256.size inb).WholeWords (EltTy.packing .bf16)) :
    iprop(recs X K ∗ levAts L lv ∗ cred (tallyAt (kcell (c, i)) () (amt i)) ∗ owes (c : Thread nD τ) O W ∗ atPos ER (kcell (c, i)) 0 ∅ 0)
      ⊢ iprop(((∃ W', owes (c : Thread nD τ) O W') ∗ semVal (kcell (c, i)) 0 ∗ payK X c i -∗ wpc c k Q) -∗ wpc c (waitRecv s inb ww k) Q) :=
  step_wait X K c i hi hs (hN.symm ▸ (rfl : (recvAt off inb).view.dmaCredit = NX)) n hl O hO

/-- for a half to have been read. -/
theorem wait_sent {k : DProg F} {Q : PUnit.{1} → sProp 𝕄} (hN : amt i = NX) {off : Fin 2 → ℕ} (inb : IX off) (ww : (Rect.unit (s := S512x512) off S512x256.size inb).WholeWords (EltTy.packing .bf16)) :
    iprop(recs X K ∗ levAts L lv ∗ cred (tallyAt (kcell (c, i)) () (amt i)) ∗ owes (c : Thread nD τ) O W ∗ atPos ER (kcell (c, i)) 0 ∅ 0)
      ⊢ iprop(((∃ W', owes (c : Thread nD τ) O W') ∗ semVal (kcell (c, i)) 0 ∗ payK X c i -∗ wpc c k Q) -∗ wpc c (waitSent s inb ww k) Q) :=
  step_wait X K c i hi hs (hN.symm ▸ (rfl : (sendAt off inb).view.dmaCredit = NX)) n hl O hO

end Waits

end Cert.AllToAll

end
-- ==== Proof.Flat.lean ====
/-
# The program is its sections

The compiled body, its parts put one after the other, is the program written in sections: the operations one by one, their payloads by unfolding.
-/
module

public import proofs.«01_k».proof.Proof.Program

@[expose] public section

noncomputable section

namespace Cert.AllToAll

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

set_option maxRecDepth 200000 in
set_option maxHeartbeats 8000000 in
theorem flat (c : Dev nD) (Q : PUnit.{1} → sProp (MT nD τ sig Unit (Elt F) ℕ UU ℕ)) :
    wp frame (wpE (defs₀ (F := F)) 𝒱₀ (c : Thread nD τ) none) Set.univ
      (cc0_body (Memref.whole cc0_stg0_0) (Memref.isWhole_whole _) (Memref.whole cc0_stg1_0) (Memref.isWhole_whole _)
        (Memref.whole cc0_stg2_0) (Memref.isWhole_whole _) (Memref.whole cc0_stg3_0) (Memref.isWhole_whole _)
        (Memref.whole cc0_scratch0) (Memref.isWhole_whole _) (Memref.whole cc0_scratch1) (Memref.isWhole_whole _)
        (Memref.whole cc0_scratch2) (Memref.isWhole_whole _) (Memref.whole cc0_scratch3) (Memref.isWhole_whole _)
        (Memref.whole cc0_scratch4) (Memref.isWhole_whole _) cc0_scratch5 cc0_scratch6 cc0_scratch7 cc0_scratch8) Q = wpc c (prog c) Q := by
  rw [cc0_body_eq_skeleton]; unfold cc0_body_skel
  rw [k0_part42_eq_skeleton]; unfold k0_part42_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel k0_part17_skel k0_part18_skel k0_part19_skel k0_part20_skel k0_part21_skel k0_part22_skel k0_part23_skel k0_part24_skel k0_part25_skel k0_part26_skel k0_part27_skel k0_part28_skel k0_part29_skel k0_part30_skel k0_part31_skel k0_part32_skel k0_part33_skel k0_part34_skel k0_part35_skel k0_part36_skel k0_part37_skel k0_part38_skel k0_part39_skel k0_part40_skel k0_part41_skel
  simp only [semSignalWord, semWaitWord, Prog.lift, Prog.bind_op, Prog.bind_ret, Prog.pure_eq_ret, wp_deviceId]
  rfl

end Cert.AllToAll

end
-- ==== Proof.Body.lean ====
/-
# The body on one device

The program is run once, at a symbolic device, one lemma per section and per step of the protocol.
-/
module

public import proofs.«01_k».proof.Proof.Stages
public import proofs.«01_k».proof.Proof.Sections
public import proofs.«01_k».proof.Proof.Flat

@[expose] public section

noncomputable section

namespace Cert.AllToAll

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (shares3)

variable {F : FTy → Type} [FloatOps F]

local notation "𝕄" => MT nD τ sig Unit (Elt F) ℕ UU ℕ

variable (X : Blocks F) (K : Dev nD × Fin 11 → ℕ) (c : Dev nD)

/-- What the device holds before the body; -/
def bodyPre : sProp 𝕄 :=
  iprop(recs X K ∗ levAts L lv ∗ linear c ∗ credits c ∗ scratch c ∗ (∃ W, owes (c : Thread nD τ) (O₀ c) W)
    ∗ qPts X c ∗ kPts X c ∗ vPts X c ∗ (∃ f, oPts c f))
/-- and after it: the scratch buffers, its counters at zero, nothing owed, its blocks unchanged, and the result. -/
def bodyPost : sProp 𝕄 :=
  iprop(scratch c ∗ closed c ∗ (∃ W, owes (c : Thread nD τ) 0 W) ∗ qPts X c ∗ kPts X c ∗ vPts X c ∗ oPts c (outAll X c))

/-- What the wait for source `s` of the order returns. -/
theorem payK_from (s : Fin 3) : payK X c (kYR (wslot s c)) = kvPts c (yN (peer ⟨s.val % 3, Nat.mod_lt _ (by decide)⟩ c)) fullShare (kvAll X c) := by
  rw [payK_YR]
  match s with | 0 => rfl | 1 => rfl | 2 => rfl

attribute [local irreducible] pCopy pOwn pFold0 pFold1 pFold2 pOut0 pOut1 pTake0 pTake1

set_option maxHeartbeats 40000000 in
theorem sound_body (Kt : PUnit.{1} → sProp 𝕄) :
    iprop(bodyPre X K c ∗ (bodyPost X c -∗ Kt ⟨⟩))
      ⊢ wp frame (wpE (defs₀ (F := F)) 𝒱₀ (c : Thread nD τ) none) Set.univ
          (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            (Memref.whole cc0_scratch4) (Memref.isWhole_whole _) cc0_scratch5 cc0_scratch6 cc0_scratch7 cc0_scratch8) Kt := by
  rw [flat]
  unfold prog
  unfold bodyPre linear payToks scratch
  iintro ⟨⟨#HR, #Hlev, ⟨Hat, Htb, HtbM, Hts, Htr, Htx, Htm⟩, Hcr, ⟨⟨%fk, Hkv⟩, ⟨%fa, Hac⟩, ⟨%fl, Hsu⟩, ⟨%fs, Hsnd⟩, ⟨%fr, Hrcv⟩⟩, ⟨%W0, HO⟩, HQ, HK, HV, ⟨%fo, Hou⟩⟩, Hk⟩
  ihave Hat := (positions_open (F := F) c) $$ Hat
  icases Hat with ⟨HaB, ⟨HaS0, HaS1, HaS2⟩, ⟨HaR0, HaR1, HaR2⟩, ⟨HaX0, HaX1⟩, HaM0, HaM1⟩
  ihave Hcr := (credits_open (F := F) c) $$ Hcr
  icases Hcr with ⟨HcB, ⟨HcR0, HcR1, HcR2⟩, HcM0, HcM1⟩
  ihave Htb := (Entails.of_eq (sep_fin3 _)) $$ Htb
  icases Htb with ⟨Htb0, Htb1, Htb2⟩
  ihave Hts := (Entails.of_eq (sep_fin3 _)) $$ Hts
  icases Hts with ⟨Hts0, Hts1, Hts2⟩
  ihave Htr := (Entails.of_eq (sep_fin3 _)) $$ Htr
  icases Htr with ⟨Htr0, Htr1, Htr2⟩
  ihave Htx := (Entails.of_eq (sep_fin2 _)) $$ Htx
  icases Htx with ⟨Htx0, Htx1⟩
  ihave Htm := (Entails.of_eq (sep_fin2 _)) $$ Htm
  icases Htm with ⟨Htm0, Htm1⟩
  ihave Hsnd := (send_split c fs).1 $$ Hsnd
  icases Hsnd with ⟨Hh0, Hh1⟩
  ihave Hrcv := (recv_split c fr).1 $$ Hrcv
  icases Hrcv with ⟨Hr0, Hr1⟩
  unfold O₀
  ihave Hcp := (copy_begin X c fk) $$ [HK HV Hkv]
  · isplitl [HK]; · iexact HK
    isplitl [HV]; · iexact HV
    iexact Hkv
  iapply (run_copy X c fk) $$ Hcp; iintro Hcp
  ihave Hcp := (copy_end X c fk) $$ Hcp
  icases Hcp with ⟨HK, HV, Hown, Hp0, Hp1, Hp2⟩
  iapply (step_signal X K c 0 (dv1 c) (by decide) (OB c 2) rfl) $$ [HO Htb0 Hp0]
  · isplitr; · iexact HR
    isplitl [HO]; · iexact HO
    isplitl [Htb0]; · iexact Htb0
    iexact Hp0
  iintro HO
  iapply (step_signal X K c 1 (dv2 c) (by decide) (OB c 1) rfl) $$ [HO Htb1 Hp1]
  · isplitr; · iexact HR
    isplitl [HO]; · iexact HO
    isplitl [Htb1]; · iexact Htb1
    iexact Hp1
  iintro HO
  iapply (step_signal X K c 2 (dv3 c) (by decide) (OB c 0) rfl) $$ [HO Htb2 Hp2]
  · isplitr; · iexact HR
    isplitl [HO]; · iexact HO
    isplitl [Htb2]; · iexact Htb2
    iexact Hp2
  iintro HO
  iapply (step_signal_mate X K c (dv4 c) (by decide) (OY c 3) rfl) $$ [HO HtbM Hr0 Hr1]
  · isplitr; · iexact HR
    isplitl [HO]; · iexact HO
    isplitl [HtbM]; · iexact HtbM
    isplitl [Hr0]; · iexists fr; iexact Hr0
    iexists fr; iexact Hr1
  iintro HO
  iapply (step_wait_bar X K c (by decide) (OY c 3) (above_OY c 3)) $$ [HcB HO HaB]
  · isplitr; · iexact HR
    isplitr; · iexact Hlev
    isplitl [HcB]; · iexact HcB
    isplitl [HO]; · iexact HO
    iexact HaB
  iintro ⟨⟨%W1, HO⟩, HzB, Hpay⟩
  ihave Hpay := (bar_open c) $$ Hpay
  icases Hpay with ⟨Hq0, Hq1, Hq2, Hm0, Hm1⟩
  ihave Hown := (thirds c (yN c) (kvAll X c)).1 $$ Hown
  icases Hown with ⟨Hs0, Hs1, Hs2⟩
  iapply (step_send_slab X K c 0 (dv5 c) (o26 c) rfl (ps0 c) (OY c 2) rfl) $$ [Hs0 Hq0 HO Hts0 Htr0]
  · isplitr; · iexact HR
    isplitl [Hs0]; · iexact Hs0
    isplitl [Hq0]; · iexact Hq0
    isplitl [HO]; · iexact HO
    isplitl [Hts0]; · iexact Hts0
    iexact Htr0
  iintro ⟨HcS0, HO⟩
  iapply (step_send_slab X K c 1 (dv6 c) (o26 c) rfl (ps1 c) (OY c 1) rfl) $$ [Hs1 Hq1 HO Hts1 Htr1]
  · isplitr; · iexact HR
    isplitl [Hs1]; · iexact Hs1
    isplitl [Hq1]; · iexact Hq1
    isplitl [HO]; · iexact HO
    isplitl [Hts1]; · iexact Hts1
    iexact Htr1
  iintro ⟨HcS1, HO⟩
  iapply (step_send_slab X K c 2 (dv7 c) (o26 c) rfl (ps2 c) (OY c 0) rfl) $$ [Hs2 Hq2 HO Hts2 Htr2]
  · isplitr; · iexact HR
    isplitl [Hs2]; · iexact Hs2
    isplitl [Hq2]; · iexact Hq2
    isplitl [HO]; · iexact HO
    isplitl [Hts2]; · iexact Hts2
    iexact Htr2
  iintro ⟨HcS2, HO⟩
  ihave Hst := (own_begin X c fa fl) $$ [HQ HK HV Hac Hsu]
  · isplitl [HQ]; · iexact HQ
    isplitl [HK]; · iexact HK
    isplitl [HV]; · iexact HV
    isplitl [Hac]; · iexact Hac
    iexact Hsu
  iapply (run_own X c fa fl) $$ Hst; iintro Hst
  ihave Hst := (own_end X c fa fl) $$ Hst
  icases Hst with ⟨HQ, HK, HV, Hac, Hsu⟩
  iapply (wait_slab X c K (kYR (wslot 0 c)) (kYR_ne _) (pw0 c) 2 (le_of_eq (lvK_YR _)) (OX c) (above_OX c) (amt_YR _) _ _) $$ [HcR0 HO HaR0]
  · isplitr; · iexact HR
    isplitr; · iexact Hlev
    isplitl [HcR0]; · rw [amt_YR]; iexact HcR0
    isplitl [HO]; · iexact HO
    iexact HaR0
  iintro ⟨⟨%WR0, HO⟩, HzR0, Hp0⟩
  ihave Hp0 := (Entails.of_eq (payK_from X c 0)) $$ Hp0
  ihave Hst := (fold_begin X c 0) $$ [HQ Hp0 Hac Hsu]
  · isplitl [HQ]; · iexact HQ
    isplitl [Hp0]; · iexact Hp0
    isplitl [Hac]; · iexact Hac
    iexact Hsu
  iapply (run_fold0 X c) $$ Hst; iintro Hst
  ihave Hst := (fold_end X c 0) $$ Hst
  icases Hst with ⟨HQ, Hp0, Hac, Hsu⟩
  iapply (wait_slab X c K (kYR (wslot 1 c)) (kYR_ne _) (pw1 c) 2 (le_of_eq (lvK_YR _)) (OX c) (above_OX c) (amt_YR _) _ _) $$ [HcR1 HO HaR1]
  · isplitr; · iexact HR
    isplitr; · iexact Hlev
    isplitl [HcR1]; · rw [amt_YR]; iexact HcR1
    isplitl [HO]; · iexact HO
    iexact HaR1
  iintro ⟨⟨%WR1, HO⟩, HzR1, Hp1⟩
  ihave Hp1 := (Entails.of_eq (payK_from X c 1)) $$ Hp1
  ihave Hst := (fold_begin X c 1) $$ [HQ Hp1 Hac Hsu]
  · isplitl [HQ]; · iexact HQ
    isplitl [Hp1]; · iexact Hp1
    isplitl [Hac]; · iexact Hac
    iexact Hsu
  iapply (run_fold1 X c) $$ Hst; iintro Hst
  ihave Hst := (fold_end X c 1) $$ Hst
  icases Hst with ⟨HQ, Hp1, Hac, Hsu⟩
  iapply (wait_slab X c K (kYR (wslot 2 c)) (kYR_ne _) (pw2 c) 2 (le_of_eq (lvK_YR _)) (OX c) (above_OX c) (amt_YR _) _ _) $$ [HcR2 HO HaR2]
  · isplitr; · iexact HR
    isplitr; · iexact Hlev
    isplitl [HcR2]; · rw [amt_YR]; iexact HcR2
    isplitl [HO]; · iexact HO
    iexact HaR2
  iintro ⟨⟨%WR2, HO⟩, HzR2, Hp2⟩
  ihave Hp2 := (Entails.of_eq (payK_from X c 2)) $$ Hp2
  ihave Hst := (fold_begin X c 2) $$ [HQ Hp2 Hac Hsu]
  · isplitl [HQ]; · iexact HQ
    isplitl [Hp2]; · iexact Hp2
    isplitl [Hac]; · iexact Hac
    iexact Hsu
  iapply (run_fold2 X c) $$ Hst; iintro Hst
  ihave Hst := (fold_end X c 2) $$ Hst
  icases Hst with ⟨HQ, Hp2, Hac, Hsu⟩
  ihave Hou := (row_begin c (xN c).val (outT X c) fo) $$ Hou
  ihave Hst := (out_begin X c 0 fo fs) $$ [Hac Hsu Hou Hh0]
  · isplitl [Hac]; · iexact Hac
    isplitl [Hsu]; · iexact Hsu
    isplitl [Hou]; · iexact Hou
    iexact Hh0
  iapply (run_out0 X c fo fs) $$ Hst; iintro Hst
  ihave Hst := (out_end X c 0 fo fs) $$ Hst
  icases Hst with ⟨Hac, Hsu, Hou, Hsd⟩
  iapply (step_send_half X K c 0 (dv8 c) rfl rfl rfl (OX1 c) rfl) $$ [Hsd Hm0 HO Htx0 Htm0]
  · isplitr; · iexact HR
    isplitl [Hsd]; · iexact Hsd
    isplitl [Hm0]; · iexact Hm0
    isplitl [HO]; · iexact HO
    isplitl [Htx0]; · iexact Htx0
    iexact Htm0
  iintro ⟨HcX0, HO⟩
  ihave Hst := (out_begin X c 1 fo fs) $$ [Hac Hsu Hou Hh1]
  · isplitl [Hac]; · iexact Hac
    isplitl [Hsu]; · iexact Hsu
    isplitl [Hou]; · iexact Hou
    iexact Hh1
  iapply (run_out1 X c fo fs) $$ Hst; iintro Hst
  ihave Hst := (out_end X c 1 fo fs) $$ Hst
  icases Hst with ⟨Hac, Hsu, Hou, Hsd⟩
  iapply (step_send_half X K c 1 (dv9 c) rfl rfl rfl 0 (zero_add _).symm) $$ [Hsd Hm1 HO Htx1 Htm1]
  · isplitr; · iexact HR
    isplitl [Hsd]; · iexact Hsd
    isplitl [Hm1]; · iexact Hm1
    isplitl [HO]; · iexact HO
    isplitl [Htx1]; · iexact Htx1
    iexact Htm1
  iintro ⟨HcX1, HO⟩
  iapply (wait_recv X c K (kXR 0) (by decide) rfl 3 (by decide) 0 (above_zero _) (amt_XR _) _ _) $$ [HcM0 HO HaM0]
  · isplitr; · iexact HR
    isplitr; · iexact Hlev
    isplitl [HcM0]; · iexact HcM0
    isplitl [HO]; · iexact HO
    iexact HaM0
  iintro ⟨⟨%WM0, HO⟩, HzM0, Hr0⟩
  ihave Hr0 := (Entails.of_eq (payK_XR X c _)) $$ Hr0
  ihave Hou := (row_begin c (1 - (xN c).val) (otherT X c) (rowMix (xN c).val 8 (outT X c) fo)) $$ Hou
  ihave Hst := (take_open X c 0 (rowMix (xN c).val 8 (outT X c) fo) 0) $$ [Hr0 Hou]
  · isplitl [Hr0]; · iexact Hr0
    iexact Hou
  iapply (run_take0 X c (rowMix (xN c).val 8 (outT X c) fo)) $$ Hst; iintro Hst
  ihave Hst := (take_close X c 0 (rowMix (xN c).val 8 (outT X c) fo) 4) $$ Hst
  icases Hst with ⟨Hr0, Hou⟩
  iapply (wait_recv X c K (kXR 1) (by decide) rfl 3 (by decide) 0 (above_zero _) (amt_XR _) _ _) $$ [HcM1 HO HaM1]
  · isplitr; · iexact HR
    isplitr; · iexact Hlev
    isplitl [HcM1]; · iexact HcM1
    isplitl [HO]; · iexact HO
    iexact HaM1
  iintro ⟨⟨%WM1, HO⟩, HzM1, Hr1⟩
  ihave Hr1 := (Entails.of_eq (payK_XR X c _)) $$ Hr1
  ihave Hst := (take_open X c 1 (rowMix (xN c).val 8 (outT X c) fo) 4) $$ [Hr1 Hou]
  · isplitl [Hr1]; · iexact Hr1
    iexact Hou
  iapply (run_take1 X c (rowMix (xN c).val 8 (outT X c) fo)) $$ Hst; iintro Hst
  ihave Hst := (take_close X c 1 (rowMix (xN c).val 8 (outT X c) fo) 8) $$ Hst
  icases Hst with ⟨Hr1, Hou⟩
  iapply (wait_sent X c K (kXS 0) (by decide) rfl 3 (by decide) 0 (above_zero _) (amt_XS _) _ _) $$ [HcX0 HO HaX0]
  · isplitr; · iexact HR
    isplitr; · iexact Hlev
    isplitl [HcX0]; · iexact HcX0
    isplitl [HO]; · iexact HO
    iexact HaX0
  iintro ⟨⟨%WX0, HO⟩, HzX0, Hh0⟩
  ihave Hh0 := (Entails.of_eq (payK_XS X c _)) $$ Hh0
  iapply (wait_sent X c K (kXS 1) (by decide) rfl 3 (by decide) 0 (above_zero _) (amt_XS _) _ _) $$ [HcX1 HO HaX1]
  · isplitr; · iexact HR
    isplitr; · iexact Hlev
    isplitl [HcX1]; · iexact HcX1
    isplitl [HO]; · iexact HO
    iexact HaX1
  iintro ⟨⟨%WX1, HO⟩, HzX1, Hh1⟩
  ihave Hh1 := (Entails.of_eq (payK_XS X c _)) $$ Hh1
  iapply (wait_slab X c K (kYS 0) (by decide) rfl 3 (by decide) 0 (above_zero _) (amt_YS _) _ _) $$ [HcS0 HO HaS0]
  · isplitr; · iexact HR
    isplitr; · iexact Hlev
    isplitl [HcS0]; · iexact HcS0
    isplitl [HO]; · iexact HO
    iexact HaS0
  iintro ⟨⟨%WS0, HO⟩, HzS0, Hs0⟩
  ihave Hs0 := (Entails.of_eq (payK_YS X c _)) $$ Hs0
  iapply (wait_slab X c K (kYS 1) (by decide) rfl 3 (by decide) 0 (above_zero _) (amt_YS _) _ _) $$ [HcS1 HO HaS1]
  · isplitr; · iexact HR
    isplitr; · iexact Hlev
    isplitl [HcS1]; · iexact HcS1
    isplitl [HO]; · iexact HO
    iexact HaS1
  iintro ⟨⟨%WS1, HO⟩, HzS1, Hs1⟩
  ihave Hs1 := (Entails.of_eq (payK_YS X c _)) $$ Hs1
  iapply (wait_slab X c K (kYS 2) (by decide) rfl 3 (by decide) 0 (above_zero _) (amt_YS _) _ _) $$ [HcS2 HO HaS2]
  · isplitr; · iexact HR
    isplitr; · iexact Hlev
    isplitl [HcS2]; · iexact HcS2
    isplitl [HO]; · iexact HO
    iexact HaS2
  iintro ⟨⟨%WS2, HO⟩, HzS2, Hs2⟩
  ihave Hs2 := (Entails.of_eq (payK_YS X c _)) $$ Hs2
  unfold wpc; rw [wp_ret]; imodintro
  iapply Hk
  unfold bodyPost
  isplitl [Hs0 Hs1 Hs2 Hp0 Hp1 Hp2 Hac Hsu Hh0 Hh1 Hr0 Hr1]
  · unfold scratch
    isplitl [Hs0 Hs1 Hs2 Hp0 Hp1 Hp2]
    · iexists (kvAll X c)
      iapply (kv_join X c)
      isplitl [Hs0 Hs1 Hs2]
      · isplitl [Hs0]; · iexact Hs0
        isplitl [Hs1]; · iexact Hs1
        iexact Hs2
      isplitl [Hp0]; · iexact Hp0
      isplitl [Hp1]; · iexact Hp1
      iexact Hp2
    isplitl [Hac]; · iexists _; iexact Hac
    isplitl [Hsu]; · iexists _; iexact Hsu
    isplitl [Hh0 Hh1]
    · iexists (cols (sendT X c))
      iapply (send_split c (cols (sendT X c))).2
      isplitl [Hh0]; · iexact Hh0
      iexact Hh1
    iexists (cols (sendT X (mate c)))
    iapply (recv_split c (cols (sendT X (mate c)))).2
    isplitl [Hr0]; · iexact Hr0
    iexact Hr1
  isplitl [HzB HzS0 HzS1 HzS2 HzR0 HzR1 HzR2 HzX0 HzX1 HzM0 HzM1]
  · iapply (closed_intro c)
    isplitl [HzB]; · iexact HzB
    isplitl [HzS0 HzS1 HzS2]
    · isplitl [HzS0]; · iexact HzS0
      isplitl [HzS1]; · iexact HzS1
      iexact HzS2
    isplitl [HzR0 HzR1 HzR2]
    · isplitl [HzR0]; · iexact HzR0
      isplitl [HzR1]; · iexact HzR1
      iexact HzR2
    isplitl [HzX0 HzX1]
    · isplitl [HzX0]; · iexact HzX0
      iexact HzX1
    isplitl [HzM0]; · iexact HzM0
    iexact HzM1
  isplitl [HO]; · iexists _; iexact HO
  isplitl [HQ]; · iexact HQ
  isplitl [HK]; · iexact HK
  isplitl [HV]; · iexact HV
  rw [← outAll_eq X c fo]; iexact Hou

end Cert.AllToAll

end
-- ==== Proof.Deal.lean ====
/-
# What the launch deals

The tokens and positions of every device's eleven cells are made at the launch and dealt to the devices that use them: paying is a
permutation of the devices, slot by slot. The credit a device is dealt is what the others owe its cells.
-/
module

public import proofs.«01_k».proof.Proof.Stages

@[expose] public section

noncomputable section

namespace Cert.AllToAll

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Blocks F)

/-! ## The launch element -/

def meshCells : Finset (GSem nD τ sig) := Finset.univ.map ⟨kcell, kcell_injective⟩

abbrev tokOf (x : (Dev nD × Fin 11) × Fin 4) : GSem nD τ sig × ℕ × Fin 4 := (kcell x.1, 0, x.2)
theorem tokOf_injective : Function.Injective tokOf := by
  rintro ⟨a, d⟩ ⟨a', d'⟩ h
  have h1 : a = a' := kcell_injective (congrArg Prod.fst h)
  have h2 : d = d' := congrArg (fun x : GSem nD τ sig × ℕ × Fin 4 => x.2.2) h
  rw [h1, h2]
def meshToks : Finset (GSem nD τ sig × ℕ × Fin 4) := Finset.univ.map ⟨tokOf, tokOf_injective⟩

def u₀ : UU := (initOf (Pipeline.cells cfgs cellOf_inj) (Pipeline.launchToks cfgs cellOf_inj), initOf meshCells meshToks)

/-- The tokens of a device's own cells. -/
def toks (c : Dev nD) : sProp 𝕄 :=
  bigSep Finset.univ fun k : Fin 11 => bigSep Finset.univ fun d : Fin 4 => dutyTok ER (kcell (c, k)) 0 d

/-- What the launch element gives a device; -/
def G (c : Dev nD) : sProp 𝕄 :=
  iprop((bigSep Finset.univ fun k : Fin 11 => roundState ER (rd X) (kcell (c, k)) 0)
    ∗ (bigSep Finset.univ fun k : Fin 11 => iprop(atPos ER (kcell (c, k)) 0 ∅ 0 ∗ reached ER (kcell (c, k)) 0)) ∗ toks c)

/-- and what becomes of it once all are shared out. -/
def G' (c : Dev nD) : sProp 𝕄 := iprop(∃ K, recs X K ∗ linear c)

theorem fund_mesh : BI.own (ER (initOf meshCells meshToks)) ⊢ (|==> bigSep Finset.univ (G X) : sProp 𝕄) := by
  have hC (Φ : GSem nD τ sig → sProp 𝕄) : bigSep meshCells Φ = bigSep Finset.univ fun c : Dev nD => bigSep Finset.univ fun k : Fin 11 => Φ (kcell (c, k)) := by
    unfold meshCells; rw [bigSep_map, bigSep_univ_prod]; rfl
  have hT : bigSep meshToks (fun x => (dutyTok ER x.1 x.2.1 x.2.2 : sProp 𝕄)) = bigSep Finset.univ fun c : Dev nD => toks c := by
    unfold meshToks; rw [bigSep_map, bigSep_univ_prod, bigSep_univ_prod]; rfl
  iintro HX
  imod (Rounds.fund ER (rd X) meshCells meshToks) $$ HX with ⟨Hst, Hr, Hat, Htok⟩
  imodintro
  ihave Hst := (Entails.of_eq (hC fun g => roundState ER (rd X) g 0)) $$ Hst
  ihave Hat := (Entails.of_eq (hC fun g => atPos ER g 0 ∅ 0)) $$ Hat
  ihave Hr := (Entails.of_eq (hC fun g => reached ER g 0)) $$ Hr
  ihave Htok := (Entails.of_eq hT) $$ Htok
  unfold G; simp only [bigSep_sep']
  isplitl [Hst]; · iexact Hst
  isplitl [Hat Hr]
  · isplitl [Hat]; · iexact Hat
    iexact Hr
  iexact Htok

/-! ## The tokens, dealt to those who pay -/

/-- The ten tokens of a device's cells that are ever used. -/
def usedToks (c : Dev nD) : sProp 𝕄 :=
  iprop((bigSep Finset.univ fun j : Fin 3 => dutyTok ER (kcell (c, 0)) 0 j.castSucc) ∗ dutyTok ER (kcell (c, 0)) 0 3
    ∗ (bigSep Finset.univ fun k : Fin 3 => dutyTok ER (kcell (c, kYS k)) 0 0)
    ∗ (bigSep Finset.univ fun j : Fin 3 => dutyTok ER (kcell (c, kYR j)) 0 0)
    ∗ (bigSep Finset.univ fun h : Fin 2 => dutyTok ER (kcell (c, kXS h)) 0 0)
    ∗ (bigSep Finset.univ fun h : Fin 2 => dutyTok ER (kcell (c, kXR h)) 0 0))

theorem toks_used (c : Dev nD) : (toks c : sProp 𝕄) ⊢ usedToks c := by
  have first (k : Fin 11) : (bigSep Finset.univ fun d : Fin 4 => (dutyTok ER (kcell (c, k)) 0 d : sProp 𝕄)) ⊢ dutyTok ER (kcell (c, k)) 0 0 :=
    bigSep_elim (Finset.mem_univ (0 : Fin 4))
  have bar : (bigSep Finset.univ fun d : Fin 4 => (dutyTok ER (kcell (c, 0)) 0 d : sProp 𝕄))
      ⊢ iprop(dutyTok ER (kcell (c, 0)) 0 0 ∗ dutyTok ER (kcell (c, 0)) 0 1 ∗ dutyTok ER (kcell (c, 0)) 0 2 ∗ dutyTok ER (kcell (c, 0)) 0 3) :=
    Entails.of_eq (sep_fin4 _)
  unfold toks usedToks
  rw [sep_cells, sep_fin3, sep_fin3, sep_fin3, sep_fin2, sep_fin2]
  iintro ⟨HB, S0, S1, S2, R0, R1, R2, X0, X1, M0, M1⟩
  ihave HB := bar $$ HB
  icases HB with ⟨B0, B1, B2, B3⟩
  ihave S0 := (first (kYS 0)) $$ S0
  ihave S1 := (first (kYS 1)) $$ S1
  ihave S2 := (first (kYS 2)) $$ S2
  ihave R0 := (first (kYR 0)) $$ R0
  ihave R1 := (first (kYR 1)) $$ R1
  ihave R2 := (first (kYR 2)) $$ R2
  ihave X0 := (first (kXS 0)) $$ X0
  ihave X1 := (first (kXS 1)) $$ X1
  ihave M0 := (first (kXR 0)) $$ M0
  ihave M1 := (first (kXR 1)) $$ M1
  isplitl [B0 B1 B2]
  · isplitl [B0]; · iexact B0
    isplitl [B1]; · iexact B1
    iexact B2
  isplitl [B3]; · iexact B3
  isplitl [S0 S1 S2]
  · isplitl [S0]; · iexact S0
    isplitl [S1]; · iexact S1
    iexact S2
  isplitl [R0 R1 R2]
  · isplitl [R0]; · iexact R0
    isplitl [R1]; · iexact R1
    iexact R2
  isplitl [X0 X1]
  · isplitl [X0]; · iexact X0
    iexact X1
  isplitl [M0]; · iexact M0
  iexact M1

/-- The same permutation with the device first. -/
def payE' : Dev nD × Fin 3 ≃ Dev nD × Fin 3 := (Equiv.prodComm _ _).trans (payE.trans (Equiv.prodComm _ _))

/-- One thing for each device and slot is one for each device and peer. -/
theorem deal_peers (Φ : Dev nD → Fin 3 → sProp 𝕄) :
    (bigSep Finset.univ fun c : Dev nD => bigSep Finset.univ fun j : Fin 3 => Φ c j)
      = bigSep Finset.univ fun c : Dev nD => bigSep Finset.univ fun k : Fin 3 => Φ (peer k c) (slot k c) := by
  rw [← bigSep_univ_prod (fun x : Dev nD × Fin 3 => Φ x.1 x.2), bigSep_univ_equiv payE' (fun x : Dev nD × Fin 3 => Φ x.1 x.2), bigSep_univ_prod]
  rfl
theorem deal_mate (Φ : Dev nD → sProp 𝕄) : bigSep Finset.univ Φ = bigSep Finset.univ fun c : Dev nD => Φ (mate c) :=
  bigSep_univ_equiv mateE Φ

theorem toks_dealt : (bigSep Finset.univ fun c : Dev nD => (toks c : sProp 𝕄)) ⊢ bigSep Finset.univ fun c : Dev nD => payToks c := by
  have e : (bigSep Finset.univ fun c : Dev nD => (usedToks c : sProp 𝕄)) = bigSep Finset.univ fun c : Dev nD => payToks c := by
    unfold usedToks payToks
    simp only [bigSep_sep']
    rw [deal_peers fun c j => (dutyTok ER (kcell (c, 0)) 0 j.castSucc : sProp 𝕄), deal_mate fun c => (dutyTok ER (kcell (c, 0)) 0 3 : sProp 𝕄),
    deal_peers fun c j => (dutyTok ER (kcell (c, kYR j)) 0 0 : sProp 𝕄),
    deal_mate fun c => (bigSep Finset.univ fun h : Fin 2 => dutyTok ER (kcell (c, kXR h)) 0 0 : sProp 𝕄)]
  rw [← e]
  exact bigSep_mono fun c _ => toks_used c

/-! ## The cells' invariants, for everybody -/

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k : Fin 11 => iprop(∃ κ : ℕ, cellInv ER (rd X) κ (kcell (c, k))))
          ∗ (bigSep Finset.univ fun k : Fin 11 => iprop(atPos ER (kcell (c, k)) 0 ∅ 0 ∗ reached ER (kcell (c, k)) 0)) ∗ toks c) : sProp 𝕄)
      ⊢ bigSep Finset.univ (G' X) := by
  rw [bigSep_sep', bigSep_sep', ← bigSep_univ_prod (fun ck : Dev nD × Fin 11 => iprop(∃ κ : ℕ, cellInv ER (rd X) κ (kcell ck))),
    bigSep_congr (s := Finset.univ) (fun (c : Dev nD) _ => bigSep_sep' Finset.univ (fun k : Fin 11 => (atPos ER (kcell (c, k)) 0 ∅ 0 : sProp 𝕄)) (fun k => reached ER (kcell (c, k)) 0)),
    bigSep_sep', ← bigSep_univ_prod (fun ck : Dev nD × Fin 11 => (reached ER (kcell ck) 0 : sProp 𝕄))]
  iintro ⟨HI, ⟨Hat, #HR⟩, Htok⟩
  ihave HK := (BI.bigSep_exists_pi Finset.univ (fun (ck : Dev nD × Fin 11) (κ : ℕ) => (cellInv ER (rd X) κ (kcell ck) : sProp 𝕄))) $$ HI
  icases HK with ⟨%K, #HI⟩
  ihave Htk := (toks_dealt (F := F)) $$ Htok
  iapply (with_persistent (R := recs X K) fun c _ => show iprop(recs X K ∗ linear c) ⊢ G' X c by
    unfold G'; iintro H; iexists K; iexact H)
  isplitr
  · unfold recs; isplitl; · iexact HI
    iexact HR
  · unfold linear
    rw [bigSep_sep']
    isplitl [Hat]; · iexact Hat
    iexact Htk

/-! ## The credit -/

/-- Everything owed to the cells of a device. -/
def due (c : Dev nD) : CellTallies nD τ sig Unit :=
  (∑ j : Fin 3, tallyAt (kcell (c, 0)) () 1) + tallyAt (kcell (c, 0)) () 1 + (∑ j : Fin 3, tallyAt (kcell (c, kYR j)) () NY)
    + (∑ h : Fin 2, tallyAt (kcell (c, kXR h)) () NX)

theorem O₀_eq (c : Dev nD) : O₀ c = (∑ k : Fin 3, tallyAt (kcell (peer k c, 0)) () 1) + tallyAt (kcell (mate c, 0)) () 1
    + (∑ k : Fin 3, tallyAt (kcell (peer k c, kYR (slot k c))) () NY) + (∑ h : Fin 2, tallyAt (kcell (mate c, kXR h)) () NX) := by
  have e : O₀ c = tallyAt (kcell (mate c, kXR 1)) () NX + tallyAt (kcell (mate c, kXR 0)) () NX
      + tallyAt (kcell (peer 2 c, kYR (slot 2 c))) () NY + tallyAt (kcell (peer 1 c, kYR (slot 1 c))) () NY + tallyAt (kcell (peer 0 c, kYR (slot 0 c))) () NY
      + tallyAt (kcell (mate c, 0)) () 1 + tallyAt (kcell (peer 2 c, 0)) () 1 + tallyAt (kcell (peer 1 c, 0)) () 1 + tallyAt (kcell (peer 0 c, 0)) () 1 := rfl
  rw [e, Fin.sum_univ_three, Fin.sum_univ_three, Fin.sum_univ_two]
  ac_rfl

theorem sum_peers (f : Dev nD → Fin 3 → CellTallies nD τ sig Unit) :
    (∑ c, ∑ k, f (peer k c) (slot k c)) = ∑ c, ∑ j, f c j := by
  rw [← Fintype.sum_prod_type' (f := fun c k => f (peer k c) (slot k c)), ← Fintype.sum_prod_type' (f := f)]
  exact Equiv.sum_comp payE' (fun x => f x.1 x.2)

theorem sum_mate (f : Dev nD → CellTallies nD τ sig Unit) : (∑ c, f (mate c)) = ∑ c, f c := Equiv.sum_comp mateE f

theorem due_sum : (∑ d, O₀ d) = ∑ d, due d := by
  simp only [O₀_eq, due, Finset.sum_add_distrib]
  rw [sum_peers fun c _ => tallyAt (kcell (c, 0)) () 1, sum_peers fun c j => tallyAt (kcell (c, kYR j)) () NY,
    sum_mate fun c => tallyAt (kcell (c, 0)) () 1, sum_mate fun c => ∑ h : Fin 2, tallyAt (kcell (c, kXR h)) () NX]

theorem due_own (c : Dev nD) (g : GSem nD τ sig) (h : due c g ≠ 0) : g.1 = (c.tc : Thread nD τ) := by
  by_contra hg
  refine h ?_
  have z (k : Fin 11) (n : ℕ) : (tallyAt (kcell (c, k)) () n : CellTallies nD τ sig Unit) g = 0 :=
    tallyAt_ne_cell (fun e => hg (by rw [e])) _ _
  unfold due
  simp only [Fin.sum_univ_three, Fin.sum_univ_two, Pi.add_apply, z, add_zero]

theorem creds (c : Dev nD) : (Pipeline.launchCred O₀ c : sProp 𝕄) ⊢ credits c := by
  have two (a b : CellTallies nD τ sig Unit) : (cred (a + b) : sProp 𝕄) = iprop(cred a ∗ cred b) := BI.Entails.antisymm (cred_add _ _).1 (cred_add _ _).2
  have e : due c = tallyAt (kcell (c, 0)) () 4 + ((tallyAt (kcell (c, kYR 0)) () NY + (tallyAt (kcell (c, kYR 1)) () NY + tallyAt (kcell (c, kYR 2)) () NY))
      + (tallyAt (kcell (c, kXR 0)) () NX + tallyAt (kcell (c, kXR 1)) () NX)) := by
    unfold due
    rw [Fin.sum_univ_three, Fin.sum_univ_three, Fin.sum_univ_two, tallyAt_add, tallyAt_add, tallyAt_add]
    simp only [add_assoc]
    rfl
  rw [Pipeline.launchCred_of_sum O₀ due due_sum due_own c, e]
  unfold credits
  rw [sep_fin3, sep_fin2]
  simp only [two]
  exact BI.Entails.refl _

end Cert.AllToAll

end
-- ==== Proof.Launch.lean ====
/-
# The run of the whole mesh

For any float values and from any memory: every device ends with its result block at `outAll`, its arguments as they were and its
semaphores at zero.
-/
module

public import proofs.«01_k».proof.Proof.Body
public import proofs.«01_k».proof.Proof.Deal
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Pipeline.CollectiveSegs
public import Idealize.ShloMosaic.Lib.Tactic

@[expose] public section

noncomputable section

namespace Cert.AllToAll

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

attribute [local irreducible] cc0_body outAll

/-- The argument blocks in memory `m`. -/
def argsOf : Blocks F
  | 0, c => m ((c : Thread nD τ).loc main_arg0)
  | 1, c => m ((c : Thread nD τ).loc main_arg1)
  | 2, c => m ((c : Thread nD τ).loc main_arg2)

/-! ## Each window is its whole array -/

theorem read_w0 (t : Fin cfg0.N) (f : S2x512x8x64.Idx → Elt F .f32) : ((cfg0.win (0 : Fin 4)).blk t).view.read (Elt F) f = f := by
  obtain rfl := fin_N0 t
  exact Memref.read_access_unit_zero (Elt F) main_arg0 (off := fun a => win0_0.index t0_0 a * main_arg0.ty.shape.size a) (funext fun a => by fin_cases a <;> decide) (fun a => by fin_cases a <;> decide) f
theorem read_w1 (t : Fin cfg0.N) (f : S2x512x8x64.Idx → Elt F .f32) : ((cfg0.win (1 : Fin 4)).blk t).view.read (Elt F) f = f := by
  obtain rfl := fin_N0 t
  exact Memref.read_access_unit_zero (Elt F) main_arg1 (off := fun a => win0_1.index t0_0 a * main_arg1.ty.shape.size a) (funext fun a => by fin_cases a <;> decide) (fun a => by fin_cases a <;> decide) f
theorem read_w2 (t : Fin cfg0.N) (f : S2x512x8x64.Idx → Elt F .f32) : ((cfg0.win (2 : Fin 4)).blk t).view.read (Elt F) f = f := by
  obtain rfl := fin_N0 t
  exact Memref.read_access_unit_zero (Elt F) main_arg2 (off := fun a => win0_2.index t0_0 a * main_arg2.ty.shape.size a) (funext fun a => by fin_cases a <;> decide) (fun a => by fin_cases a <;> decide) f
theorem read_w3 (t : Fin cfg0.N) (f : S2x512x8x64.Idx → Elt F .f32) : ((cfg0.win (3 : Fin 4)).blk t).view.read (Elt F) f = f := by
  obtain rfl := fin_N0 t
  exact Memref.read_access_unit_zero (Elt F) main_v1 (off := fun a => win0_3.index t0_0 a * main_v1.ty.shape.size a) (funext fun a => by fin_cases a <;> decide) (fun a => by fin_cases a <;> decide) f

/-! ## The pipeline's proof data -/

/-- What a device's body starts from, without its scratch; -/
def start (c : Dev nD) : sProp 𝕄 := iprop(G' (argsOf m) c ∗ credits c ∗ levAts L lv)
def Φ₀ (c : Dev nD) : sProp 𝕄 := iprop(start m c ∗ scratch c)
/-- what it ends with. -/
def Φ₁ (c : Dev nD) : sProp 𝕄 := iprop(scratch c ∗ closed c)

def dats (_ : Fin 1) (c : Dev nD) : Dat τ (Elt F) Unit ℕ UU ℕ cfg0 c where
  A w := m ((cfg0.win w).arr.view.loc (c : Thread nD τ))
  after w _ := match w with
    | ⟨0, _⟩ => argsOf (F := F) m 0 c
    | ⟨1, _⟩ => argsOf (F := F) m 1 c
    | ⟨2, _⟩ => argsOf (F := F) m 2 c
    | ⟨3, _⟩ => outAll (F := F) (argsOf m) c
  Φ t := match t with
    | ⟨0, _⟩ => Φ₀ m c
    | ⟨_ + 1, _⟩ => Φ₁ c
  q _ := fullShare
  owed t := match t with
    | ⟨0, _⟩ => O₀ c
    | ⟨_ + 1, _⟩ => 0

theorem before_0 (c : Dev nD) (t : Fin cfg0.N) (d) : (dats (F := F) m 0 c).before (0 : Fin 4) t d = argsOf (F := F) m 0 c := by
  unfold Dat.before; rw [if_pos (fetch0_0 t)]; exact read_w0 (F := F) t _
theorem before_1 (c : Dev nD) (t : Fin cfg0.N) (d) : (dats (F := F) m 0 c).before (1 : Fin 4) t d = argsOf (F := F) m 1 c := by
  unfold Dat.before; rw [if_pos (fetch0_1 t)]; exact read_w1 (F := F) t _
theorem before_2 (c : Dev nD) (t : Fin cfg0.N) (d) : (dats (F := F) m 0 c).before (2 : Fin 4) t d = argsOf (F := F) m 2 c := by
  unfold Dat.before; rw [if_pos (fetch0_2 t)]; exact read_w2 (F := F) t _

theorem owns_whole_eq (c : Dev nD) (b : Ref sig .tc) (Y : b.ty.Contents (Elt F)) :
    (owns (Ix := Unit) (Name := ℕ) (U := UU) (Lvl := ℕ) (c : Thread nD τ) (Memref.whole b) fullShare Y : sProp 𝕄)
      = iprop(∃ f : Buf (Elt F) (((c : Dev nD) : Thread nD τ).loc b), ⌜f = Y⌝ ∗ (((c : Thread nD τ).loc b) ↦{fullShare} f)) := by
  unfold owns; simp only [Memref.view_whole, View.read_whole, View.set_whole]

abbrev stg (c : Dev nD) (b : Ref sig .tc) (Y : b.ty.Contents (Elt F)) : sProp 𝕄 :=
  iprop(∃ f : Buf (Elt F) (((c : Dev nD) : Thread nD τ).loc b), ⌜f = Y⌝ ∗ (((c : Thread nD τ).loc b) ↦{fullShare} f))

set_option maxRecDepth 4000 in
def obPre (c : Dev nD) : sProp 𝕄 :=
  iprop(Φ₀ m c ∗ (dats m 0 c).owesAt () t0_0.castSucc
    ∗ (∃ d, stg c cc0_stg0_0 ((dats m 0 c).before (0 : Fin 4) t0_0 d))
    ∗ (∃ d, stg c cc0_stg1_0 ((dats m 0 c).before (1 : Fin 4) t0_0 d))
    ∗ (∃ d, stg c cc0_stg2_0 ((dats m 0 c).before (2 : Fin 4) t0_0 d))
    ∗ (∃ d, stg c cc0_stg3_0 ((dats m 0 c).before (3 : Fin 4) t0_0 d)))

set_option maxRecDepth 4000 in
def obPost (c : Dev nD) : sProp 𝕄 :=
  iprop(Φ₁ c ∗ (dats m 0 c).owesAt () t0_0.succ ∗ stg c cc0_stg0_0 (argsOf m 0 c) ∗ stg c cc0_stg1_0 (argsOf m 1 c)
    ∗ stg c cc0_stg2_0 (argsOf m 2 c) ∗ stg c cc0_stg3_0 (outAll (argsOf m) c))

theorem post_intro (c : Dev nD) : bodyPost (argsOf m) c ⊢ obPost m c := by
  unfold bodyPost obPost Φ₁ Dat.owesAt Pipeline.owesWithin
  rw [show (dats m 0 c).owed t0_0.succ = 0 from rfl]
  iintro ⟨Hs, Hc, ⟨%W, HO⟩, HQ, HK, HV, Hou⟩
  isplitl [Hs Hc]
  · isplitl [Hs]; · iexact Hs
    iexact Hc
  isplitl [HO]
  · iexists W
    isplitr; · ipureintro; exact fun _ _ => Or.inl trivial
    iexact HO
  isplitl [HQ]; · iexists _; isplitr; · (ipureintro; rfl)
                  iexact HQ
  isplitl [HK]; · iexists _; isplitr; · (ipureintro; rfl)
                  iexact HK
  isplitl [HV]; · iexists _; isplitr; · (ipureintro; rfl)
                  iexact HV
  iexists _; isplitr; · (ipureintro; rfl)
  iexact Hou

set_option maxRecDepth 4000 in
/-- The body obligation on device `c`. -/
theorem body_obligation (c : Dev nD) : BodyObligation (dats (F := F) m 0 c) (defs₀ (F := F)) 𝒱₀ () Set.univ := fun t => by
  rw [fin_N0 t, bigSep_W0, bigSep_W0]
  simp only [owns_whole_eq]
  show obPre m c ⊢ wp frame (wpE (defs₀ (F := F)) 𝒱₀ (c : Thread nD τ) none) Set.univ
    (cc0_body (Memref.whole cc0_stg0_0) (Memref.isWhole_whole _) (Memref.whole cc0_stg1_0) (Memref.isWhole_whole _)
      (Memref.whole cc0_stg2_0) (Memref.isWhole_whole _) (Memref.whole cc0_stg3_0) (Memref.isWhole_whole _)
      (Memref.whole cc0_scratch0) (Memref.isWhole_whole _) (Memref.whole cc0_scratch1) (Memref.isWhole_whole _)
      (Memref.whole cc0_scratch2) (Memref.isWhole_whole _) (Memref.whole cc0_scratch3) (Memref.isWhole_whole _)
      (Memref.whole cc0_scratch4) (Memref.isWhole_whole _) cc0_scratch5 cc0_scratch6 cc0_scratch7 cc0_scratch8) (fun _ => obPost m c)
  unfold obPre Φ₀ start G' Dat.owesAt Pipeline.owesWithin
  simp only [before_0, before_1, before_2]
  rw [show (dats m 0 c).owed t0_0.castSucc = O₀ c from rfl]
  iintro ⟨⟨⟨⟨%K, Hrec, Hlin⟩, Hcr, Hlev⟩, Hscr⟩, ⟨%W, -, HO⟩, ⟨%d0, %g0, %hg0, HQ⟩, ⟨%d1, %g1, %hg1, HK⟩, ⟨%d2, %g2, %hg2, HV⟩, ⟨%d3, %g3, %hg3, Hou⟩⟩
  subst hg0 hg1 hg2
  iapply (sound_body (argsOf m) K c fun _ => obPost m c)
  unfold bodyPre
  isplitr []
  · isplitl [Hrec]; · iexact Hrec
    isplitl [Hlev]; · iexact Hlev
    isplitl [Hlin]; · iexact Hlin
    isplitl [Hcr]; · iexact Hcr
    isplitl [Hscr]; · iexact Hscr
    isplitl [HO]; · iexists W; iexact HO
    isplitl [HQ]; · iexact HQ
    isplitl [HK]; · iexact HK
    isplitl [HV]; · iexact HV
    iexists g3; iexact Hou
  · iintro H
    iapply (post_intro m c)
    iexact H

/-! ## The launch -/

/-- The kernel's own ten semaphores. -/
abbrev osem : Fin 10 → SemLoc sig
  | 0 => .dma (ySendS 0) | 1 => .dma (ySendS 1) | 2 => .dma (ySendS 2)
  | 3 => .dma (yRecvS 0) | 4 => .dma (yRecvS 1) | 5 => .dma (yRecvS 2)
  | 6 => .dma (xSendS 0) | 7 => .dma (xSendS 1)
  | 8 => .dma (xRecvS 0) | 9 => .dma (xRecvS 1)

theorem ownSemFacts : Pipeline.OwnSemFacts cfg0.spec osem := by decide

theorem share_eq (c : Dev nD) (w : Fin cfg0.W) : (dats m 0 c).share w = fullShare := by unfold Dat.share; split <;> rfl

theorem ownSems0_eq (c : Dev nD) : (Pipeline.ownSems0 (Ix := Unit) (Name := ℕ) (U := UU) (Lvl := ℕ) (Val := Elt F) (τ := τ) osem c : sProp 𝕄)
    = iprop(semVal (kcell (c, kYS 0)) 0 ∗ semVal (kcell (c, kYS 1)) 0 ∗ semVal (kcell (c, kYS 2)) 0
      ∗ semVal (kcell (c, kYR 0)) 0 ∗ semVal (kcell (c, kYR 1)) 0 ∗ semVal (kcell (c, kYR 2)) 0
      ∗ semVal (kcell (c, kXS 0)) 0 ∗ semVal (kcell (c, kXS 1)) 0 ∗ semVal (kcell (c, kXR 0)) 0 ∗ semVal (kcell (c, kXR 1)) 0) := by
  rw [Pipeline.ownSems0_eq_of_list c osem [0, 1, 2, 3, 4, 5, 6, 7, 8, 9] (by decide) (by decide)]; rfl
/-- The barrier semaphore is the one that outlives the kernel. -/
theorem unscopedSems0_eq (c : Dev nD) : (unscopedSems0 c : sProp 𝕄) = semVal (kcell (c, 0)) 0 := by
  unfold unscopedSems0; rw [bigSep_eq_bigSepL_of_eq [SemLoc.reg barS] (by decide) (by decide)]; rfl

theorem closed_eq (c : Dev nD) : (closed c : sProp 𝕄)
    = iprop(unscopedSems0 c ∗ Pipeline.ownSems0 (Ix := Unit) (Name := ℕ) (U := UU) (Lvl := ℕ) (Val := Elt F) (τ := τ) osem c) := by
  unfold closed; rw [ownSems0_eq, unscopedSems0_eq, sep_cells]

theorem core_alloc (c : Dev nD) :
    iprop(Pipeline.ownSems0 (Ix := Unit) (Name := ℕ) (U := UU) (Lvl := ℕ) (Val := Elt F) (τ := τ) osem c ∗ unscopedSems0 c ∗ G (argsOf m) c)
      ⊢ |={Set.univ}=> iprop((bigSep Finset.univ fun k : Fin 11 => iprop(∃ κ : ℕ, cellInv ER (rd (argsOf m)) κ (kcell (c, k))))
          ∗ (bigSep Finset.univ fun k : Fin 11 => iprop(atPos ER (kcell (c, k)) 0 ∅ 0 ∗ reached ER (kcell (c, k)) 0)) ∗ toks c) := by
  unfold G
  iintro ⟨Hos, Hus, Hst, Hat, Htok⟩
  ihave Hv := (Entails.of_eq (closed_eq (F := F) c).symm) $$ [Hos Hus]
  · isplitl [Hus]; · iexact Hus
    iexact Hos
  imod (show iprop((closed c : sProp 𝕄) ∗ bigSep Finset.univ fun k : Fin 11 => roundState ER (rd (argsOf m)) (kcell (c, k)) 0)
      ⊢ (|={Set.univ}=> bigSep Finset.univ fun k : Fin 11 => iprop(∃ κ : ℕ, cellInv ER (rd (argsOf m)) κ (kcell (c, k))) : sProp 𝕄) from by
        unfold closed
        rw [← bigSep_sep']
        exact (bigSep_mono fun k _ => (Rounds.body_intro ER (rd (argsOf m)) (kcell (c, k))).trans inv_alloc).trans (bigSep_fupd _ _)) $$ [Hv Hst] with Hinv
  · isplitl [Hv]; · iexact Hv
    iexact Hst
  imodintro
  isplitl [Hinv]; · iexact Hinv
  isplitl [Hat]; · iexact Hat
  iexact Htok

theorem glob : (bigSep Finset.univ fun c => iprop(Pipeline.ownSems0 (Ix := Unit) (Name := ℕ) (U := UU) (Lvl := ℕ) (Val := Elt F) (τ := τ) osem c ∗ unscopedSems0 c ∗ G (argsOf m) c) : sProp 𝕄)
    ⊢ |={Set.univ}=> bigSep Finset.univ (G' (argsOf m)) :=
  ((bigSep_mono fun c _ => core_alloc m c).trans (bigSep_fupd _ _)).trans (BI.fupd_mono (regroup (argsOf m)))

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (argsOf m) c)
      ⊢ |={Set.univ}=> iprop(start m c ∗ emp) := by
  iintro ⟨-, Hlev, Hcr, -, HG⟩
  ihave Hc := (creds (F := F) c) $$ Hcr
  imodintro
  unfold start
  isplitl
  · isplitl [HG]; · iexact HG
    isplitl [Hc]; · iexact Hc
    iexact Hlev
  · iempintro

theorem scratch_eq (c : Dev nD) : (Pipeline.scopedRest cfg0.spec c : sProp 𝕄) = scratch c := by
  rw [scopedRest0_eq]; rfl

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scratch_eq]
  unfold Φ₀
  iintro ⟨Hs, -, Hr⟩
  isplitl [Hs]; · iexact Hs
  iexact Hr

theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ c from rfl, scratch_eq]
  unfold Φ₁
  rw [closed_eq]
  iintro ⟨Hr, HB, Ho⟩
  isplitl [HB]; · iexact HB
  isplitl [Ho]; · iexact Ho
  iexact Hr

theorem waits (c : Dev nD) : (levAts L lv : sProp 𝕄) ⊢ Pipeline.cellsWaits cfgs (dats m) () 0 c :=
  Pipeline.cellsWaits_intro cfgs (dats m) () 0 c fun w s t =>
    mayWait_of 0 c _ (by fin_cases w <;> fin_cases s <;> exact (by decide +kernel : ∀ c : Dev nD, lv ((c : Thread nD τ), _) () ≤ 0) c) _ (by
      rcases t with ⟨_ | _, ht⟩
      · exact above_OB c 3
      · exact above_zero 0)

/-! ## The run -/

def finalA (c : Dev nD) (w : Fin cfg0.W) : Buf (Elt F) ((cfg0.win w).arr.view.loc (c : Thread nD τ)) := (dats m 0 c).arrAt w cfg0.N

theorem finalA_v1 (c : Dev nD) : finalA m c (3 : Fin 4) = outAll (argsOf m) c := by
  have h : ((cfg0.win (3 : Fin 4)).blk t0_0).view.read (Elt F) (finalA m c (3 : Fin 4)) = outAll (argsOf m) c := by
    unfold finalA
    rw [show cfg0.N = (t0_0 : Fin cfg0.N).val + 1 from rfl, (dats m 0 c).arrAt_succ (3 : Fin 4) t0_0, flush0_3 t0_0, if_pos rfl]
    exact View.read_write_univ _ _
  exact (read_w3 t0_0 _).symm.trans h

set_option maxRecDepth 8000 in
theorem run_windows : θ_run defs (onTc (τ := τ) (main (F := F))) ⟨m, fun _ => 0, ρ⟩ (fun r =>
    (∀ (c : Dev nD) (w : Fin cfg0.W), r.2.mem ((cfg0.win w).arr.view.loc (c : Thread nD τ)) = finalA m c w) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G (argsOf m)) (G' := G' (argsOf m)) (u₀ := u₀)
    (hu₀ := by
      unfold u₀
      iintro Hu
      ihave H := (ownU_pair _ _) $$ Hu
      icases H with ⟨HP, HX⟩
      imod (fund_mesh (argsOf m)) $$ HX with HG
      imodintro
      isplitl [HP]; · iexact HP
      iexact HG)
    (hglob := glob m)
    (hA := fun _ _ => rfl) (hpf := fun _ k => k.elim0)
    (X := start m) (Y := fun c => unscopedSems0 c) (Z := fun _ => iprop(emp))
    (hX := start_intro m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu]; · iexact Hu
      iexact HSI)
    (hQ := fun _ h hs => ⟨fun c w => (h c).1 w, sem_eq_zero hs fun c => (h c).2.2⟩)

/-- The run: the result, the arguments and the semaphores of every device. -/
theorem run_main : θ_run defs (onTc (τ := τ) (main (F := F))) ⟨m, fun _ => 0, ρ⟩ (fun r =>
    (∀ c : Dev nD, r.2.mem ((c : Thread nD τ).loc main_v1) = outAll (argsOf m) c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)) ∧ r.2.sem = fun _ => 0) :=
  (θ_run defs _ _).mono (fun r h => ⟨fun c =>
    ⟨(h.1 c (3 : Fin 4)).trans (finalA_v1 m c),
      (h.1 c (0 : Fin 4)).trans ((dats m 0 c).arrAt_in (0 : Fin 4) rfl _),
      (h.1 c (1 : Fin 4)).trans ((dats m 0 c).arrAt_in (1 : Fin 4) rfl _),
      (h.1 c (2 : Fin 4)).trans ((dats m 0 c).arrAt_in (2 : Fin 4) rfl _)⟩, h.2⟩) (run_windows m ρ)

end Cert.AllToAll

end
-- ==== Proof.Frames.lean ====
/-
# The frames

Every program runs, leaves its arguments as they were and its semaphores at zero, from any memory.
-/
module

public import proofs.«01_k».proof.Defs
public import proofs.«01_k».proof.Proof.Launch
public import proofs.«01_k».proof.Proof.Gen.Kernel
public import proofs.«01_k».proof.Proof.Gen.KernelIdeal
public import proofs.«01_k».proof.Proof.Gen.ReferenceIdeal
public import proofs.«01_k».proof.Proof.Gen.ReferenceIdeal.Run

@[expose] public section

noncomputable section

namespace Cert.AllToAll

open Idealize.ShloMosaic Idealize.SL.Sem

instance facts_pre_kernel : Cert.Pre_scores_finite_KernelIdeal.Facts := ⟨by decide, by decide, by decide⟩
instance facts_pre_reference : Cert.Pre_scores_finite_ReferenceIdeal.Facts := ⟨by decide, by decide, by decide⟩

/-- The run without its value. -/
theorem run_quiet {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0) :=
  (θ_run Cert.KernelIdeal.defs _ _).mono (fun _ h => ⟨fun c => (h.1 c).2, h.2⟩) (run_main m ρ)

set_option maxRecDepth 100000 in
/-- The two prints of the kernel have one body table. -/
theorem bodies_eq : Cert.Kernel.defs₀ (F := Bits) = Cert.KernelIdeal.defs₀ (F := Bits) :=
  congrArg Defs.onTc (funext fun b => funext fun a => by
    obtain ⟨b, hb⟩ := b
    obtain rfl : b = 0 := by omega
    obtain ⟨t, s⟩ := a
    rfl)

theorem tables_eq : Cert.Kernel.defs (F := Bits) = Cert.KernelIdeal.defs (F := Bits) :=
  congrArg (Pipeline.defs Cert.KernelIdeal.pcfgs) bodies_eq

set_option maxRecDepth 100000 in
theorem frame_kernel : Cert.quiescent_Kernel := fun m ρ _ => by
  have h := run_quiet (F := Bits) m ρ
  rw [← tables_eq] at h
  exact h

theorem frame_kernelIdeal : Cert.quiescent_KernelIdeal := fun m ρ _ => run_quiet (F := Ideal) m ρ

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_kernelIdeal_finite : Cert.quiescent_KernelIdeal_pre_scores_finite_KernelIdeal := fun m ρ _ => frame_kernelIdeal m ρ trivial
theorem frame_reference_finite : Cert.quiescent_ReferenceIdeal_pre_scores_finite_ReferenceIdeal := fun m ρ _ => frame_reference m ρ trivial

end Cert.AllToAll

end
-- ==== Proof.Payloads.lean ====
/-
# What the kernel's vector code computes, over the extended reals

The vector expressions of the kernel read at an index: exponentials of scaled scores, their sums, the weighted sums of values.
-/
module

public import proofs.«01_k».proof.Proof.Protocol
public import Idealize.ShloMosaic.PureOps.Ideal
public import Idealize.ShloMosaic.Lib.Pointwise

@[expose] public section

set_option maxRecDepth 16384

noncomputable section

namespace Cert.AllToAll

open Cert.KernelIdeal Cert.KernelIdeal.Gen
open Idealize.ShloMosaic
open scoped BigOperators

/-- The scale of the scores. -/
def scale : EReal := Ideal.ofBits .f32 0x3E000000#32

/-- The exponential of the scaled score of query row `s` and key row `k`. -/
def expo (q k : Fin 512 → Fin 64 → EReal) (s t : Fin 512) : EReal := Ideal.exp ((∑ j : Fin 64, q s j * k t j) * scale)

theorem pay1_apply (v : Vec Ideal S1x512x1x64 .f32) (s : Fin 512) (j : Fin 64) :
    k0_pay1 v (ix4 (n0 := 1) (n1 := 1) 0 0 s j) = v (ix4 (n0 := 1) (n2 := 1) 0 s 0 j) := by
  pointwise [k0_pay1]
theorem pay2_apply (v : Vec Ideal S1x512x1x64 .f32) (s : Fin 512) (j : Fin 64) :
    k0_pay2 v (ix4 (n0 := 1) (n1 := 1) 0 0 s j) = v (ix4 (n0 := 1) (n2 := 1) 0 s 0 j) := by
  pointwise [k0_pay2]
theorem pay54_apply (v : Vec Ideal S1x512x1x64 .f32) (s : Fin 512) (j : Fin 64) :
    k0_pay54 v (ix2 s j) = v (ix4 (n0 := 1) (n2 := 1) 0 s 0 j) := by
  pointwise [k0_pay54]

theorem pay21_apply (q k : Vec Ideal S1x512x1x64 .f32) (s t : Fin 512) :
    k0_pay21 q k (ix2 s t)
      = expo (fun s j => q (ix4 (n0 := 1) (n2 := 1) 0 s 0 j)) (fun s j => k (ix4 (n0 := 1) (n2 := 1) 0 s 0 j)) s t := by
  unfold expo scale
  pointwise [k0_pay21]
theorem pay55_apply (q : FVec Ideal S512x64 .bf16) (k : Vec Ideal S1x1x512x64 .bf16) (s t : Fin 512) :
    k0_pay55 q k (ix2 s t) = expo (fun s j => q (ix2 s j)) (fun s j => k (ix4 (n0 := 1) (n1 := 1) 0 0 s j)) s t := by
  unfold expo scale
  pointwise [k0_pay55]

theorem pay22_apply (q k : Vec Ideal S1x512x1x64 .f32) (s : Fin 512) :
    k0_pay22 q k (ix2 (n1 := 1) s 0)
      = ∑ t, expo (fun s j => q (ix4 (n0 := 1) (n2 := 1) 0 s 0 j)) (fun s j => k (ix4 (n0 := 1) (n2 := 1) 0 s 0 j)) s t := by
  simp only [← pay21_apply]
  pointwise [k0_pay22]
theorem pay23_apply (q k v : Vec Ideal S1x512x1x64 .f32) (s : Fin 512) (e : Fin 64) :
    k0_pay23 q k v (ix2 s e)
      = ∑ t, expo (fun s j => q (ix4 (n0 := 1) (n2 := 1) 0 s 0 j)) (fun s j => k (ix4 (n0 := 1) (n2 := 1) 0 s 0 j)) s t
          * v (ix4 (n0 := 1) (n2 := 1) 0 t 0 e) := by
  simp only [← pay21_apply]
  pointwise [k0_pay23]
theorem pay56_apply (q : FVec Ideal S512x64 .bf16) (k : Vec Ideal S1x1x512x64 .bf16) (l : Vec Ideal S512x1 .f32) (s : Fin 512) :
    k0_pay56 q k l (ix2 (n1 := 1) s 0)
      = l (ix2 (n1 := 1) s 0) + ∑ t, expo (fun s j => q (ix2 s j)) (fun s j => k (ix4 (n0 := 1) (n1 := 1) 0 0 s j)) s t := by
  simp only [← pay55_apply]
  pointwise [k0_pay56]
theorem pay57_apply (q : FVec Ideal S512x64 .bf16) (k v : Vec Ideal S1x1x512x64 .bf16) (a : Vec Ideal S512x64 .f32) (s : Fin 512) (e : Fin 64) :
    k0_pay57 q k v a (ix2 s e)
      = a (ix2 s e) + ∑ t, expo (fun s j => q (ix2 s j)) (fun s j => k (ix4 (n0 := 1) (n1 := 1) 0 0 s j)) s t
          * v (ix4 (n0 := 1) (n1 := 1) 0 0 t e) := by
  simp only [← pay55_apply]
  pointwise [k0_pay57]

theorem pay154_apply (a : Vec Ideal S512x64 .f32) (l : Vec Ideal S512x1 .f32) (s : Fin 512) (e : Fin 64) :
    k0_pay154 a l (ix2 s e) = Ideal.div (a (ix2 s e)) (l (ix2 (n1 := 1) s 0)) := by
  pointwise [k0_pay154]
theorem pay155_apply (a : Vec Ideal S512x64 .f32) (l : Vec Ideal S512x1 .f32) (s : Fin 512) (e : Fin 64) :
    k0_pay155 a l (ix4 (n0 := 1) (n2 := 1) 0 s 0 e) = Ideal.div (a (ix2 s e)) (l (ix2 (n1 := 1) s 0)) := by
  rw [← pay154_apply]
  pointwise [k0_pay155]
theorem pay156_apply (a : Vec Ideal S512x64 .f32) (l : Vec Ideal S512x1 .f32) (s : Fin 512) (e : Fin 64) :
    k0_pay156 a l (ix2 s e) = Ideal.div (a (ix2 s e)) (l (ix2 (n1 := 1) s 0)) := by
  rw [← pay154_apply]
  pointwise [k0_pay156]
theorem pay178_apply (v : Vec Ideal S512x64 .bf16) (s : Fin 512) (e : Fin 64) :
    k0_pay178 v (ix4 (n0 := 1) (n2 := 1) 0 s 0 e) = v (ix2 s e) := by
  pointwise [k0_pay178]

end Cert.AllToAll

end
-- ==== Proof.Value.lean ====
/-
# The kernel's value is softmax attention

Over the extended reals, with `Q K V` the whole arrays of which every device holds its block, the result block of a device holds
the weighted sums of `V` over all 2048 keys, divided by the sums of the weights. With finite scores that is the reference's value,
in which the weights are shifted by their maximum and divided before they are summed.
-/
module

public import proofs.«01_k».proof.Proof.Payloads
public import Idealize.ShloMosaic.Lib.Layout
public import Idealize.ShloMosaic.Lib.LayoutAt

@[expose] public section

set_option maxRecDepth 16384

noncomputable section

namespace Cert.AllToAll

open Cert.KernelIdeal Cert.KernelIdeal.Gen
open Idealize.ShloMosaic
open scoped BigOperators

/-- A whole array. -/
abbrev SW : Shape := ⟨4, ![2, 2048, 8, 64]⟩
abbrev Whole : Type := SW.Idx → EReal

/-- Row `s` of the part of place `y`, in the whole array. -/
def row (y : Fin 4) (s : Fin 512) : Fin 2048 := ⟨512 * y.val + s.val, by omega⟩

variable (Q K V : Whole)

/-- The scaled score of query row `r` and key row `t`, of batch `b` and head `h`. -/
def score (b : Fin 2) (h : Fin 8) (r t : Fin 2048) : EReal :=
  (∑ j : Fin 64, Q (ix4 b r h j) * K (ix4 b t h j)) * scale

/-- The sum of the weights of a query row, and the weighted sum of the values. -/
def den (b : Fin 2) (h : Fin 8) (r : Fin 2048) : EReal := ∑ t : Fin 2048, Ideal.exp (score Q K b h r t)
def num (b : Fin 2) (h : Fin 8) (r : Fin 2048) (e : Fin 64) : EReal :=
  ∑ t : Fin 2048, Ideal.exp (score Q K b h r t) * V (ix4 b t h e)

/-- The attention of the whole arrays. -/
def attention : Whole := fun i => Ideal.div (num Q K V (i 0) (i 2) (i 1) (i 3)) (den Q K (i 0) (i 2) (i 1))

/-! ## The key rows, part by part -/

theorem sum_rows (f : Fin 2048 → EReal) : ∑ t, f t = ∑ y : Fin 4, ∑ s : Fin 512, f (row y s) := by
  rw [← Fintype.sum_prod_type', ← (finProdFinEquiv (m := 4) (n := 512)).sum_comp f]
  refine Finset.sum_congr rfl fun x _ => congrArg f (Fin.ext ?_)
  show x.2.val + 512 * x.1.val = 512 * x.1.val + x.2.val
  omega

theorem places_distinct : ∀ c : Dev nD, yN c ≠ yN (peer 0 c) ∧ yN c ≠ yN (peer 1 c) ∧ yN c ≠ yN (peer 2 c)
    ∧ yN (peer 0 c) ≠ yN (peer 1 c) ∧ yN (peer 0 c) ≠ yN (peer 2 c) ∧ yN (peer 1 c) ≠ yN (peer 2 c)
    ∧ ({yN c, yN (peer 0 c), yN (peer 1 c), yN (peer 2 c)} : Finset (Fin 4)) = Finset.univ := by decide +kernel

/-- A device and its three peers are at the four places. -/
theorem sum_places (c : Dev nD) (g : Fin 4 → EReal) :
    ∑ y, g y = g (yN c) + g (yN (peer 0 c)) + g (yN (peer 1 c)) + g (yN (peer 2 c)) := by
  obtain ⟨h1, h2, h3, h4, h5, h6, h7⟩ := places_distinct c
  rw [← h7, Finset.sum_insert (by simp [h1, h2, h3]), Finset.sum_insert (by simp [h4, h5]), Finset.sum_insert (by simp [h6]),
    Finset.sum_singleton, add_assoc, add_assoc]

theorem xN_peer (k : Fin 3) (c : Dev nD) : xN (peer k c) = xN c := xN_atY _ _
theorem yN_mate : ∀ c : Dev nD, yN (mate c) = yN c := by decide +kernel

/-! ## The kernel's sums -/

variable (X : Blocks Ideal)

/-- Every device's blocks are its parts of the whole arrays. -/
structure Parts : Prop where
  q : ∀ (c : Dev nD) (b : Fin 2) (s : Fin 512) (h : Fin 8) (e : Fin 64), X 0 c (ix4 b s h e) = Q (ix4 b (row (yN c) s) h e)
  k : ∀ (c : Dev nD) (b : Fin 2) (s : Fin 512) (h : Fin 8) (e : Fin 64), X 1 c (ix4 b s h e) = K (ix4 b (row (yN c) s) h e)
  v : ∀ (c : Dev nD) (b : Fin 2) (s : Fin 512) (h : Fin 8) (e : Fin 64), X 2 c (ix4 b s h e) = V (ix4 b (row (yN c) s) h e)

variable {Q K V X} (hX : Parts Q K V X)

theorem rowT_apply (Y : S2x512x8x64.Idx → EReal) (b : Fin 2) (h : Fin 8) (s : Fin 512) (j : Fin 64) :
    rowT Y b h.val (ix4 (n0 := 1) (n2 := 1) 0 s 0 j) = Y (ix4 b s h j) :=
  congrArg Y (funext fun a => by
    match a with
    | ⟨0, _⟩ => rfl
    | ⟨1, _⟩ => rfl
    | ⟨2, _⟩ => exact Fin.ext (Nat.mod_eq_of_lt h.isLt)
    | ⟨3, _⟩ => rfl)

theorem kTile_apply (d : Dev nD) (h : Fin 8) (s : Fin 512) (j : Fin 64) :
    kvTile X d 0 h.val (ix4 (n0 := 1) (n1 := 1) 0 0 s j) = X 1 d (ix4 (xN d) s h j) := by
  unfold kvTile
  rw [if_pos rfl]
  exact (pay1_apply _ s j).trans (rowT_apply _ _ _ _ _)
theorem vTile_apply (d : Dev nD) (h : Fin 8) (s : Fin 512) (j : Fin 64) :
    kvTile X d 1 h.val (ix4 (n0 := 1) (n1 := 1) 0 0 s j) = X 2 d (ix4 (xN d) s h j) := by
  unfold kvTile
  rw [if_neg Nat.one_ne_zero]
  exact (pay2_apply _ s j).trans (rowT_apply _ _ _ _ _)
theorem qTile_apply (c : Dev nD) (h : Fin 8) (s : Fin 512) (j : Fin 64) :
    k0_pay54 (rowT (X 0 c) (xN c) h.val) (ix2 s j) = X 0 c (ix4 (xN c) s h j) :=
  (pay54_apply _ s j).trans (rowT_apply _ _ _ _ _)

/-- The contributions of the keys of place `y` to a query row of device `c`. -/
def denAt (Q K : Whole) (c : Dev nD) (h : Fin 8) (s : Fin 512) (y : Fin 4) : EReal :=
  ∑ t : Fin 512, Ideal.exp (score Q K (xN c) h (row (yN c) s) (row y t))
def numAt (Q K V : Whole) (c : Dev nD) (h : Fin 8) (s : Fin 512) (e : Fin 64) (y : Fin 4) : EReal :=
  ∑ t : Fin 512, Ideal.exp (score Q K (xN c) h (row (yN c) s) (row y t)) * V (ix4 (xN c) (row y t) h e)

include hX

theorem q_whole (c : Dev nD) (h : Fin 8) (s : Fin 512) (j : Fin 64) :
    k0_pay54 (rowT (X 0 c) (xN c) h.val) (ix2 s j) = Q (ix4 (xN c) (row (yN c) s) h j) :=
  (qTile_apply c h s j).trans (hX.q _ _ _ _ _)
theorem k_whole (c : Dev nD) (p : Fin 3) (h : Fin 8) (s : Fin 512) (j : Fin 64) :
    kvTile X (peer p c) 0 h.val (ix4 (n0 := 1) (n1 := 1) 0 0 s j) = K (ix4 (xN c) (row (yN (peer p c)) s) h j) := by
  rw [kTile_apply, hX.k, xN_peer]
theorem v_whole (c : Dev nD) (p : Fin 3) (h : Fin 8) (s : Fin 512) (j : Fin 64) :
    kvTile X (peer p c) 1 h.val (ix4 (n0 := 1) (n1 := 1) 0 0 s j) = V (ix4 (xN c) (row (yN (peer p c)) s) h j) := by
  rw [vTile_apply, hX.v, xN_peer]

theorem expo_peer (c : Dev nD) (p : Fin 3) (h : Fin 8) (s t : Fin 512) :
    expo (fun s j => k0_pay54 (rowT (X 0 c) (xN c) h.val) (ix2 s j)) (fun s j => kvTile X (peer p c) 0 h.val (ix4 (n0 := 1) (n1 := 1) 0 0 s j)) s t
      = Ideal.exp (score Q K (xN c) h (row (yN c) s) (row (yN (peer p c)) t)) :=
  congrArg (fun z => Ideal.exp (z * scale)) (Finset.sum_congr rfl fun j _ =>
    congrArg₂ (· * ·) (q_whole hX c h s j) (k_whole hX c p h t j))

theorem l_own (c : Dev nD) (h : Fin 8) (s : Fin 512) : lS X c 0 h.val (ix2 (n1 := 1) s 0) = denAt Q K c h s (yN c) := by
  refine (pay22_apply _ _ s).trans ?_
  unfold denAt expo score
  simp only [rowT_apply, hX.q, hX.k]
theorem a_own (c : Dev nD) (h : Fin 8) (s : Fin 512) (e : Fin 64) : aS X c 0 h.val (ix2 s e) = numAt Q K V c h s e (yN c) := by
  refine (pay23_apply _ _ _ s e).trans ?_
  unfold numAt expo score
  simp only [rowT_apply, hX.q, hX.k, hX.v]

theorem l_peer (c : Dev nD) (n : ℕ) (p : Fin 3) (hp : n % 3 = p.val) (h : Fin 8) (s : Fin 512) :
    lS X c (n + 1) h.val (ix2 (n1 := 1) s 0) = lS X c n h.val (ix2 (n1 := 1) s 0) + denAt Q K c h s (yN (peer p c)) := by
  obtain rfl : (⟨n % 3, Nat.mod_lt _ (by decide)⟩ : Fin 3) = p := Fin.ext hp
  exact (pay56_apply _ _ _ s).trans (congrArg _ (Finset.sum_congr rfl fun t _ => expo_peer hX c _ h s t))
theorem a_peer (c : Dev nD) (n : ℕ) (p : Fin 3) (hp : n % 3 = p.val) (h : Fin 8) (s : Fin 512) (e : Fin 64) :
    aS X c (n + 1) h.val (ix2 s e) = aS X c n h.val (ix2 s e) + numAt Q K V c h s e (yN (peer p c)) := by
  obtain rfl : (⟨n % 3, Nat.mod_lt _ (by decide)⟩ : Fin 3) = p := Fin.ext hp
  exact (pay57_apply _ _ _ _ s e).trans (congrArg _ (Finset.sum_congr rfl fun t _ =>
    congrArg₂ (· * ·) (expo_peer hX c _ h s t) (v_whole hX c _ h t e)))

theorem l_all (c : Dev nD) (h : Fin 8) (s : Fin 512) :
    lS X c 3 h.val (ix2 (n1 := 1) s 0) = den Q K (xN c) h (row (yN c) s) := by
  rw [l_peer hX c 2 2 rfl, l_peer hX c 1 1 rfl, l_peer hX c 0 0 rfl, l_own hX]
  unfold den
  rw [sum_rows]
  exact (sum_places c (denAt Q K c h s)).symm
theorem a_all (c : Dev nD) (h : Fin 8) (s : Fin 512) (e : Fin 64) :
    aS X c 3 h.val (ix2 s e) = num Q K V (xN c) h (row (yN c) s) e := by
  rw [a_peer hX c 2 2 rfl, a_peer hX c 1 1 rfl, a_peer hX c 0 0 rfl, a_own hX]
  unfold num
  rw [sum_rows]
  exact (sum_places c (numAt Q K V c h s e)).symm

theorem out_own (c : Dev nD) (h : Fin 8) (s : Fin 512) (e : Fin 64) :
    outT X c h.val (ix4 (n0 := 1) (n2 := 1) 0 s 0 e) = attention Q K V (ix4 (xN c) (row (yN c) s) h e) := by
  refine (pay155_apply _ _ s e).trans ?_
  rw [l_all hX, a_all hX]; rfl

theorem out_other (c : Dev nD) (h : Fin 8) (s : Fin 512) (e : Fin 64) :
    otherT X c h.val (ix4 (n0 := 1) (n2 := 1) 0 s 0 e) = attention Q K V (ix4 (xN (mate c)) (row (yN c) s) h e) := by
  refine ((pay178_apply _ s e).trans (pay156_apply _ _ s e)).trans ?_
  rw [l_all hX, a_all hX, yN_mate]; rfl

/-- The result block of every device is its part of the attention of the whole arrays. -/
theorem out_attention (c : Dev nD) (b : Fin 2) (s : Fin 512) (h : Fin 8) (e : Fin 64) :
    outAll X c (ix4 b s h e) = attention Q K V (ix4 b (row (yN c) s) h e) := by
  by_cases hb : b = xN c
  · subst hb
    refine Eq.trans ?_ (out_own hX c h s e)
    show (if (xN c).val = (xN c).val then outT X c else otherT X c) h.val (ix4 (n0 := 1) (n2 := 1) 0 s 0 e) = _
    rw [if_pos rfl]
  · have hv : b.val ≠ (xN c).val := fun h => hb (Fin.ext h)
    obtain rfl : b = xN (mate c) := Fin.ext (by
      have h1 := xN_mate c
      have h2 := (xN c).isLt
      have h3 := b.isLt
      omega)
    refine Eq.trans ?_ (out_other hX c h s e)
    show (if (xN (mate c)).val = (xN c).val then outT X c else otherT X c) h.val (ix4 (n0 := 1) (n2 := 1) 0 s 0 e) = _
    rw [if_neg hv]

end Cert.AllToAll

end
-- ==== Proof.Reference.lean ====
/-
# The reference's value

The reference's composed term, read at an index, is `attention` where the scores are finite.
-/
module

public import proofs.«01_k».proof.Proof.Value
public import proofs.«01_k».proof.Proof.Gen.ReferenceIdeal
public import Idealize.ShloMosaic.PureOps.Ideal
public import Idealize.ShloMosaic.Lib.Pointwise

@[expose] public section

set_option maxRecDepth 16384

noncomputable section

namespace Cert.AllToAll.Ref

open Cert.ReferenceIdeal Cert.ReferenceIdeal.Gen
open Idealize.ShloMosaic
open scoped BigOperators

/-- A whole array of queries, keys or values. -/
abbrev Arr : Type := FVec Ideal S2x2048x8x64 .f32
/-- One number for every batch, head, query row and key row. -/
abbrev Scores : Type := FVec Ideal S2x8x2048x2048 .f32

/-! ## The reference's term in pieces -/

/-- The scaled products of the queries with the keys. -/
def scores (Q K : Arr) : Scores :=
  mulf (Host.dotGeneral dot_S2x2048x8x64_S2x2048x8x64_S2x8x2048x2048_3_3_1_1_02_02 none Q K)
    (broadcastInDim S2x8x2048x2048 ![] bcast_S_S2x8x2048x2048 (constant S_ .f32 0x3E000000#32))
/-- One number for every query row, repeated along the key rows. -/
def along (x : FVec Ideal S2x8x2048 .f32) : Scores :=
  broadcastInDim S2x8x2048x2048 ![0, 1, 2, 3] bcast_S2x8x2048x1_S2x8x2048x2048_0_1_2_3
    (broadcastInDim S2x8x2048x1 ![0, 1, 2] bcast_S2x8x2048_S2x8x2048x1_0_1_2 x)
/-- The greatest score of every query row. -/
def most (S : Scores) : FVec Ideal S2x8x2048 .f32 :=
  Host.reduce FloatOps.maximumf S (constant S_ .f32 0xFF800000#32) reducesTo_S2x8x2048x2048_S2x8x2048_d3 h_S_
/-- The sum over the key rows. -/
def total (E : Scores) : FVec Ideal S2x8x2048 .f32 :=
  Host.reduceAdd E (constant S_ .f32 0x00000000#32) reducesTo_S2x8x2048x2048_S2x8x2048_d3 h_S_
/-- The exponentials of the scores, the greatest of the row taken away. -/
def weights (S : Scores) : Scores := Host.exp (subf S (along (most S)))
/-- The exponentials divided by their sum. -/
def shares (S : Scores) : Scores := Host.divf (weights S) (along (total (weights S)))
/-- The values, each key row weighed by its share. -/
def mixed (P : Scores) (V : Arr) : Arr :=
  transpose S2x2048x8x64 [0, 3, 1, 2] (Host.dotGeneral dot_S2x2048x8x64_S2x8x2048x2048_S2x8x64x2048_1_3_3_2_02_01 none V P)
    transposes_S2x8x64x2048_S2x2048x8x64_0_3_1_2

/-- A score of the reference is `score`. -/
theorem scores_apply (Q K : Arr) (b : Fin 2) (h : Fin 8) (r t : Fin 2048) :
    scores Q K (ix4 b h r t) = score Q K b h r t := by
  unfold score scale
  pointwise [scores]
/-- Read at an index, the repeated number is the row's. -/
theorem along_apply (x : FVec Ideal S2x8x2048 .f32) (b : Fin 2) (h : Fin 8) (r t : Fin 2048) :
    along x (ix4 b h r t) = x (ix3 b h r) := by
  pointwise [along]
/-- The greatest score is the fold of `max` over the key rows. -/
theorem most_apply (S : Scores) (b : Fin 2) (h : Fin 8) (r : Fin 2048) :
    most S (ix3 b h r) = Finset.univ.fold max (Ideal.ofBits .f32 0xFF800000#32) fun t : Fin 2048 => S (ix4 b h r t) := by
  pointwise [most]
/-- The sum, read at a row. -/
theorem total_apply (E : Scores) (b : Fin 2) (h : Fin 8) (r : Fin 2048) :
    total E (ix3 b h r) = ∑ t : Fin 2048, E (ix4 b h r t) := by
  pointwise [total]
/-- An exponential, read at an index. -/
theorem weights_apply (S : Scores) (b : Fin 2) (h : Fin 8) (r t : Fin 2048) :
    weights S (ix4 b h r t) = Ideal.exp (S (ix4 b h r t) - most S (ix3 b h r)) := by
  rw [← along_apply (most S) b h r t]
  pointwise [weights]
/-- A share, read at an index. -/
theorem shares_apply (S : Scores) (b : Fin 2) (h : Fin 8) (r t : Fin 2048) :
    shares S (ix4 b h r t) = Ideal.div (weights S (ix4 b h r t)) (total (weights S) (ix3 b h r)) := by
  rw [← along_apply (total (weights S)) b h r t]
  pointwise [shares]
/-- The result, read at an index. -/
theorem mixed_apply (P : Scores) (V : Arr) (b : Fin 2) (r : Fin 2048) (h : Fin 8) (e : Fin 64) :
    mixed P V (ix4 b r h e) = ∑ t : Fin 2048, V (ix4 b t h e) * P (ix4 b h r t) := by
  pointwise [mixed]

/-! ## Extended reals that are real

Where every score is real, the weights are the same quotients of real exponentials whether or not the greatest score of the
row is taken away first. The values are never asked to be real: a nonnegative real factor distributes over any sum. -/

/-- A sum of reals is real. -/
theorem sum_coe {n : Nat} (f : Fin n → ℝ) : (∑ t, (f t : EReal)) = ((∑ t, f t : ℝ) : EReal) := by
  refine Finset.induction_on (Finset.univ : Finset (Fin n)) (by simp) ?_
  intro a S ha ih
  rw [Finset.sum_insert ha, Finset.sum_insert ha, ih, EReal.coe_add]

/-- A nonnegative real factor goes into a sum of any extended reals. -/
theorem mul_sum_real {n : Nat} (x : ℝ) (hx : 0 ≤ x) (f : Fin n → EReal) : (x : EReal) * ∑ t, f t = ∑ t, (x : EReal) * f t := by
  refine Finset.induction_on (Finset.univ : Finset (Fin n)) (by simp) ?_
  intro a S ha ih
  rw [Finset.sum_insert ha, Finset.sum_insert ha, ← ih,
    EReal.left_distrib_of_nonneg_of_ne_top (by exact_mod_cast hx) (EReal.coe_ne_top x)]

/-- The greatest of one or more reals is real. -/
theorem fold_max_coe {n : Nat} (f : Fin (n + 1) → ℝ) :
    ∃ m : ℝ, (Finset.univ.fold max (⊥ : EReal) fun t => (f t : EReal)) = m := by
  have key : ∀ S : Finset (Fin (n + 1)), S = ∅ ∨ ∃ m : ℝ, (S.fold max (⊥ : EReal) fun t => (f t : EReal)) = m := by
    intro S
    refine Finset.induction_on S (Or.inl rfl) ?_
    intro a S ha ih
    refine Or.inr ?_
    rw [Finset.fold_insert ha]
    rcases ih with rfl | ⟨m, hm⟩
    · exact ⟨f a, by simp⟩
    · exact ⟨max (f a) m, by rw [hm]; exact (EReal.coe_strictMono.monotone.map_max).symm⟩
  rcases key Finset.univ with h | h
  · exact absurd h Finset.univ_nonempty.ne_empty
  · exact h

/-- Division of a real by a real other than zero. -/
theorem div_coe (a T : ℝ) (hT : T ≠ 0) : Ideal.div (a : EReal) (T : EReal) = ((a / T : ℝ) : EReal) := by
  unfold Ideal.div
  rw [if_neg (by exact_mod_cast hT), div_eq_mul_inv, EReal.coe_mul, EReal.coe_inv]

/-- What is taken away from every score leaves the quotient as it was. -/
theorem shift_cancels {n : Nat} (s : Fin (n + 1) → ℝ) (m : ℝ) (t : Fin (n + 1)) :
    Real.exp (s t - m) / ∑ u, Real.exp (s u - m) = (∑ u, Real.exp (s u))⁻¹ * Real.exp (s t) := by
  have h : ∀ u, Real.exp (s u - m) = Real.exp (s u) * Real.exp (-m) := fun u => by rw [← Real.exp_add, sub_eq_add_neg]
  simp only [h]
  rw [← Finset.sum_mul, mul_div_mul_right _ _ (Real.exp_pos _).ne', div_eq_mul_inv, mul_comm]

/-- A sum of exponentials is positive. -/
theorem sum_exp_pos {n : Nat} (s : Fin (n + 1) → ℝ) : 0 < ∑ u, Real.exp (s u) :=
  Finset.sum_pos (fun u _ => Real.exp_pos _) Finset.univ_nonempty

/-- Softmax of real scores against any values, with and without the greatest score taken away. -/
theorem softmax_real {n : Nat} (s : Fin (n + 1) → ℝ) (m : ℝ) (v : Fin (n + 1) → EReal) :
    (∑ t, v t * Ideal.div (Ideal.exp ((s t : EReal) - m)) (∑ u, Ideal.exp ((s u : EReal) - m)))
      = Ideal.div (∑ t, Ideal.exp (s t : EReal) * v t) (∑ t, Ideal.exp (s t : EReal)) := by
  simp only [← EReal.coe_sub, Ideal.exp_coe, sum_coe]
  have hE := sum_exp_pos s
  have hT := sum_exp_pos fun t => s t - m
  rw [show ∀ x : EReal, Ideal.div x ((∑ t, Real.exp (s t) : ℝ) : EReal) = (((∑ t, Real.exp (s t))⁻¹ : ℝ) : EReal) * x from
      fun x => by
        unfold Ideal.div
        rw [if_neg (by exact_mod_cast hE.ne'), mul_comm, EReal.coe_inv],
    mul_sum_real _ (inv_nonneg.2 hE.le)]
  refine Finset.sum_congr rfl fun t _ => ?_
  rw [div_coe _ _ hT.ne', shift_cancels, EReal.coe_mul, mul_comm, mul_assoc]

/-! ## The reference is `attention` -/

/-- Every entry is a real number. -/
def Reals (A : Arr) : Prop := ∀ i, ∃ x : ℝ, A i = (x : EReal)

/-- The scale, one eighth, is real. -/
theorem scale_real : ∃ x : ℝ, scale = (x : EReal) := by
  unfold scale
  exact ⟨1 / 8, by simp [Ideal.ofBits, Ideal.ieee, -EReal.coe_mul]; norm_num⟩

/-- Real queries and keys have real scores. -/
theorem score_real {Q K : Arr} (hQ : Reals Q) (hK : Reals K) (b : Fin 2) (h : Fin 8) (r t : Fin 2048) :
    ∃ x : ℝ, score Q K b h r t = (x : EReal) := by
  choose q hq using hQ
  choose k hk using hK
  obtain ⟨c, hc⟩ := scale_real
  refine ⟨(∑ j : Fin 64, q (ix4 b r h j) * k (ix4 b t h j)) * c, ?_⟩
  unfold score
  simp only [hq, hk, hc, ← EReal.coe_mul, sum_coe]

/-- With real queries and keys, whatever the values, the reference's result is `attention`. -/
theorem reference_attention {Q K : Arr} (hQ : Reals Q) (hK : Reals K) (V : Arr) :
    mixed (shares (scores Q K)) V = attention Q K V := by
  funext i
  obtain ⟨b, r, h, e, rfl⟩ : ∃ (b : Fin 2) (r : Fin 2048) (h : Fin 8) (e : Fin 64), i = ix4 b r h e :=
    ⟨i 0, i 1, i 2, i 3, eq_ix4 i⟩
  choose s hs using fun t => score_real hQ hK b h r t
  have hbot : Ideal.ofBits .f32 0xFF800000#32 = (⊥ : EReal) := by simp [Ideal.ofBits, Ideal.ieee]
  obtain ⟨m, hm⟩ := fold_max_coe (n := 2047) s
  have hM : most (scores Q K) (ix3 b h r) = (m : EReal) := by
    rw [most_apply, hbot]
    simp only [scores_apply, hs]
    exact hm
  rw [mixed_apply]
  simp only [shares_apply, total_apply, weights_apply, hM, scores_apply, hs]
  refine (softmax_real (n := 2047) s m fun t => V (ix4 b t h e)).trans ?_
  show _ = Ideal.div (∑ t, Ideal.exp (score Q K b h r t) * V (ix4 b t h e)) (∑ t, Ideal.exp (score Q K b h r t))
  simp only [hs]

end Cert.AllToAll.Ref

end
-- ==== Proof.Algebraic.lean ====
/-
# The kernel computes the reference

Under the precondition every entry of the queries and of the keys is real, so the reference's value is `attention` of the whole
arrays, of which every device leaves its own part.
-/
module

public import proofs.«01_k».proof.Proof.Frames
public import proofs.«01_k».proof.Proof.Reference
public import Idealize.ShloMosaic.Lib.ReduceAll

@[expose] public section

set_option maxRecDepth 16384

noncomputable section

namespace Cert.AllToAll

open Idealize.ShloMosaic Idealize.SL.Sem

/-- Where an entry of a device's block stands in the whole array. -/
theorem block_apply (W : Whole) (c : Dev Cert.KernelIdeal.nD) (b : Fin 2) (s : Fin 512) (h : Fin 8) (e : Fin 64) :
    (Layout.blockN ⟨4, ![2, 512, 8, 64]⟩ ⟨4, ![2, 2048, 8, 64]⟩ (Layout.meshBlock [2, 4, 4] ![[], [1], [], []] c) W) (ix4 b s h e)
      = W (ix4 b (row (yN c) s) h e) := by
  have hy : ((Layout.meshBlock [2, 4, 4] (![[], [1], [], []] : Fin 4 → List Nat) c) 1).val = (yN c).val :=
    (by decide +kernel : ∀ c : Dev Cert.KernelIdeal.nD,
      ((Layout.meshBlock [2, 4, 4] (![[], [1], [], []] : Fin 4 → List Nat) c) 1).val = (yN c).val) c
  rw [Layout.blockN_apply]
  refine congrArg W (funext fun a => Fin.ext ?_)
  match a with
  | ⟨0, _⟩ => exact Nat.zero_add b.val
  | ⟨1, _⟩ =>
    show ((Layout.meshBlock [2, 4, 4] (![[], [1], [], []] : Fin 4 → List Nat) c) 1).val * 512 + s.val = 512 * (yN c).val + s.val
    rw [hy, Nat.mul_comm]
  | ⟨2, _⟩ => exact Nat.zero_add h.val
  | ⟨3, _⟩ => exact Nat.zero_add e.val

/-- Every entry of the whole array lies in some device's block. -/
theorem row_onto (t : Fin 2048) : ∃ (c : Dev Cert.KernelIdeal.nD) (s : Fin 512), t = row (yN c) s := by
  have ht := t.isLt
  refine ⟨⟨4 * (t.val / 512), show _ < 32 by omega⟩, ⟨t.val % 512, Nat.mod_lt _ (by decide)⟩, Fin.ext ?_⟩
  show t.val = 512 * (4 * (t.val / 512) / 4 % 4) + t.val % 512
  omega

/-! ## The precondition read back -/

/-- A number whose absolute value is below infinity is real. -/
theorem real_of_abs_lt_top (x : EReal) (h : max x (-x) < ⊤) : ∃ r : ℝ, x = (r : EReal) := by
  induction x with
  | bot => exact absurd h (by simp)
  | top => exact absurd h (by simp)
  | coe r => exact ⟨r, rfl⟩

/-- An array that the precondition's test passes has real entries alone. -/
theorem reals_of_finite (A : FVec Ideal Cert.Pre_scores_finite_KernelIdeal.S2x512x8x64 .f32)
    (h : Host.reduce IntOp.andi
      (cmpf .olt (Host.absf A) (broadcastInDim Cert.Pre_scores_finite_KernelIdeal.S2x512x8x64 ![]
        Cert.Pre_scores_finite_KernelIdeal.Facts.bcast_S_S2x512x8x64 (constant Cert.Pre_scores_finite_KernelIdeal.S_ .f32 0x7F800000#32)))
      (constantI Cert.Pre_scores_finite_KernelIdeal.S_ 1 1#1)
      Cert.Pre_scores_finite_KernelIdeal.Facts.reducesTo_S2x512x8x64_S_d0_1_2_3
      Cert.Pre_scores_finite_KernelIdeal.Facts.h_S_ (fun a => a.elim0) = 1#1)
    (i : Cert.Pre_scores_finite_KernelIdeal.S2x512x8x64.Idx) : ∃ r : ℝ, A i = (r : EReal) := by
  haveI : Subsingleton Cert.Pre_scores_finite_KernelIdeal.S_.Idx := ⟨fun a b => funext fun k => k.elim0⟩
  have h1 := Host.reduce_andi_all _ _ _ _ _ h i
  have htop : Ideal.ofBits .f32 0x7F800000#32 = (⊤ : EReal) := by simp [Ideal.ofBits, Ideal.ieee]
  have h2 : BitVec.ofBool (decide (max (A i) (-(A i)) < Ideal.ofBits .f32 0x7F800000#32)) = 1#1 := h1
  rw [htop] at h2
  refine real_of_abs_lt_top _ (of_decide_eq_true ?_)
  revert h2
  cases decide (max (A i) (-(A i)) < ⊤) <;> decide

/-- The precondition of one device says that its queries and its keys are real. -/
theorem reals_of_pre (A B C : FVec Ideal Cert.Pre_scores_finite_KernelIdeal.S2x512x8x64 .f32)
    (h : Cert.Pre_scores_finite_KernelIdeal.fn (F := Ideal) A B C = fun _ => 1#1) :
    (∀ i, ∃ r : ℝ, A i = (r : EReal)) ∧ (∀ i, ∃ r : ℝ, B i = (r : EReal)) := by
  have h0 := IntOp.andi_eq_one.1 (congrFun h fun a => a.elim0)
  exact ⟨reals_of_finite A h0.1, reals_of_finite B h0.2⟩

/-- Blocks that are real make the whole array real. -/
theorem whole_reals (W : Whole) (X : Dev Cert.KernelIdeal.nD → Cert.Pre_scores_finite_KernelIdeal.S2x512x8x64.Idx → EReal)
    (hX : ∀ c b s h e, X c (ix4 b s h e) = W (ix4 b (row (yN c) s) h e)) (hr : ∀ c i, ∃ r : ℝ, X c i = (r : EReal)) : Ref.Reals W := by
  intro i
  obtain ⟨b, t, h, e, rfl⟩ : ∃ (b : Fin 2) (t : Fin 2048) (h : Fin 8) (e : Fin 64), i = ix4 b t h e :=
    ⟨i 0, i 1, i 2, i 3, eq_ix4 i⟩
  obtain ⟨c, s, rfl⟩ := row_onto t
  rw [← hX]
  exact hr c _

/-! ## The value claim -/

/-- From any memory whose queries and keys are finite, every device of the kernel ends with its part of the reference's result. -/
theorem algebraic : Cert.algebraic_KernelIdeal_ReferenceIdeal_pre_scores_finite_KernelIdeal := by
  intro m g m' g' hpre hin
  have hP : Parts (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2)) (argsOf m) :=
    ⟨fun c b s h e => (congrFun (hin c).1 _).trans (block_apply _ c b s h e),
      fun c b s h e => (congrFun (hin c).2.1 _).trans (block_apply _ c b s h e),
      fun c b s h e => (congrFun (hin c).2.2 _).trans (block_apply _ c b s h e)⟩
  have hQ := whole_reals _ _ hP.q fun c => (reals_of_pre _ _ _ (hpre c)).1
  have hK := whole_reals _ _ hP.k fun c => (reals_of_pre _ _ _ (hpre c)).2
  refine ⟨attention _ _ _, (θ_run Cert.KernelIdeal.defs _ _).mono (fun r hr c => ⟨(hr.1 c).1.trans ?_, (hr.1 c).2⟩) (run_main m g),
    (θ_run Cert.ReferenceIdeal.defs _ _).mono (fun r hr => ⟨(hr 0).1.trans (Ref.reference_attention hQ hK _), (hr 0).2⟩)
      (Cert.ReferenceIdeal.Value.run (F := Ideal) m' g')⟩
  funext i
  obtain ⟨b, s, h, e, rfl⟩ : ∃ (b : Fin 2) (s : Fin 512) (h : Fin 8) (e : Fin 64), i = ix4 b s h e :=
    ⟨i 0, i 1, i 2, i 3, eq_ix4 i⟩
  exact (out_attention hP c b s h e).trans (block_apply _ c b s h e).symm

end Cert.AllToAll

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Algebraic
public import Idealize.ShloMosaic.Adequacy
public import Idealize.ShloMosaic.Init

@[expose] public section

noncomputable section

namespace Cert.Proof

open Idealize.ShloMosaic Idealize.SL.Sem Cert.Kernel

open Cert.AllToAll in
theorem claim : Cert.Claim :=
  ⟨Cert.Kernel.Gen.facts, Cert.KernelIdeal.Gen.facts, Cert.ReferenceIdeal.Gen.facts, facts_pre_kernel, facts_pre_reference,
    frame_kernel, frame_kernelIdeal, frame_kernelIdeal_finite, frame_reference, frame_reference_finite, trivial, algebraic⟩

end Cert.Proof

end
